-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scales_positive [hPre_scales_positive : Cert.Pre_scales_positive.Facts] (m : (ℓ : Loc Cert.KernelIdeal.nD Cert.KernelIdeal.τ Cert.KernelIdeal.sig) → Buf (Elt Ideal) ℓ) : Prop :=
  ∀ c : Dev Cert.KernelIdeal.nD,
    (Cert.Pre_scales_positive.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scales_positive [hPre_scales_positive : Cert.Pre_scales_positive.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scales_positive.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_scales_positive [hKernelIdeal : Cert.KernelIdeal.Facts] [hPre_scales_positive : Cert.Pre_scales_positive.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scales_positive m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_scales_positive [hReferenceIdeal : Cert.ReferenceIdeal.Facts] [hPre_scales_positive : Cert.Pre_scales_positive.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scales_positive m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  IdealRules.named_const.Statement Cert.KernelIdeal.κ "log2_e" .f32 0x3FB8AA3B#32 (((Real.log 2)⁻¹ : ℝ) : EReal)

def algebraic_KernelIdeal_ReferenceIdeal_pre_scales_positive [hKernelIdeal : Cert.KernelIdeal.Facts] [hReferenceIdeal : Cert.ReferenceIdeal.Facts] [hPre_scales_positive : Cert.Pre_scales_positive.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scales_positive m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v22_0)) (v1 : (c : Dev Cert.KernelIdeal.nD) → Buf (Elt Ideal) ((c.tc : Thread Cert.KernelIdeal.nD Cert.KernelIdeal.τ).loc Cert.KernelIdeal.main_v22_1)) (v2 : (c : Dev Cert.KernelIdeal.nD) → Buf (Elt Ideal) ((c.tc : Thread Cert.KernelIdeal.nD Cert.KernelIdeal.τ).loc Cert.KernelIdeal.main_v22_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22_0) = v0 c
          ∧ r.2.mem ((c.tc : Thread Cert.KernelIdeal.nD Cert.KernelIdeal.τ).loc Cert.KernelIdeal.main_v22_1) = v1 c
          ∧ r.2.mem ((c.tc : Thread Cert.KernelIdeal.nD Cert.KernelIdeal.τ).loc Cert.KernelIdeal.main_v22_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_v65) = v1 c
          ∧ r.2.mem ((c.tc : Thread Cert.ReferenceIdeal.nD Cert.ReferenceIdeal.τ).loc Cert.ReferenceIdeal.main_v66) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_scales_positive : Cert.Pre_scales_positive.Facts),
    quiescent_Kernel (hKernel := hKernel)
    ∧ quiescent_KernelIdeal (hKernelIdeal := hKernelIdeal)
    ∧ quiescent_KernelIdeal_pre_scales_positive (hKernelIdeal := hKernelIdeal) (hPre_scales_positive := hPre_scales_positive)
    ∧ quiescent_ReferenceIdeal (hReferenceIdeal := hReferenceIdeal)
    ∧ quiescent_ReferenceIdeal_pre_scales_positive (hReferenceIdeal := hReferenceIdeal) (hPre_scales_positive := hPre_scales_positive)
    ∧ preserves_Kernel_KernelIdeal
    ∧ algebraic_KernelIdeal_ReferenceIdeal_pre_scales_positive (hKernelIdeal := hKernelIdeal) (hReferenceIdeal := hReferenceIdeal) (hPre_scales_positive := hPre_scales_positive)
-- ==== Pre_scales_positive.lean ====
abbrev S3x640x32x576 : Shape := ⟨4, ![3, 640, 32, 576]⟩
abbrev S3x640x32 : Shape := ⟨3, ![3, 640, 32]⟩
abbrev S3x640x512 : Shape := ⟨3, ![3, 640, 512]⟩
abbrev S3x640 : Shape := ⟨2, ![3, 640]⟩
abbrev S3x640x64 : Shape := ⟨3, ![3, 640, 64]⟩
abbrev S3x640x32x512 : Shape := ⟨4, ![3, 640, 32, 512]⟩
abbrev S_ : Shape := ⟨0, ![]⟩

class Facts : Prop where
  bcast_S_S3x640x32 : S_.BroadcastsInDim S3x640x32 (![] : Fin 0 → Fin S3x640x32.rank)
  reducesTo_S3x640x32_S_d0_1_2 : S3x640x32.ReducesTo [0, 1, 2] S_
  h_S_ : 0 < S_.numel
  bcast_S_S3x640 : S_.BroadcastsInDim S3x640 (![] : Fin 0 → Fin S3x640.rank)
  reducesTo_S3x640_S_d0_1 : S3x640.ReducesTo [0, 1] S_

variable [Facts]

def fn_part1 {F : FTy → Type} [FloatOps F] (main_arg8 : FVec F S3x640 .f32) (main_v12 : IVec S_ 1) (main_v14 : IVec S3x640 1) (main_v15 : FVec F S3x640 .f32) : IVec S_ 1 :=
  let main_v16 : IVec S3x640 1 := cmpf .olt main_arg8 main_v15
  let main_v17 : IVec S3x640 1 := andi main_v14 main_v16
  let main_c_6 : IVec S_ 1 := constantI S_ 1 1#1
  let main_v18 : IVec S_ 1 := (fun x v => Host.reduce IntOp.andi x v reducesTo_S3x640_S_d0_1 h_S_) main_v17 main_c_6
  let main_v19 : IVec S_ 1 := andi main_v12 main_v18
  main_v19

def fn {F : FTy → Type} [FloatOps F] (main_arg0 : FVec F S3x640x32x576 .fp8e4m3) (main_arg1 : FVec F S3x640x32 .f32) (main_arg2 : FVec F S3x640x512 .fp8e4m3) (main_arg3 : FVec F S3x640 .f32) (main_arg4 : FVec F S3x640x64 .bf16) (main_arg5 : FVec F S3x640x32x512 .bf16) (main_arg6 : FVec F S3x640x32 .f32) (main_arg7 : FVec F S3x640x32x512 .fp8e5m2) (main_arg8 : FVec F S3x640 .f32) : IVec S_ 1 :=
  let main_cst : FVec F S_ .f32 := constant S_ .f32 0x00000000#32
  let main_v0 : FVec F S3x640x32 .f32 := broadcastInDim S3x640x32 ![] bcast_S_S3x640x32 main_cst
  let main_v1 : IVec S3x640x32 1 := cmpf .ogt main_arg1 main_v0
  let main_cst_0 : FVec F S_ .f32 := constant S_ .f32 0x7F800000#32
  let main_v2 : FVec F S3x640x32 .f32 := broadcastInDim S3x640x32 ![] bcast_S_S3x640x32 main_cst_0
  let main_v3 : IVec S3x640x32 1 := cmpf .olt main_arg1 main_v2
  let main_v4 : IVec S3x640x32 1 := andi main_v1 main_v3
  let main_c : IVec S_ 1 := constantI S_ 1 1#1
  let main_v5 : IVec S_ 1 := (fun x v => Host.reduce IntOp.andi x v reducesTo_S3x640x32_S_d0_1_2 h_S_) main_v4 main_c
  let main_cst_1 : FVec F S_ .f32 := constant S_ .f32 0x00000000#32
  let main_v6 : FVec F S3x640 .f32 := broadcastInDim S3x640 ![] bcast_S_S3x640 main_cst_1
  let main_v7 : IVec S3x640 1 := cmpf .ogt main_arg3 main_v6
  let main_cst_2 : FVec F S_ .f32 := constant S_ .f32 0x7F800000#32
  let main_v8 : FVec F S3x640 .f32 := broadcastInDim S3x640 ![] bcast_S_S3x640 main_cst_2
  let main_v9 : IVec S3x640 1 := cmpf .olt main_arg3 main_v8
  let main_v10 : IVec S3x640 1 := andi main_v7 main_v9
  let main_c_3 : IVec S_ 1 := constantI S_ 1 1#1
  let main_v11 : IVec S_ 1 := (fun x v => Host.reduce IntOp.andi x v reducesTo_S3x640_S_d0_1 h_S_) main_v10 main_c_3
  let main_v12 : IVec S_ 1 := andi main_v5 main_v11
  let main_cst_4 : FVec F S_ .f32 := constant S_ .f32 0x00000000#32
  let main_v13 : FVec F S3x640 .f32 := broadcastInDim S3x640 ![] bcast_S_S3x640 main_cst_4
  let main_v14 : IVec S3x640 1 := cmpf .ogt main_arg8 main_v13
  let main_cst_5 : FVec F S_ .f32 := constant S_ .f32 0x7F800000#32
  let main_v15 : FVec F S3x640 .f32 := broadcastInDim S3x640 ![] bcast_S_S3x640 main_cst_5
  fn_part1 (F := F) main_arg8 main_v12 main_v14 main_v15
-- ==== Kernel.lean ====
abbrev S3x640x32x576 : Shape := ⟨4, ![3, 640, 32, 576]⟩
abbrev S3x640x32 : Shape := ⟨3, ![3, 640, 32]⟩
abbrev S3x640x512 : Shape := ⟨3, ![3, 640, 512]⟩
abbrev S3x640 : Shape := ⟨2, ![3, 640]⟩
abbrev S3x640x64 : Shape := ⟨3, ![3, 640, 64]⟩
abbrev S3x640x32x512 : Shape := ⟨4, ![3, 640, 32, 512]⟩
abbrev S3x640x1 : Shape := ⟨3, ![3, 640, 1]⟩
abbrev S_ : Shape := ⟨0, ![]⟩
abbrev S1x3x640x32 : Shape := ⟨4, ![1, 3, 640, 32]⟩
abbrev S8x3x640x32 : Shape := ⟨4, ![8, 3, 640, 32]⟩
abbrev S8x3x80x256 : Shape := ⟨4, ![8, 3, 80, 256]⟩
abbrev S3x80x8x256 : Shape := ⟨4, ![3, 80, 8, 256]⟩
abbrev S3x20480x576 : Shape := ⟨3, ![3, 20480, 576]⟩
abbrev S3x20480x512 : Shape := ⟨3, ![3, 20480, 512]⟩
abbrev S1x4096x576 : Shape := ⟨3, ![1, 4096, 576]⟩
abbrev S1x4096x512 : Shape := ⟨3, ![1, 4096, 512]⟩
abbrev S1x16x8x256 : Shape := ⟨4, ![1, 16, 8, 256]⟩
abbrev S1x640x512 : Shape := ⟨3, ![1, 640, 512]⟩
abbrev S1x640x1 : Shape := ⟨3, ![1, 640, 1]⟩
abbrev S1x640x64 : Shape := ⟨3, ![1, 640, 64]⟩
abbrev S640x128 : Shape := ⟨2, ![640, 128]⟩
abbrev S640x64 : Shape := ⟨2, ![640, 64]⟩
abbrev S576x640 : Shape := ⟨2, ![576, 640]⟩
abbrev S640x1 : Shape := ⟨2, ![640, 1]⟩
abbrev S640x512 : Shape := ⟨2, ![640, 512]⟩
abbrev S512x640 : Shape := ⟨2, ![512, 640]⟩
abbrev S64x640 : Shape := ⟨2, ![64, 640]⟩
abbrev S1x256x576 : Shape := ⟨3, ![1, 256, 576]⟩
abbrev S256x576 : Shape := ⟨2, ![256, 576]⟩
abbrev S1x256x512 : Shape := ⟨3, ![1, 256, 512]⟩
abbrev S256x512 : Shape := ⟨2, ![256, 512]⟩
abbrev S1x1x8x256 : Shape := ⟨4, ![1, 1, 8, 256]⟩
abbrev S8x256 : Shape := ⟨2, ![8, 256]⟩
abbrev S1x256 : Shape := ⟨2, ![1, 256]⟩
abbrev S256x128 : Shape := ⟨2, ![256, 128]⟩
abbrev S128x256 : Shape := ⟨2, ![128, 256]⟩
abbrev S256 : Shape := ⟨1, ![256]⟩
abbrev S1x128x512 : Shape := ⟨3, ![1, 128, 512]⟩
abbrev S128x512 : Shape := ⟨2, ![128, 512]⟩
abbrev S128x128 : Shape := ⟨2, ![128, 128]⟩
abbrev S128x64 : Shape := ⟨2, ![128, 64]⟩
abbrev S256x64 : Shape := ⟨2, ![256, 64]⟩
abbrev S1x128x64 : Shape := ⟨3, ![1, 128, 64]⟩
abbrev S576x128 : Shape := ⟨2, ![576, 128]⟩
abbrev S576x256 : Shape := ⟨2, ![576, 256]⟩
abbrev S256x256 : Shape := ⟨2, ![256, 256]⟩
abbrev S1x256x64 : Shape := ⟨3, ![1, 256, 64]⟩
abbrev S1x384x512 : Shape := ⟨3, ![1, 384, 512]⟩
abbrev S384x512 : Shape := ⟨2, ![384, 512]⟩
abbrev S384x128 : Shape := ⟨2, ![384, 128]⟩
abbrev S384x256 : Shape := ⟨2, ![384, 256]⟩
abbrev S384x64 : Shape := ⟨2, ![384, 64]⟩
abbrev S1x384x64 : Shape := ⟨3, ![1, 384, 64]⟩
abbrev S576x384 : Shape := ⟨2, ![576, 384]⟩
abbrev S1x512x512 : Shape := ⟨3, ![1, 512, 512]⟩
abbrev S512x512 : Shape := ⟨2, ![512, 512]⟩
abbrev S512x128 : Shape := ⟨2, ![512, 128]⟩
abbrev S512x256 : Shape := ⟨2, ![512, 256]⟩
abbrev S512x64 : Shape := ⟨2, ![512, 64]⟩
abbrev S1x512x64 : Shape := ⟨3, ![1, 512, 64]⟩
abbrev S576x512 : Shape := ⟨2, ![576, 512]⟩
abbrev S640x256 : Shape := ⟨2, ![640, 256]⟩

abbrev nBuf : Space → Nat
  | .hbm => 36
  | .vmem => 23
  | .smem => 0
  | _ => 0

abbrev bufTy : (tb : Table) → Fin (tcTables nBuf tb) → BufTy
  | .hbm, ⟨0, _⟩ => ⟨S3x640x32x576, .fp8e4m3⟩
  | .hbm, ⟨1, _⟩ => ⟨S3x640x32, .f32⟩
  | .hbm, ⟨2, _⟩ => ⟨S3x640x512, .fp8e4m3⟩
  | .hbm, ⟨3, _⟩ => ⟨S3x640, .f32⟩
  | .hbm, ⟨4, _⟩ => ⟨S3x640x64, .bf16⟩
  | .hbm, ⟨5, _⟩ => ⟨S3x640x32x512, .bf16⟩
  | .hbm, ⟨6, _⟩ => ⟨S3x640x32, .f32⟩
  | .hbm, ⟨7, _⟩ => ⟨S3x640x32x512, .fp8e5m2⟩
  | .hbm, ⟨8, _⟩ => ⟨S3x640, .f32⟩
  | .hbm, ⟨9, _⟩ => ⟨S3x640x1, .f32⟩
  | .hbm, ⟨10, _⟩ => ⟨S3x640x32, .f32⟩
  | .hbm, ⟨11, _⟩ => ⟨S_, .f32⟩
  | .hbm, ⟨12, _⟩ => ⟨S3x640x32, .f32⟩
  | .hbm, ⟨13, _⟩ => ⟨S3x640x32, .f32⟩
  | .hbm, ⟨14, _⟩ => ⟨S3x640x32, .f32⟩
  | .hbm, ⟨15, _⟩ => ⟨S_, .f32⟩
  | .hbm, ⟨16, _⟩ => ⟨S3x640x32, .f32⟩
  | .hbm, ⟨17, _⟩ => ⟨S3x640x32, .f32⟩
  | .hbm, ⟨18, _⟩ => ⟨S1x3x640x32, .f32⟩
  | .hbm, ⟨19, _⟩ => ⟨S1x3x640x32, .f32⟩
  | .hbm, ⟨20, _⟩ => ⟨S1x3x640x32, .f32⟩
  | .hbm, ⟨21, _⟩ => ⟨S1x3x640x32, .f32⟩
  | .hbm, ⟨22, _⟩ => ⟨S1x3x640x32, .f32⟩
  | .hbm, ⟨23, _⟩ => ⟨S1x3x640x32, .f32⟩
  | .hbm, ⟨24, _⟩ => ⟨S1x3x640x32, .f32⟩
  | .hbm, ⟨25, _⟩ => ⟨S1x3x640x32, .f32⟩
  | .hbm, ⟨26, _⟩ => ⟨S8x3x640x32, .f32⟩
  | .hbm, ⟨27, _⟩ => ⟨S8x3x80x256, .f32⟩
  | .hbm, ⟨28, _⟩ => ⟨S3x80x8x256, .f32⟩
  | .hbm, ⟨29, _⟩ => ⟨S3x20480x576, .fp8e4m3⟩
  | .hbm, ⟨30, _⟩ => ⟨S3x20480x512, .fp8e5m2⟩
  | .hbm, ⟨31, _⟩ => ⟨S3x20480x512, .bf16⟩
  | .hbm, ⟨32, _⟩ => ⟨S3x640x1, .f32⟩
  | .hbm, ⟨33, _⟩ => ⟨S3x20480x576, .bf16⟩
  | .hbm, ⟨34, _⟩ => ⟨S3x640x512, .f32⟩
  | .hbm, ⟨35, _⟩ => ⟨S3x640x64, .f32⟩
  | .local _ .vmem, ⟨0, _⟩ => ⟨S1x4096x576, .fp8e4m3⟩
  | .local _ .vmem, ⟨1, _⟩ => ⟨S1x4096x576, .fp8e4m3⟩
  | .local _ .vmem, ⟨2, _⟩ => ⟨S1x4096x512, .fp8e5m2⟩
  | .local _ .vmem, ⟨3, _⟩ => ⟨S1x4096x512, .fp8e5m2⟩
  | .local _ .vmem, ⟨4, _⟩ => ⟨S1x4096x512, .bf16⟩
  | .local _ .vmem, ⟨5, _⟩ => ⟨S1x4096x512, .bf16⟩
  | .local _ .vmem, ⟨6, _⟩ => ⟨S1x16x8x256, .f32⟩
  | .local _ .vmem, ⟨7, _⟩ => ⟨S1x16x8x256, .f32⟩
  | .local _ .vmem, ⟨8, _⟩ => ⟨S1x640x512, .fp8e4m3⟩
  | .local _ .vmem, ⟨9, _⟩ => ⟨S1x640x512, .fp8e4m3⟩
  | .local _ .vmem, ⟨10, _⟩ => ⟨S1x640x1, .f32⟩
  | .local _ .vmem, ⟨11, _⟩ => ⟨S1x640x1, .f32⟩
  | .local _ .vmem, ⟨12, _⟩ => ⟨S1x640x64, .bf16⟩
  | .local _ .vmem, ⟨13, _⟩ => ⟨S1x640x64, .bf16⟩
  | .local _ .vmem, ⟨14, _⟩ => ⟨S1x4096x576, .bf16⟩
  | .local _ .vmem, ⟨15, _⟩ => ⟨S1x4096x576, .bf16⟩
  | .local _ .vmem, ⟨16, _⟩ => ⟨S1x640x512, .f32⟩
  | .local _ .vmem, ⟨17, _⟩ => ⟨S1x640x512, .f32⟩
  | .local _ .vmem, ⟨18, _⟩ => ⟨S1x640x64, .f32⟩
  | .local _ .vmem, ⟨19, _⟩ => ⟨S1x640x64, .f32⟩
  | .local _ .vmem, ⟨20, _⟩ => ⟨S640x128, .f32⟩
  | .local _ .vmem, ⟨21, _⟩ => ⟨S640x64, .bf16⟩
  | .local _ .vmem, ⟨22, _⟩ => ⟨S576x640, .bf16⟩
  | _, _ => ⟨S3x640x32x576, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22_0 : Ref sig .tc := ⟨.hbm, 33, rfl⟩
abbrev main_v22_1 : Ref sig .tc := ⟨.hbm, 34, rfl⟩
abbrev main_v22_2 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![3, 5], ![false, false]⟩

def k0_cond2 (i : grid0.Coords) : BitVec 1 :=
  let arg1 : BitVec 32 := BitVec.ofNat 32 (i 1).val
  let c0_i32_1 : BitVec 32 := 0#32
  let v3 : BitVec 1 := Scalar.cmpi .eq arg1 c0_i32_1
  let v4 : BitVec 32 := Scalar.extui v3
  let c0_i32_2 : BitVec 32 := 0#32
  let v5 : BitVec 1 := Scalar.cmpi .ne v4 c0_i32_2
  v5

@[reducible] def k0_t1_loop : Scf.Loop 32 :=
  let c0_i32_7 : BitVec 32 := 0#32
  let c16_i32 : BitVec 32 := 16#32
  let v18 : BitVec 32 := Scalar.addi c0_i32_7 c16_i32
  let c1_i32_8 : BitVec 32 := 1#32
  ⟨c0_i32_7, v18, c1_i32_8⟩
def k0_mult1 (k0_t1 : Fin k0_t1_loop.trips) : BitVec 32 :=
  let c0_i32_7 : BitVec 32 := 0#32
  let c1_i32_8 : BitVec 32 := 1#32
  let arg15 : BitVec 32 := Scf.iv c0_i32_7 c1_i32_8 k0_t1
  let c256_i32 : BitVec 32 := 256#32
  let v19 : BitVec 32 := Scalar.muli arg15 c256_i32
  v19
def k0_off1 (k0_t1 : Fin k0_t1_loop.trips) : Fin 3 → Nat :=
  let c0 : Index := 0#32
  let c0_i32_7 : BitVec 32 := 0#32
  let c1_i32_8 : BitVec 32 := 1#32
  let arg15 : BitVec 32 := Scf.iv c0_i32_7 c1_i32_8 k0_t1
  let c256_i32 : BitVec 32 := 256#32
  let v19 : BitVec 32 := Scalar.muli arg15 c256_i32
  let v20 : BitVec 32 := v19
  let v21 : Index := Scalar.indexCast v20
  let c0_10 : Index := 0#32
  ![0, v21.toNat, 0]
def k0_off2 (k0_t1 : Fin k0_t1_loop.trips) : Fin 3 → Nat :=
  let c0_11 : Index := 0#32
  let c0_i32_7 : BitVec 32 := 0#32
  let c1_i32_8 : BitVec 32 := 1#32
  let arg15 : BitVec 32 := Scf.iv c0_i32_7 c1_i32_8 k0_t1
  let c256_i32 : BitVec 32 := 256#32
  let v19 : BitVec 32 := Scalar.muli arg15 c256_i32
  let v20 : BitVec 32 := v19
  let v24 : Index := Scalar.indexCast v20
  let c0_12 : Index := 0#32
  ![0, v24.toNat, 0]
def k0_off3 (k0_t1 : Fin k0_t1_loop.trips) : Fin 4 → Nat :=
  let c0_13 : Index := 0#32
  let c0_i32_7 : BitVec 32 := 0#32
  let c1_i32_8 : BitVec 32 := 1#32
  let arg15 : BitVec 32 := Scf.iv c0_i32_7 c1_i32_8 k0_t1
  let v27 : Index := Scalar.indexCast arg15
  let c0_14 : Index := 0#32
  let c0_15 : Index := 0#32
  ![0, v27.toNat, 0, 0]
def k0_cond3 (i : grid0.Coords) : BitVec 1 :=
  let arg1 : BitVec 32 := BitVec.ofNat 32 (i 1).val
  let c1_i32 : BitVec 32 := 1#32
  let v6 : BitVec 1 := Scalar.cmpi .eq arg1 c1_i32
  let v7 : BitVec 32 := Scalar.extui v6
  let c0_i32_3 : BitVec 32 := 0#32
  let v8 : BitVec 1 := Scalar.cmpi .ne v7 c0_i32_3
  v8

@[reducible] def k0_t2_loop : Scf.Loop 32 :=
  let c0_i32_7 : BitVec 32 := 0#32
  let c16_i32 : BitVec 32 := 16#32
  let v18 : BitVec 32 := Scalar.addi c0_i32_7 c16_i32
  let c1_i32_8 : BitVec 32 := 1#32
  ⟨c0_i32_7, v18, c1_i32_8⟩
def k0_mult2 (k0_t2 : Fin k0_t2_loop.trips) : BitVec 32 :=
  let c0_i32_7 : BitVec 32 := 0#32
  let c1_i32_8 : BitVec 32 := 1#32
  let arg15 : BitVec 32 := Scf.iv c0_i32_7 c1_i32_8 k0_t2
  let c256_i32 : BitVec 32 := 256#32
  let v19 : BitVec 32 := Scalar.muli arg15 c256_i32
  v19
def k0_off4 (k0_t2 : Fin k0_t2_loop.trips) : Fin 3 → Nat :=
  let c0 : Index := 0#32
  let c0_i32_7 : BitVec 32 := 0#32
  let c1_i32_8 : BitVec 32 := 1#32
  let arg15 : BitVec 32 := Scf.iv c0_i32_7 c1_i32_8 k0_t2
  let c256_i32 : BitVec 32 := 256#32
  let v19 : BitVec 32 := Scalar.muli arg15 c256_i32
  let v20 : BitVec 32 := v19
  let v21 : Index := Scalar.indexCast v20
  let c0_10 : Index := 0#32
  ![0, v21.toNat, 0]
def k0_off5 (k0_t2 : Fin k0_t2_loop.trips) : Fin 3 → Nat :=
  let c0_11 : Index := 0#32
  let c0_i32_7 : BitVec 32 := 0#32
  let c1_i32_8 : BitVec 32 := 1#32
  let arg15 : BitVec 32 := Scf.iv c0_i32_7 c1_i32_8 k0_t2
  let c256_i32 : BitVec 32 := 256#32
  let v19 : BitVec 32 := Scalar.muli arg15 c256_i32
  let v20 : BitVec 32 := v19
  let v24 : Index := Scalar.indexCast v20
  let c0_12 : Index := 0#32
  ![0, v24.toNat, 0]
def k0_off6 (k0_t2 : Fin k0_t2_loop.trips) : Fin 4 → Nat :=
  let c0_13 : Index := 0#32
  let c0_i32_7 : BitVec 32 := 0#32
  let c1_i32_8 : BitVec 32 := 1#32
  let arg15 : BitVec 32 := Scf.iv c0_i32_7 c1_i32_8 k0_t2
  let v27 : Index := Scalar.indexCast arg15
  let c0_14 : Index := 0#32
  let c0_15 : Index := 0#32
  ![0, v27.toNat, 0, 0]
def k0_cond4 (i : grid0.Coords) : BitVec 1 :=
  let arg1 : BitVec 32 := BitVec.ofNat 32 (i 1).val
  let c2_i32 : BitVec 32 := 2#32
  let v9 : BitVec 1 := Scalar.cmpi .eq arg1 c2_i32
  let v10 : BitVec 32 := Scalar.extui v9
  let c0_i32_4 : BitVec 32 := 0#32
  let v11 : BitVec 1 := Scalar.cmpi .ne v10 c0_i32_4
  v11

@[reducible] def k0_t3_loop : Scf.Loop 32 :=
  let c0_i32_7 : BitVec 32 := 0#32
  let c16_i32 : BitVec 32 := 16#32
  let v18 : BitVec 32 := Scalar.addi c0_i32_7 c16_i32
  let c1_i32_8 : BitVec 32 := 1#32
  ⟨c0_i32_7, v18, c1_i32_8⟩
def k0_mult3 (k0_t3 : Fin k0_t3_loop.trips) : BitVec 32 :=
  let c0_i32_7 : BitVec 32 := 0#32
  let c1_i32_8 : BitVec 32 := 1#32
  let arg15 : BitVec 32 := Scf.iv c0_i32_7 c1_i32_8 k0_t3
  let c256_i32 : BitVec 32 := 256#32
  let v19 : BitVec 32 := Scalar.muli arg15 c256_i32
  v19
def k0_off7 (k0_t3 : Fin k0_t3_loop.trips) : Fin 3 → Nat :=
  let c0 : Index := 0#32
  let c0_i32_7 : BitVec 32 := 0#32
  let c1_i32_8 : BitVec 32 := 1#32
  let arg15 : BitVec 32 := Scf.iv c0_i32_7 c1_i32_8 k0_t3
  let c256_i32 : BitVec 32 := 256#32
  let v19 : BitVec 32 := Scalar.muli arg15 c256_i32
  let v20 : BitVec 32 := v19
  let v21 : Index := Scalar.indexCast v20
  let c0_10 : Index := 0#32
  ![0, v21.toNat, 0]
def k0_off8 (k0_t3 : Fin k0_t3_loop.trips) : Fin 3 → Nat :=
  let c0_11 : Index := 0#32
  let c0_i32_7 : BitVec 32 := 0#32
  let c1_i32_8 : BitVec 32 := 1#32
  let arg15 : BitVec 32 := Scf.iv c0_i32_7 c1_i32_8 k0_t3
  let c256_i32 : BitVec 32 := 256#32
  let v19 : BitVec 32 := Scalar.muli arg15 c256_i32
  let v20 : BitVec 32 := v19
  let v24 : Index := Scalar.indexCast v20
  let c0_12 : Index := 0#32
  ![0, v24.toNat, 0]
def k0_off9 (k0_t3 : Fin k0_t3_loop.trips) : Fin 4 → Nat :=
  let c0_13 : Index := 0#32
  let c0_i32_7 : BitVec 32 := 0#32
  let c1_i32_8 : BitVec 32 := 1#32
  let arg15 : BitVec 32 := Scf.iv c0_i32_7 c1_i32_8 k0_t3
  let v27 : Index := Scalar.indexCast arg15
  let c0_14 : Index := 0#32
  let c0_15 : Index := 0#32
  ![0, v27.toNat, 0, 0]
def k0_cond5 (i : grid0.Coords) : BitVec 1 :=
  let arg1 : BitVec 32 := BitVec.ofNat 32 (i 1).val
  let c3_i32 : BitVec 32 := 3#32
  let v12 : BitVec 1 := Scalar.cmpi .eq arg1 c3_i32
  let v13 : BitVec 32 := Scalar.extui v12
  let c0_i32_5 : BitVec 32 := 0#32
  let v14 : BitVec 1 := Scalar.cmpi .ne v13 c0_i32_5
  v14

@[reducible] def k0_t4_loop : Scf.Loop 32 :=
  let c0_i32_7 : BitVec 32 := 0#32
  let c16_i32 : BitVec 32 := 16#32
  let v18 : BitVec 32 := Scalar.addi c0_i32_7 c16_i32
  let c1_i32_8 : BitVec 32 := 1#32
  ⟨c0_i32_7, v18, c1_i32_8⟩
def k0_mult4 (k0_t4 : Fin k0_t4_loop.trips) : BitVec 32 :=
  let c0_i32_7 : BitVec 32 := 0#32
  let c1_i32_8 : BitVec 32 := 1#32
  let arg15 : BitVec 32 := Scf.iv c0_i32_7 c1_i32_8 k0_t4
  let c256_i32 : BitVec 32 := 256#32
  let v19 : BitVec 32 := Scalar.muli arg15 c256_i32
  v19
def k0_off10 (k0_t4 : Fin k0_t4_loop.trips) : Fin 3 → Nat :=
  let c0 : Index := 0#32
  let c0_i32_7 : BitVec 32 := 0#32
  let c1_i32_8 : BitVec 32 := 1#32
  let arg15 : BitVec 32 := Scf.iv c0_i32_7 c1_i32_8 k0_t4
  let c256_i32 : BitVec 32 := 256#32
  let v19 : BitVec 32 := Scalar.muli arg15 c256_i32
  let v20 : BitVec 32 := v19
  let v21 : Index := Scalar.indexCast v20
  let c0_10 : Index := 0#32
  ![0, v21.toNat, 0]
def k0_off11 (k0_t4 : Fin k0_t4_loop.trips) : Fin 3 → Nat :=
  let c0_11 : Index := 0#32
  let c0_i32_7 : BitVec 32 := 0#32
  let c1_i32_8 : BitVec 32 := 1#32
  let arg15 : BitVec 32 := Scf.iv c0_i32_7 c1_i32_8 k0_t4
  let c256_i32 : BitVec 32 := 256#32
  let v19 : BitVec 32 := Scalar.muli arg15 c256_i32
  let v20 : BitVec 32 := v19
  let v24 : Index := Scalar.indexCast v20
  let c0_12 : Index := 0#32
  ![0, v24.toNat, 0]
def k0_off12 (k0_t4 : Fin k0_t4_loop.trips) : Fin 4 → Nat :=
  let c0_13 : Index := 0#32
  let c0_i32_7 : BitVec 32 := 0#32
  let c1_i32_8 : BitVec 32 := 1#32
  let arg15 : BitVec 32 := Scf.iv c0_i32_7 c1_i32_8 k0_t4
  let v27 : Index := Scalar.indexCast arg15
  let c0_14 : Index := 0#32
  let c0_15 : Index := 0#32
  ![0, v27.toNat, 0, 0]
def k0_cond6 (i : grid0.Coords) : BitVec 1 :=
  let arg1 : BitVec 32 := BitVec.ofNat 32 (i 1).val
  let c4_i32 : BitVec 32 := 4#32
  let v15 : BitVec 1 := Scalar.cmpi .eq arg1 c4_i32
  let v16 : BitVec 32 := Scalar.extui v15
  let c0_i32_6 : BitVec 32 := 0#32
  let v17 : BitVec 1 := Scalar.cmpi .ne v16 c0_i32_6
  v17

@[reducible] def k0_t5_loop : Scf.Loop 32 :=
  let c0_i32_7 : BitVec 32 := 0#32
  let c16_i32 : BitVec 32 := 16#32
  let v18 : BitVec 32 := Scalar.addi c0_i32_7 c16_i32
  let c1_i32_8 : BitVec 32 := 1#32
  ⟨c0_i32_7, v18, c1_i32_8⟩
def k0_mult5 (k0_t5 : Fin k0_t5_loop.trips) : BitVec 32 :=
  let c0_i32_7 : BitVec 32 := 0#32
  let c1_i32_8 : BitVec 32 := 1#32
  let arg15 : BitVec 32 := Scf.iv c0_i32_7 c1_i32_8 k0_t5
  let c256_i32 : BitVec 32 := 256#32
  let v19 : BitVec 32 := Scalar.muli arg15 c256_i32
  v19
def k0_off13 (k0_t5 : Fin k0_t5_loop.trips) : Fin 3 → Nat :=
  let c0 : Index := 0#32
  let c0_i32_7 : BitVec 32 := 0#32
  let c1_i32_8 : BitVec 32 := 1#32
  let arg15 : BitVec 32 := Scf.iv c0_i32_7 c1_i32_8 k0_t5
  let c256_i32 : BitVec 32 := 256#32
  let v19 : BitVec 32 := Scalar.muli arg15 c256_i32
  let v20 : BitVec 32 := v19
  let v21 : Index := Scalar.indexCast v20
  let c0_10 : Index := 0#32
  ![0, v21.toNat, 0]
def k0_off14 (k0_t5 : Fin k0_t5_loop.trips) : Fin 3 → Nat :=
  let c0_11 : Index := 0#32
  let c0_i32_7 : BitVec 32 := 0#32
  let c1_i32_8 : BitVec 32 := 1#32
  let arg15 : BitVec 32 := Scf.iv c0_i32_7 c1_i32_8 k0_t5
  let c256_i32 : BitVec 32 := 256#32
  let v19 : BitVec 32 := Scalar.muli arg15 c256_i32
  let v20 : BitVec 32 := v19
  let v24 : Index := Scalar.indexCast v20
  let c0_12 : Index := 0#32
  ![0, v24.toNat, 0]
def k0_off15 (k0_t5 : Fin k0_t5_loop.trips) : Fin 4 → Nat :=
  let c0_13 : Index := 0#32
  let c0_i32_7 : BitVec 32 := 0#32
  let c1_i32_8 : BitVec 32 := 1#32
  let arg15 : BitVec 32 := Scf.iv c0_i32_7 c1_i32_8 k0_t5
  let v27 : Index := Scalar.indexCast arg15
  let c0_14 : Index := 0#32
  let c0_15 : Index := 0#32
  ![0, v27.toNat, 0, 0]
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x576 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x512 .fp8e5m2 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x640x512 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x640x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x640x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x4096x576 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x640x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x640x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== KernelIdeal.lean ====
variable {F : FTy → Type} [FloatOps F] [Named F]
def κ : String → Option EReal := fun
  | "log2_e" => some (((Real.log 2)⁻¹ : ℝ) : EReal)
  | _ => none
-- ==== ReferenceIdeal.lean ====
abbrev S3x640x32x576 : Shape := ⟨4, ![3, 640, 32, 576]⟩
abbrev S3x640x32 : Shape := ⟨3, ![3, 640, 32]⟩
abbrev S3x640x512 : Shape := ⟨3, ![3, 640, 512]⟩
abbrev S3x640 : Shape := ⟨2, ![3, 640]⟩
abbrev S3x640x64 : Shape := ⟨3, ![3, 640, 64]⟩
abbrev S3x640x32x512 : Shape := ⟨4, ![3, 640, 32, 512]⟩
abbrev S3x640x1 : Shape := ⟨3, ![3, 640, 1]⟩
abbrev S3x640x576 : Shape := ⟨3, ![3, 640, 576]⟩
abbrev S3x640x32x1 : Shape := ⟨4, ![3, 640, 32, 1]⟩
abbrev S3x640x1x1 : Shape := ⟨4, ![3, 640, 1, 1]⟩
abbrev S_ : Shape := ⟨0, ![]⟩
abbrev S3x1x1x640 : Shape := ⟨4, ![3, 1, 1, 640]⟩
abbrev S3x640x32x640 : Shape := ⟨4, ![3, 640, 32, 640]⟩
abbrev S3x640x32x64 : Shape := ⟨4, ![3, 640, 32, 64]⟩
abbrev S3x20480x576 : Shape := ⟨3, ![3, 20480, 576]⟩

abbrev nBuf : Space → Nat
  | .hbm => 83
  | .vmem => 6
  | .smem => 0
  | _ => 0

abbrev bufTy : (tb : Table) → Fin (tcTables nBuf tb) → BufTy
  | .hbm, ⟨0, _⟩ => ⟨S3x640x32x576, .fp8e4m3⟩
  | .hbm, ⟨1, _⟩ => ⟨S3x640x32, .f32⟩
  | .hbm, ⟨2, _⟩ => ⟨S3x640x512, .fp8e4m3⟩
  | .hbm, ⟨3, _⟩ => ⟨S3x640, .f32⟩
  | .hbm, ⟨4, _⟩ => ⟨S3x640x64, .bf16⟩
  | .hbm, ⟨5, _⟩ => ⟨S3x640x32x512, .bf16⟩
  | .hbm, ⟨6, _⟩ => ⟨S3x640x32, .f32⟩
  | .hbm, ⟨7, _⟩ => ⟨S3x640x32x512, .fp8e5m2⟩
  | .hbm, ⟨8, _⟩ => ⟨S3x640, .f32⟩
  | .hbm, ⟨9, _⟩ => ⟨S3x640x32x576, .bf16⟩
  | .hbm, ⟨10, _⟩ => ⟨S3x640x512, .bf16⟩
  | .hbm, ⟨11, _⟩ => ⟨S3x640x32x512, .bf16⟩
  | .hbm, ⟨12, _⟩ => ⟨S3x640, .bf16⟩
  | .hbm, ⟨13, _⟩ => ⟨S3x640x1, .bf16⟩
  | .hbm, ⟨14, _⟩ => ⟨S3x640x512, .bf16⟩
  | .hbm, ⟨15, _⟩ => ⟨S3x640x512, .bf16⟩
  | .hbm, ⟨16, _⟩ => ⟨S3x640x576, .bf16⟩
  | .hbm, ⟨17, _⟩ => ⟨S3x640x32, .bf16⟩
  | .hbm, ⟨18, _⟩ => ⟨S3x640x32x1, .bf16⟩
  | .hbm, ⟨19, _⟩ => ⟨S3x640x32x576, .bf16⟩
  | .hbm, ⟨20, _⟩ => ⟨S3x640x32x576, .bf16⟩
  | .hbm, ⟨21, _⟩ => ⟨S3x640, .bf16⟩
  | .hbm, ⟨22, _⟩ => ⟨S3x640x1x1, .bf16⟩
  | .hbm, ⟨23, _⟩ => ⟨S3x640x32x512, .bf16⟩
  | .hbm, ⟨24, _⟩ => ⟨S3x640x32x512, .bf16⟩
  | .hbm, ⟨25, _⟩ => ⟨S3x640x32x512, .f32⟩
  | .hbm, ⟨26, _⟩ => ⟨S3x640x1x1, .f32⟩
  | .hbm, ⟨27, _⟩ => ⟨S3x640x32x512, .f32⟩
  | .hbm, ⟨28, _⟩ => ⟨S3x640x32x512, .f32⟩
  | .hbm, ⟨29, _⟩ => ⟨S3x640x32x512, .f32⟩
  | .hbm, ⟨30, _⟩ => ⟨S3x640x32x512, .f32⟩
  | .hbm, ⟨31, _⟩ => ⟨S_, .f32⟩
  | .hbm, ⟨32, _⟩ => ⟨S3x640x32, .f32⟩
  | .hbm, ⟨33, _⟩ => ⟨S3x1x1x640, .f32⟩
  | .hbm, ⟨34, _⟩ => ⟨S3x640x32x512, .bf16⟩
  | .hbm, ⟨35, _⟩ => ⟨S3x640x32x640, .f32⟩
  | .hbm, ⟨36, _⟩ => ⟨S3x640x32x1, .f32⟩
  | .hbm, ⟨37, _⟩ => ⟨S3x640x32x640, .f32⟩
  | .hbm, ⟨38, _⟩ => ⟨S3x640x32x640, .f32⟩
  | .hbm, ⟨39, _⟩ => ⟨S3x640x32x640, .f32⟩
  | .hbm, ⟨40, _⟩ => ⟨S3x640x32x640, .f32⟩
  | .hbm, ⟨41, _⟩ => ⟨S3x640x32x64, .bf16⟩
  | .hbm, ⟨42, _⟩ => ⟨S3x640x32x640, .f32⟩
  | .hbm, ⟨43, _⟩ => ⟨S3x640x32x1, .f32⟩
  | .hbm, ⟨44, _⟩ => ⟨S3x640x32x640, .f32⟩
  | .hbm, ⟨45, _⟩ => ⟨S3x640x32x640, .f32⟩
  | .hbm, ⟨46, _⟩ => ⟨S3x640x32x640, .f32⟩
  | .hbm, ⟨47, _⟩ => ⟨S_, .f32⟩
  | .hbm, ⟨48, _⟩ => ⟨S3x640x32x640, .f32⟩
  | .hbm, ⟨49, _⟩ => ⟨S3x640x32x640, .f32⟩
  | .hbm, ⟨50, _⟩ => ⟨S3x640x32x640, .i32⟩
  | .hbm, ⟨51, _⟩ => ⟨S3x640x32x640, .i32⟩
  | .hbm, ⟨52, _⟩ => ⟨S3x640x32x640, .i1⟩
  | .hbm, ⟨53, _⟩ => ⟨S3x640x32x1, .f32⟩
  | .hbm, ⟨54, _⟩ => ⟨S3x640x32x640, .f32⟩
  | .hbm, ⟨55, _⟩ => ⟨S3x640x32x640, .f32⟩
  | .hbm, ⟨56, _⟩ => ⟨S3x640x32x640, .f32⟩
  | .hbm, ⟨57, _⟩ => ⟨S_, .f32⟩
  | .hbm, ⟨58, _⟩ => ⟨S3x640x32x640, .f32⟩
  | .hbm, ⟨59, _⟩ => ⟨S3x640x32x640, .f32⟩
  | .hbm, ⟨60, _⟩ => ⟨S3x640x32x640, .f32⟩
  | .hbm, ⟨61, _⟩ => ⟨S3x640x1x1, .f32⟩
  | .hbm, ⟨62, _⟩ => ⟨S3x640x32x640, .f32⟩
  | .hbm, ⟨63, _⟩ => ⟨S3x640x32x640, .f32⟩
  | .hbm, ⟨64, _⟩ => ⟨S3x640x32x640, .f32⟩
  | .hbm, ⟨65, _⟩ => ⟨S3x640x32x640, .f32⟩
  | .hbm, ⟨66, _⟩ => ⟨S3x640x32x1, .f32⟩
  | .hbm, ⟨67, _⟩ => ⟨S3x640x32x640, .f32⟩
  | .hbm, ⟨68, _⟩ => ⟨S3x640x32x640, .f32⟩
  | .hbm, ⟨69, _⟩ => ⟨S3x640x32x640, .f32⟩
  | .hbm, ⟨70, _⟩ => ⟨S_, .f32⟩
  | .hbm, ⟨71, _⟩ => ⟨S3x640x32x640, .f32⟩
  | .hbm, ⟨72, _⟩ => ⟨S3x640x32x640, .f32⟩
  | .hbm, ⟨73, _⟩ => ⟨S3x640x32x640, .bf16⟩
  | .hbm, ⟨74, _⟩ => ⟨S3x640x32x576, .f32⟩
  | .hbm, ⟨75, _⟩ => ⟨S3x640x32x576, .bf16⟩
  | .hbm, ⟨76, _⟩ => ⟨S3x640x576, .f32⟩
  | .hbm, ⟨77, _⟩ => ⟨S3x640x32x640, .bf16⟩
  | .hbm, ⟨78, _⟩ => ⟨S3x640x512, .f32⟩
  | .hbm, ⟨79, _⟩ => ⟨S3x640x512, .f32⟩
  | .hbm, ⟨80, _⟩ => ⟨S3x640x512, .f32⟩
  | .hbm, ⟨81, _⟩ => ⟨S3x640x64, .f32⟩
  | .hbm, ⟨82, _⟩ => ⟨S3x20480x576, .bf16⟩
  | .local _ .vmem, ⟨0, _⟩ => ⟨S3x640x32x576, .fp8e4m3⟩
  | .local _ .vmem, ⟨1, _⟩ => ⟨S3x640x512, .fp8e4m3⟩
  | .local _ .vmem, ⟨2, _⟩ => ⟨S3x640x32x512, .fp8e5m2⟩
  | .local _ .vmem, ⟨3, _⟩ => ⟨S3x640x32x576, .bf16⟩
  | .local _ .vmem, ⟨4, _⟩ => ⟨S3x640x512, .bf16⟩
  | .local _ .vmem, ⟨5, _⟩ => ⟨S3x640x32x512, .bf16⟩
  | _, _ => ⟨S3x640x32x576, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_0 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_1 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_cst_2 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S3x640x32x576 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x640x512 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x640x32x512 .fp8e5m2 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x640x32x576 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x640x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x640x32x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.WordRuns.lean ====
module

public import proofs.«01_k».proof.Proof.Gen.Kernel.Launch
public import proofs.«01_k».proof.Proof.Gen.Kernel.Skeleton
public import proofs.«01_k».proof.Proof.Gen.Kernel.Points
public import proofs.«01_k».proof.Proof.Gen.Kernel.Frame
public import Idealize.ShloMosaic.Lib.Pipeline.FrameBody
public import Idealize.ShloMosaic.Lib.Ring
public import Idealize.ShloMosaic.Lib.Tactic
public import Idealize.ShloMosaic.Lib.WordCmp

/-! # The kernel's six conditionals and its memrefs

The five branches and the preparation are chosen by the second grid coordinate alone: at point `t` that is `t % 5`. Here
are those facts, and the names of the staging memrefs and of the scratches a point's body runs on. -/

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The second grid coordinate of point `t` is `t % 5`. -/
theorem coord1 (t : Fin cfg0.N) : (grid0.coords t 1).val = t.val % 5 := by
  have ht : t.val < 15 := Nat.lt_of_lt_of_eq t.isLt N_0
  have e1 : (grid0.coords t 1).val = t.val / 1 % 5 := Pipeline.Grid.coords_val t 1 (by decide) rfl
  rw [e1, Nat.div_one]

/-- The condition of the preparation, from the grid coordinates. -/
abbrev cond0_0 (i : grid0.Coords) : Prop := k0_cond1 i = 1#1
/-- It holds at the points ≡ 0 (mod 5). -/
theorem hcond0_0 : ∀ t : Fin cfg0.N, cond0_0 (grid0.coords t) ↔ t.val % 5 = 0 := fun t => by
  have ht : t.val < 15 := Nat.lt_of_lt_of_eq t.isLt N_0
  have e1 : (grid0.coords t 1).val = t.val % 5 := coord1 t
  simp only [cond0_0, k0_cond1, e1]
  word_cmp

/-- The condition of branch 0, from the grid coordinates. -/
abbrev cond0_1 (i : grid0.Coords) : Prop := k0_cond2 i = 1#1
/-- It holds at the points ≡ 0 (mod 5). -/
theorem hcond0_1 : ∀ t : Fin cfg0.N, cond0_1 (grid0.coords t) ↔ t.val % 5 = 0 := fun t => by
  have ht : t.val < 15 := Nat.lt_of_lt_of_eq t.isLt N_0
  have e1 : (grid0.coords t 1).val = t.val % 5 := coord1 t
  simp only [cond0_1, k0_cond2, e1]
  word_cmp

/-- The condition of branch 1, from the grid coordinates. -/
abbrev cond0_2 (i : grid0.Coords) : Prop := k0_cond3 i = 1#1
/-- It holds at the points ≡ 1 (mod 5). -/
theorem hcond0_2 : ∀ t : Fin cfg0.N, cond0_2 (grid0.coords t) ↔ t.val % 5 = 1 := fun t => by
  have ht : t.val < 15 := Nat.lt_of_lt_of_eq t.isLt N_0
  have e1 : (grid0.coords t 1).val = t.val % 5 := coord1 t
  simp only [cond0_2, k0_cond3, e1]
  word_cmp

/-- The condition of branch 2, from the grid coordinates. -/
abbrev cond0_3 (i : grid0.Coords) : Prop := k0_cond4 i = 1#1
/-- It holds at the points ≡ 2 (mod 5). -/
theorem hcond0_3 : ∀ t : Fin cfg0.N, cond0_3 (grid0.coords t) ↔ t.val % 5 = 2 := fun t => by
  have ht : t.val < 15 := Nat.lt_of_lt_of_eq t.isLt N_0
  have e1 : (grid0.coords t 1).val = t.val % 5 := coord1 t
  simp only [cond0_3, k0_cond4, e1]
  word_cmp

/-- The condition of branch 3, from the grid coordinates. -/
abbrev cond0_4 (i : grid0.Coords) : Prop := k0_cond5 i = 1#1
/-- It holds at the points ≡ 3 (mod 5). -/
theorem hcond0_4 : ∀ t : Fin cfg0.N, cond0_4 (grid0.coords t) ↔ t.val % 5 = 3 := fun t => by
  have ht : t.val < 15 := Nat.lt_of_lt_of_eq t.isLt N_0
  have e1 : (grid0.coords t 1).val = t.val % 5 := coord1 t
  simp only [cond0_4, k0_cond5, e1]
  word_cmp

/-- The condition of branch 4, from the grid coordinates. -/
abbrev cond0_5 (i : grid0.Coords) : Prop := k0_cond6 i = 1#1
/-- It holds at the points ≡ 4 (mod 5). -/
theorem hcond0_5 : ∀ t : Fin cfg0.N, cond0_5 (grid0.coords t) ↔ t.val % 5 = 4 := fun t => by
  have ht : t.val < 15 := Nat.lt_of_lt_of_eq t.isLt N_0
  have e1 : (grid0.coords t 1).val = t.val % 5 := coord1 t
  simp only [cond0_5, k0_cond6, e1]
  word_cmp

/-! ## The memrefs -/

/-- Each window's current staging memref at point `t`, spelled as the pipeline passes it (`bodyAt0`), and its wholeness. -/
abbrev ms0_0 (t : Fin cfg0.N) : Memref sig .tc .vmem S1x4096x576 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x4096x512 .fp8e5m2 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x4096x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x16x8x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x640x512 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x640x1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x640x64 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x4096x576 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x640x512 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x640x64 .f32 := win0_9.stage (cfg0.slots t 9)
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S640x128 .f32 := Memref.whole cc0_scratch0
abbrev scM0_1 : Memref sig .tc .vmem S640x64 .bf16 := Memref.whole cc0_scratch1
abbrev scM0_2 : Memref sig .tc .vmem S576x640 .bf16 := Memref.whole cc0_scratch2

/-- The invariant before the first point, with the scratches as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Kernel.Hand

end
-- ==== Proof.WordBody.lean ====
module

public import proofs.«01_k».proof.Proof.WordRuns
public import proofs.«01_k».proof.Proof.Gen.Kernel.Loops

/-! # The body of the program as written, in each of its branches

Over any float semantics: from the input windows at any contents, and the outputs and the scratches at any contents, each branch
of the body runs without fault, leaves the input windows as they are and the outputs and the scratches at something. -/

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1200000 in
/-- Branch 0, with the preparation of the scratches. -/
theorem bodyA (c : Dev nD) (i : grid0.Coords) (arg2 : Memref sig .tc .vmem S1x4096x576 .fp8e4m3) (harg2 : arg2.IsWhole) (arg3 : Memref sig .tc .vmem S1x4096x512 .fp8e5m2) (harg3 : arg3.IsWhole) (arg4 : Memref sig .tc .vmem S1x4096x512 .bf16) (harg4 : arg4.IsWhole) (arg5 : Memref sig .tc .vmem S1x16x8x256 .f32) (harg5 : arg5.IsWhole) (arg6 : Memref sig .tc .vmem S1x640x512 .fp8e4m3) (harg6 : arg6.IsWhole) (arg7 : Memref sig .tc .vmem S1x640x1 .f32) (harg7 : arg7.IsWhole) (arg8 : Memref sig .tc .vmem S1x640x64 .bf16) (harg8 : arg8.IsWhole) (arg9 : Memref sig .tc .vmem S1x4096x576 .bf16) (harg9 : arg9.IsWhole) (arg10 : Memref sig .tc .vmem S1x640x512 .f32) (harg10 : arg10.IsWhole) (arg11 : Memref sig .tc .vmem S1x640x64 .f32) (harg11 : arg11.IsWhole) (arg12 : Memref sig .tc .vmem S640x128 .f32) (harg12 : arg12.IsWhole) (arg13 : Memref sig .tc .vmem S640x64 .bf16) (harg13 : arg13.IsWhole) (arg14 : Memref sig .tc .vmem S576x640 .bf16) (harg14 : arg14.IsWhole) (hc0 : cond0_0 i) (hc1 : cond0_1 i) (hc2 : ¬cond0_2 i) (hc3 : ¬cond0_3 i) (hc4 : ¬cond0_4 i) (hc5 : ¬cond0_5 i)
    (x0 : Vec F S1x4096x576 .fp8e4m3) (x1 : Vec F S1x4096x512 .fp8e5m2) (x2 : Vec F S1x4096x512 .bf16) (x3 : Vec F S1x16x8x256 .f32) (x4 : Vec F S1x640x512 .fp8e4m3) (x5 : Vec F S1x640x1 .f32) (x6 : Vec F S1x640x64 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
      ⊢ wp frame (wpE (defs₀ (F := F)) Variants.none c none) E (cc0_mla_bwd i arg2 harg2 arg3 harg3 arg4 harg4 arg5 harg5 arg6 harg6 arg7 harg7 arg8 harg8 arg9 harg9 arg10 harg10 arg11 harg11 arg12 harg12 arg13 harg13 arg14 harg14) K := by
  simp only [cc0_mla_bwd_eq_skeleton]; unfold cc0_mla_bwd_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, Hk⟩
  sl_exec (disch := first | sl_exact hc0 | sl_exact hc1 | sl_exact hc2 | sl_exact hc3 | sl_exact hc4 | sl_exact hc5)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; iexists _; isplitr; swap; · iexact H7
    ipureintro; rfl
  isplitl [H8]
  · iexists _; iexists _; isplitr; swap; · iexact H8
    ipureintro; rfl
  isplitl [H9]
  · iexists _; iexists _; isplitr; swap; · iexact H9
    ipureintro; rfl
  isplitl [H10]
  · iexists _; iexists _; isplitr; swap; · iexact H10
    ipureintro; rfl
  isplitl [H11]
  · iexists _; iexists _; isplitr; swap; · iexact H11
    ipureintro; rfl
  iexists _; iexists _; isplitr; swap; · iexact H12
  ipureintro; rfl

set_option maxHeartbeats 1200000 in
/-- Branch 1. -/
theorem bodyB (c : Dev nD) (i : grid0.Coords) (arg2 : Memref sig .tc .vmem S1x4096x576 .fp8e4m3) (harg2 : arg2.IsWhole) (arg3 : Memref sig .tc .vmem S1x4096x512 .fp8e5m2) (harg3 : arg3.IsWhole) (arg4 : Memref sig .tc .vmem S1x4096x512 .bf16) (harg4 : arg4.IsWhole) (arg5 : Memref sig .tc .vmem S1x16x8x256 .f32) (harg5 : arg5.IsWhole) (arg6 : Memref sig .tc .vmem S1x640x512 .fp8e4m3) (harg6 : arg6.IsWhole) (arg7 : Memref sig .tc .vmem S1x640x1 .f32) (harg7 : arg7.IsWhole) (arg8 : Memref sig .tc .vmem S1x640x64 .bf16) (harg8 : arg8.IsWhole) (arg9 : Memref sig .tc .vmem S1x4096x576 .bf16) (harg9 : arg9.IsWhole) (arg10 : Memref sig .tc .vmem S1x640x512 .f32) (harg10 : arg10.IsWhole) (arg11 : Memref sig .tc .vmem S1x640x64 .f32) (harg11 : arg11.IsWhole) (arg12 : Memref sig .tc .vmem S640x128 .f32) (harg12 : arg12.IsWhole) (arg13 : Memref sig .tc .vmem S640x64 .bf16) (harg13 : arg13.IsWhole) (arg14 : Memref sig .tc .vmem S576x640 .bf16) (harg14 : arg14.IsWhole) (hc0 : ¬cond0_0 i) (hc1 : ¬cond0_1 i) (hc2 : cond0_2 i) (hc3 : ¬cond0_3 i) (hc4 : ¬cond0_4 i) (hc5 : ¬cond0_5 i)
    (x0 : Vec F S1x4096x576 .fp8e4m3) (x1 : Vec F S1x4096x512 .fp8e5m2) (x2 : Vec F S1x4096x512 .bf16) (x3 : Vec F S1x16x8x256 .f32) (x4 : Vec F S1x640x512 .fp8e4m3) (x5 : Vec F S1x640x1 .f32) (x6 : Vec F S1x640x64 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
      ⊢ wp frame (wpE (defs₀ (F := F)) Variants.none c none) E (cc0_mla_bwd i arg2 harg2 arg3 harg3 arg4 harg4 arg5 harg5 arg6 harg6 arg7 harg7 arg8 harg8 arg9 harg9 arg10 harg10 arg11 harg11 arg12 harg12 arg13 harg13 arg14 harg14) K := by
  simp only [cc0_mla_bwd_eq_skeleton]; unfold cc0_mla_bwd_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, Hk⟩
  sl_exec (disch := first | sl_exact hc0 | sl_exact hc1 | sl_exact hc2 | sl_exact hc3 | sl_exact hc4 | sl_exact hc5)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; iexists _; isplitr; swap; · iexact H7
    ipureintro; rfl
  isplitl [H8]
  · iexists _; iexists _; isplitr; swap; · iexact H8
    ipureintro; rfl
  isplitl [H9]
  · iexists _; iexists _; isplitr; swap; · iexact H9
    ipureintro; rfl
  isplitl [H10]
  · iexists _; iexists _; isplitr; swap; · iexact H10
    ipureintro; rfl
  isplitl [H11]
  · iexists _; iexists _; isplitr; swap; · iexact H11
    ipureintro; rfl
  iexists _; iexists _; isplitr; swap; · iexact H12
  ipureintro; rfl

set_option maxHeartbeats 1200000 in
/-- Branch 2. -/
theorem bodyC (c : Dev nD) (i : grid0.Coords) (arg2 : Memref sig .tc .vmem S1x4096x576 .fp8e4m3) (harg2 : arg2.IsWhole) (arg3 : Memref sig .tc .vmem S1x4096x512 .fp8e5m2) (harg3 : arg3.IsWhole) (arg4 : Memref sig .tc .vmem S1x4096x512 .bf16) (harg4 : arg4.IsWhole) (arg5 : Memref sig .tc .vmem S1x16x8x256 .f32) (harg5 : arg5.IsWhole) (arg6 : Memref sig .tc .vmem S1x640x512 .fp8e4m3) (harg6 : arg6.IsWhole) (arg7 : Memref sig .tc .vmem S1x640x1 .f32) (harg7 : arg7.IsWhole) (arg8 : Memref sig .tc .vmem S1x640x64 .bf16) (harg8 : arg8.IsWhole) (arg9 : Memref sig .tc .vmem S1x4096x576 .bf16) (harg9 : arg9.IsWhole) (arg10 : Memref sig .tc .vmem S1x640x512 .f32) (harg10 : arg10.IsWhole) (arg11 : Memref sig .tc .vmem S1x640x64 .f32) (harg11 : arg11.IsWhole) (arg12 : Memref sig .tc .vmem S640x128 .f32) (harg12 : arg12.IsWhole) (arg13 : Memref sig .tc .vmem S640x64 .bf16) (harg13 : arg13.IsWhole) (arg14 : Memref sig .tc .vmem S576x640 .bf16) (harg14 : arg14.IsWhole) (hc0 : ¬cond0_0 i) (hc1 : ¬cond0_1 i) (hc2 : ¬cond0_2 i) (hc3 : cond0_3 i) (hc4 : ¬cond0_4 i) (hc5 : ¬cond0_5 i)
    (x0 : Vec F S1x4096x576 .fp8e4m3) (x1 : Vec F S1x4096x512 .fp8e5m2) (x2 : Vec F S1x4096x512 .bf16) (x3 : Vec F S1x16x8x256 .f32) (x4 : Vec F S1x640x512 .fp8e4m3) (x5 : Vec F S1x640x1 .f32) (x6 : Vec F S1x640x64 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
      ⊢ wp frame (wpE (defs₀ (F := F)) Variants.none c none) E (cc0_mla_bwd i arg2 harg2 arg3 harg3 arg4 harg4 arg5 harg5 arg6 harg6 arg7 harg7 arg8 harg8 arg9 harg9 arg10 harg10 arg11 harg11 arg12 harg12 arg13 harg13 arg14 harg14) K := by
  simp only [cc0_mla_bwd_eq_skeleton]; unfold cc0_mla_bwd_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, Hk⟩
  sl_exec (disch := first | sl_exact hc0 | sl_exact hc1 | sl_exact hc2 | sl_exact hc3 | sl_exact hc4 | sl_exact hc5)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; iexists _; isplitr; swap; · iexact H7
    ipureintro; rfl
  isplitl [H8]
  · iexists _; iexists _; isplitr; swap; · iexact H8
    ipureintro; rfl
  isplitl [H9]
  · iexists _; iexists _; isplitr; swap; · iexact H9
    ipureintro; rfl
  isplitl [H10]
  · iexists _; iexists _; isplitr; swap; · iexact H10
    ipureintro; rfl
  isplitl [H11]
  · iexists _; iexists _; isplitr; swap; · iexact H11
    ipureintro; rfl
  iexists _; iexists _; isplitr; swap; · iexact H12
  ipureintro; rfl

set_option maxHeartbeats 1200000 in
/-- Branch 3. -/
theorem bodyD (c : Dev nD) (i : grid0.Coords) (arg2 : Memref sig .tc .vmem S1x4096x576 .fp8e4m3) (harg2 : arg2.IsWhole) (arg3 : Memref sig .tc .vmem S1x4096x512 .fp8e5m2) (harg3 : arg3.IsWhole) (arg4 : Memref sig .tc .vmem S1x4096x512 .bf16) (harg4 : arg4.IsWhole) (arg5 : Memref sig .tc .vmem S1x16x8x256 .f32) (harg5 : arg5.IsWhole) (arg6 : Memref sig .tc .vmem S1x640x512 .fp8e4m3) (harg6 : arg6.IsWhole) (arg7 : Memref sig .tc .vmem S1x640x1 .f32) (harg7 : arg7.IsWhole) (arg8 : Memref sig .tc .vmem S1x640x64 .bf16) (harg8 : arg8.IsWhole) (arg9 : Memref sig .tc .vmem S1x4096x576 .bf16) (harg9 : arg9.IsWhole) (arg10 : Memref sig .tc .vmem S1x640x512 .f32) (harg10 : arg10.IsWhole) (arg11 : Memref sig .tc .vmem S1x640x64 .f32) (harg11 : arg11.IsWhole) (arg12 : Memref sig .tc .vmem S640x128 .f32) (harg12 : arg12.IsWhole) (arg13 : Memref sig .tc .vmem S640x64 .bf16) (harg13 : arg13.IsWhole) (arg14 : Memref sig .tc .vmem S576x640 .bf16) (harg14 : arg14.IsWhole) (hc0 : ¬cond0_0 i) (hc1 : ¬cond0_1 i) (hc2 : ¬cond0_2 i) (hc3 : ¬cond0_3 i) (hc4 : cond0_4 i) (hc5 : ¬cond0_5 i)
    (x0 : Vec F S1x4096x576 .fp8e4m3) (x1 : Vec F S1x4096x512 .fp8e5m2) (x2 : Vec F S1x4096x512 .bf16) (x3 : Vec F S1x16x8x256 .f32) (x4 : Vec F S1x640x512 .fp8e4m3) (x5 : Vec F S1x640x1 .f32) (x6 : Vec F S1x640x64 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
      ⊢ wp frame (wpE (defs₀ (F := F)) Variants.none c none) E (cc0_mla_bwd i arg2 harg2 arg3 harg3 arg4 harg4 arg5 harg5 arg6 harg6 arg7 harg7 arg8 harg8 arg9 harg9 arg10 harg10 arg11 harg11 arg12 harg12 arg13 harg13 arg14 harg14) K := by
  simp only [cc0_mla_bwd_eq_skeleton]; unfold cc0_mla_bwd_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, Hk⟩
  sl_exec (disch := first | sl_exact hc0 | sl_exact hc1 | sl_exact hc2 | sl_exact hc3 | sl_exact hc4 | sl_exact hc5)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; iexists _; isplitr; swap; · iexact H7
    ipureintro; rfl
  isplitl [H8]
  · iexists _; iexists _; isplitr; swap; · iexact H8
    ipureintro; rfl
  isplitl [H9]
  · iexists _; iexists _; isplitr; swap; · iexact H9
    ipureintro; rfl
  isplitl [H10]
  · iexists _; iexists _; isplitr; swap; · iexact H10
    ipureintro; rfl
  isplitl [H11]
  · iexists _; iexists _; isplitr; swap; · iexact H11
    ipureintro; rfl
  iexists _; iexists _; isplitr; swap; · iexact H12
  ipureintro; rfl

set_option maxHeartbeats 1200000 in
/-- Branch 4. -/
theorem bodyE (c : Dev nD) (i : grid0.Coords) (arg2 : Memref sig .tc .vmem S1x4096x576 .fp8e4m3) (harg2 : arg2.IsWhole) (arg3 : Memref sig .tc .vmem S1x4096x512 .fp8e5m2) (harg3 : arg3.IsWhole) (arg4 : Memref sig .tc .vmem S1x4096x512 .bf16) (harg4 : arg4.IsWhole) (arg5 : Memref sig .tc .vmem S1x16x8x256 .f32) (harg5 : arg5.IsWhole) (arg6 : Memref sig .tc .vmem S1x640x512 .fp8e4m3) (harg6 : arg6.IsWhole) (arg7 : Memref sig .tc .vmem S1x640x1 .f32) (harg7 : arg7.IsWhole) (arg8 : Memref sig .tc .vmem S1x640x64 .bf16) (harg8 : arg8.IsWhole) (arg9 : Memref sig .tc .vmem S1x4096x576 .bf16) (harg9 : arg9.IsWhole) (arg10 : Memref sig .tc .vmem S1x640x512 .f32) (harg10 : arg10.IsWhole) (arg11 : Memref sig .tc .vmem S1x640x64 .f32) (harg11 : arg11.IsWhole) (arg12 : Memref sig .tc .vmem S640x128 .f32) (harg12 : arg12.IsWhole) (arg13 : Memref sig .tc .vmem S640x64 .bf16) (harg13 : arg13.IsWhole) (arg14 : Memref sig .tc .vmem S576x640 .bf16) (harg14 : arg14.IsWhole) (hc0 : ¬cond0_0 i) (hc1 : ¬cond0_1 i) (hc2 : ¬cond0_2 i) (hc3 : ¬cond0_3 i) (hc4 : ¬cond0_4 i) (hc5 : cond0_5 i)
    (x0 : Vec F S1x4096x576 .fp8e4m3) (x1 : Vec F S1x4096x512 .fp8e5m2) (x2 : Vec F S1x4096x512 .bf16) (x3 : Vec F S1x16x8x256 .f32) (x4 : Vec F S1x640x512 .fp8e4m3) (x5 : Vec F S1x640x1 .f32) (x6 : Vec F S1x640x64 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
      ⊢ wp frame (wpE (defs₀ (F := F)) Variants.none c none) E (cc0_mla_bwd i arg2 harg2 arg3 harg3 arg4 harg4 arg5 harg5 arg6 harg6 arg7 harg7 arg8 harg8 arg9 harg9 arg10 harg10 arg11 harg11 arg12 harg12 arg13 harg13 arg14 harg14) K := by
  simp only [cc0_mla_bwd_eq_skeleton]; unfold cc0_mla_bwd_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, Hk⟩
  sl_exec (disch := first | sl_exact hc0 | sl_exact hc1 | sl_exact hc2 | sl_exact hc3 | sl_exact hc4 | sl_exact hc5)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; iexists _; isplitr; swap; · iexact H7
    ipureintro; rfl
  isplitl [H8]
  · iexists _; iexists _; isplitr; swap; · iexact H8
    ipureintro; rfl
  isplitl [H9]
  · iexists _; iexists _; isplitr; swap; · iexact H9
    ipureintro; rfl
  isplitl [H10]
  · iexists _; iexists _; isplitr; swap; · iexact H10
    ipureintro; rfl
  isplitl [H11]
  · iexists _; iexists _; isplitr; swap; · iexact H11
    ipureintro; rfl
  iexists _; iexists _; isplitr; swap; · iexact H12
  ipureintro; rfl

end Cert.Kernel.Hand

end
-- ==== Proof.WordFrame.lean ====
module

public import proofs.«01_k».proof.Proof.WordBody
public import Idealize.ShloMosaic.Lib.Claim

/-! # The frame of the program as written

Over any float semantics, and so over the machine's words: the program ends, its arguments are unchanged and every semaphore is at
zero. Nothing is said of what it computes: the three output windows and the scratches are taken at any contents and left at some,
and the input windows keep their blocks. -/

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data: each window's buffer at its block (the outputs' entries are not used), the scratches at something. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
  Φ _ := Pipeline.ΦA spec0 c
  q _ := fullShare
  owed _ := 0

/-- The windows of which nothing is said: the three outputs. -/
def outs (w : Fin cfg0.W) : Bool := decide (7 ≤ w.val)

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d)) ∗ (∃ d, owns (c : Thread nD τ) (ms0_1 t) fullShare ((dats m 0 c).before 1 t d)) ∗ (∃ d, owns (c : Thread nD τ) (ms0_2 t) fullShare ((dats m 0 c).before 2 t d)) ∗ (∃ d, owns (c : Thread nD τ) (ms0_3 t) fullShare ((dats m 0 c).before 3 t d)) ∗ (∃ d, owns (c : Thread nD τ) (ms0_4 t) fullShare ((dats m 0 c).before 4 t d)) ∗ (∃ d, owns (c : Thread nD τ) (ms0_5 t) fullShare ((dats m 0 c).before 5 t d)) ∗ (∃ d, owns (c : Thread nD τ) (ms0_6 t) fullShare ((dats m 0 c).before 6 t d)) ∗ (∃ X, owns (c : Thread nD τ) (ms0_7 t) fullShare X) ∗ (∃ X, owns (c : Thread nD τ) (ms0_8 t) fullShare X) ∗ (∃ X, owns (c : Thread nD τ) (ms0_9 t) fullShare X))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t) ∗ owns (c : Thread nD τ) (ms0_1 t) fullShare ((dats m 0 c).after 1 t) ∗ owns (c : Thread nD τ) (ms0_2 t) fullShare ((dats m 0 c).after 2 t) ∗ owns (c : Thread nD τ) (ms0_3 t) fullShare ((dats m 0 c).after 3 t) ∗ owns (c : Thread nD τ) (ms0_4 t) fullShare ((dats m 0 c).after 4 t) ∗ owns (c : Thread nD τ) (ms0_5 t) fullShare ((dats m 0 c).after 5 t) ∗ owns (c : Thread nD τ) (ms0_6 t) fullShare ((dats m 0 c).after 6 t) ∗ (∃ X, owns (c : Thread nD τ) (ms0_7 t) fullShare X) ∗ (∃ X, owns (c : Thread nD τ) (ms0_8 t) fullShare X) ∗ (∃ X, owns (c : Thread nD τ) (ms0_9 t) fullShare X))

set_option maxHeartbeats 1600000 in
/-- The body at the points of branch 0. -/
theorem sound_A (c : Dev nD) (t : Fin cfg0.N) (ht : t.val % 5 = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, after0_0, after0_1, after0_2, after0_3, after0_4, after0_5, after0_6]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, PhiA0_eq]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, H7, H8, H9⟩
  iapply (bodyA c (grid0.coords t) _ _ _ _ _ _ _ _ _ _ _ _ _ _ _ _ _ _ _ _ _ _ _ _ _ _ ((hcond0_0 t).mpr (by omega)) ((hcond0_1 t).mpr (by omega)) (fun h => by have := (hcond0_2 t).mp h; omega) (fun h => by have := (hcond0_3 t).mp h; omega) (fun h => by have := (hcond0_4 t).mp h; omega) (fun h => by have := (hcond0_5 t).mp h; omega) (iblk m c 0 t) (iblk m c 1 t) (iblk m c 2 t) (iblk m c 3 t) (iblk m c 4 t) (iblk m c 5 t) (iblk m c 6 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS0]; · iexact HS0
  isplitl [HS1]; · iexact HS1
  isplitl [HS2]; · iexact HS2
  iintro ⟨H0, H1, H2, H3, H4, H5, H6, H7, H8, H9, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

set_option maxHeartbeats 1600000 in
/-- The body at the points of branch 1. -/
theorem sound_B (c : Dev nD) (t : Fin cfg0.N) (ht : t.val % 5 = 1) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, after0_0, after0_1, after0_2, after0_3, after0_4, after0_5, after0_6]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, PhiA0_eq]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, H7, H8, H9⟩
  iapply (bodyB c (grid0.coords t) _ _ _ _ _ _ _ _ _ _ _ _ _ _ _ _ _ _ _ _ _ _ _ _ _ _ (fun h => by have := (hcond0_0 t).mp h; omega) (fun h => by have := (hcond0_1 t).mp h; omega) ((hcond0_2 t).mpr (by omega)) (fun h => by have := (hcond0_3 t).mp h; omega) (fun h => by have := (hcond0_4 t).mp h; omega) (fun h => by have := (hcond0_5 t).mp h; omega) (iblk m c 0 t) (iblk m c 1 t) (iblk m c 2 t) (iblk m c 3 t) (iblk m c 4 t) (iblk m c 5 t) (iblk m c 6 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS0]; · iexact HS0
  isplitl [HS1]; · iexact HS1
  isplitl [HS2]; · iexact HS2
  iintro ⟨H0, H1, H2, H3, H4, H5, H6, H7, H8, H9, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

set_option maxHeartbeats 1600000 in
/-- The body at the points of branch 2. -/
theorem sound_C (c : Dev nD) (t : Fin cfg0.N) (ht : t.val % 5 = 2) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, after0_0, after0_1, after0_2, after0_3, after0_4, after0_5, after0_6]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, PhiA0_eq]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, H7, H8, H9⟩
  iapply (bodyC c (grid0.coords t) _ _ _ _ _ _ _ _ _ _ _ _ _ _ _ _ _ _ _ _ _ _ _ _ _ _ (fun h => by have := (hcond0_0 t).mp h; omega) (fun h => by have := (hcond0_1 t).mp h; omega) (fun h => by have := (hcond0_2 t).mp h; omega) ((hcond0_3 t).mpr (by omega)) (fun h => by have := (hcond0_4 t).mp h; omega) (fun h => by have := (hcond0_5 t).mp h; omega) (iblk m c 0 t) (iblk m c 1 t) (iblk m c 2 t) (iblk m c 3 t) (iblk m c 4 t) (iblk m c 5 t) (iblk m c 6 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS0]; · iexact HS0
  isplitl [HS1]; · iexact HS1
  isplitl [HS2]; · iexact HS2
  iintro ⟨H0, H1, H2, H3, H4, H5, H6, H7, H8, H9, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

set_option maxHeartbeats 1600000 in
/-- The body at the points of branch 3. -/
theorem sound_D (c : Dev nD) (t : Fin cfg0.N) (ht : t.val % 5 = 3) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, after0_0, after0_1, after0_2, after0_3, after0_4, after0_5, after0_6]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, PhiA0_eq]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, H7, H8, H9⟩
  iapply (bodyD c (grid0.coords t) _ _ _ _ _ _ _ _ _ _ _ _ _ _ _ _ _ _ _ _ _ _ _ _ _ _ (fun h => by have := (hcond0_0 t).mp h; omega) (fun h => by have := (hcond0_1 t).mp h; omega) (fun h => by have := (hcond0_2 t).mp h; omega) (fun h => by have := (hcond0_3 t).mp h; omega) ((hcond0_4 t).mpr (by omega)) (fun h => by have := (hcond0_5 t).mp h; omega) (iblk m c 0 t) (iblk m c 1 t) (iblk m c 2 t) (iblk m c 3 t) (iblk m c 4 t) (iblk m c 5 t) (iblk m c 6 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS0]; · iexact HS0
  isplitl [HS1]; · iexact HS1
  isplitl [HS2]; · iexact HS2
  iintro ⟨H0, H1, H2, H3, H4, H5, H6, H7, H8, H9, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

set_option maxHeartbeats 1600000 in
/-- The body at the points of branch 4. -/
theorem sound_E (c : Dev nD) (t : Fin cfg0.N) (ht : t.val % 5 = 4) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, after0_0, after0_1, after0_2, after0_3, after0_4, after0_5, after0_6]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, PhiA0_eq]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, H7, H8, H9⟩
  iapply (bodyE c (grid0.coords t) _ _ _ _ _ _ _ _ _ _ _ _ _ _ _ _ _ _ _ _ _ _ _ _ _ _ (fun h => by have := (hcond0_0 t).mp h; omega) (fun h => by have := (hcond0_1 t).mp h; omega) (fun h => by have := (hcond0_2 t).mp h; omega) (fun h => by have := (hcond0_3 t).mp h; omega) (fun h => by have := (hcond0_4 t).mp h; omega) ((hcond0_5 t).mpr (by omega)) (iblk m c 0 t) (iblk m c 1 t) (iblk m c 2 t) (iblk m c 3 t) (iblk m c 4 t) (iblk m c 5 t) (iblk m c 6 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS0]; · iexact HS0
  isplitl [HS1]; · iexact HS1
  isplitl [HS2]; · iexact HS2
  iintro ⟨H0, H1, H2, H3, H4, H5, H6, H7, H8, H9, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body at any point. -/
theorem sound_body (c : Dev nD) (t : Fin cfg0.N) :
    bodyPre m c t ⊢ wp frame (wpE (defs₀ (F := F)) Variants.none c none) Set.univ (bodyAt0 t) (fun _ => bodyPost m c t) := by
  have h : t.val % 5 < 5 := Nat.mod_lt _ (by decide)
  rcases (by omega : t.val % 5 = 0 ∨ t.val % 5 = 1 ∨ t.val % 5 = 2 ∨ t.val % 5 = 3 ∨ t.val % 5 = 4) with h | h | h | h | h
  · exact sound_A m c t h
  · exact sound_B m c t h
  · exact sound_C m c t h
  · exact sound_D m c t h
  · exact sound_E m c t h

theorem defs₀_row (t : Fin cfg0.N) :
    defs₀ (F := F) .tc cfg0.body (cfg0.bodyArgs t (cfg0.slots t)) = bodyAt0 t := by
  unfold defs₀; rw [Defs.onTc_tc]

/-- The body obligation, at every point, the outputs forgotten. -/
theorem body_obligation (c : Dev nD) : BodyObligation (dats m 0 c) (defs₀ (F := F)) Variants.none () Set.univ outs := fun t => by
  rw [bigSep_W0, bigSep_W0, defs₀_row]
  exact triple_restated (sound_body m c t) rfl .rfl fun _ => .rfl

set_option backward.isDefEq.respectTransparency.types false in
/-- The launch: every run ends with the input arrays as the region found them, every semaphore at zero. -/
theorem run_main : θ_run defs (onTc (τ := τ) (main (F := F))) (s₀ m ρ)
    (fun r => Pipeline.RDat.FramePost cfg0 (fun c => (dats m 0 c).toRForget outs) (V m) r ∧ r.2.sem = fun _ => 0) :=
  Pipeline.θ_run_frame_forget (Q' := _) cfgs (dats m) (0 : Fin 1) launch0 defs₀ Variants.none outs m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program ends with its arguments unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨fun c =>
    ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      (Pipeline.RDat.FramePost.arr_in h.1 c 4 rfl).trans ((A_eq m c 4).trans (V_main_arg2 m c)),
      ((h.1 c).2 main_arg3 (Pipeline.mem_restRefs_of main_arg3 (by decide) (by decide))).trans (V_main_arg3 m c),
      (Pipeline.RDat.FramePost.arr_in h.1 c 6 rfl).trans ((A_eq m c 6).trans (V_main_arg4 m c)),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      ((h.1 c).2 main_arg8 (Pipeline.mem_restRefs_of main_arg8 (by decide) (by decide))).trans (V_main_arg8 m c)⟩, h.2⟩) (run_main m ρ)

end Cert.Kernel.Hand

end
-- ==== Proof.Runs.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Ring
public import Idealize.ShloMosaic.Lib.Tactic
public import Idealize.ShloMosaic.Lib.WordCmp

/-! # The kernel's six conditionals and its memrefs

The five branches and the preparation are chosen by the second grid coordinate alone: at point `t` that is `t % 5`. Here
are those facts, and the names of the staging memrefs and of the scratches a point's body runs on. -/

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The second grid coordinate of point `t` is `t % 5`. -/
theorem coord1 (t : Fin cfg0.N) : (grid0.coords t 1).val = t.val % 5 := by
  have ht : t.val < 15 := Nat.lt_of_lt_of_eq t.isLt N_0
  have e1 : (grid0.coords t 1).val = t.val / 1 % 5 := Pipeline.Grid.coords_val t 1 (by decide) rfl
  rw [e1, Nat.div_one]

/-- The condition of the preparation, from the grid coordinates. -/
abbrev cond0_0 (i : grid0.Coords) : Prop := k0_cond1 i = 1#1
/-- It holds at the points ≡ 0 (mod 5). -/
theorem hcond0_0 : ∀ t : Fin cfg0.N, cond0_0 (grid0.coords t) ↔ t.val % 5 = 0 := fun t => by
  have ht : t.val < 15 := Nat.lt_of_lt_of_eq t.isLt N_0
  have e1 : (grid0.coords t 1).val = t.val % 5 := coord1 t
  simp only [cond0_0, k0_cond1, e1]
  word_cmp

/-- The condition of branch 0, from the grid coordinates. -/
abbrev cond0_1 (i : grid0.Coords) : Prop := k0_cond2 i = 1#1
/-- It holds at the points ≡ 0 (mod 5). -/
theorem hcond0_1 : ∀ t : Fin cfg0.N, cond0_1 (grid0.coords t) ↔ t.val % 5 = 0 := fun t => by
  have ht : t.val < 15 := Nat.lt_of_lt_of_eq t.isLt N_0
  have e1 : (grid0.coords t 1).val = t.val % 5 := coord1 t
  simp only [cond0_1, k0_cond2, e1]
  word_cmp

/-- The condition of branch 1, from the grid coordinates. -/
abbrev cond0_2 (i : grid0.Coords) : Prop := k0_cond3 i = 1#1
/-- It holds at the points ≡ 1 (mod 5). -/
theorem hcond0_2 : ∀ t : Fin cfg0.N, cond0_2 (grid0.coords t) ↔ t.val % 5 = 1 := fun t => by
  have ht : t.val < 15 := Nat.lt_of_lt_of_eq t.isLt N_0
  have e1 : (grid0.coords t 1).val = t.val % 5 := coord1 t
  simp only [cond0_2, k0_cond3, e1]
  word_cmp

/-- The condition of branch 2, from the grid coordinates. -/
abbrev cond0_3 (i : grid0.Coords) : Prop := k0_cond4 i = 1#1
/-- It holds at the points ≡ 2 (mod 5). -/
theorem hcond0_3 : ∀ t : Fin cfg0.N, cond0_3 (grid0.coords t) ↔ t.val % 5 = 2 := fun t => by
  have ht : t.val < 15 := Nat.lt_of_lt_of_eq t.isLt N_0
  have e1 : (grid0.coords t 1).val = t.val % 5 := coord1 t
  simp only [cond0_3, k0_cond4, e1]
  word_cmp

/-- The condition of branch 3, from the grid coordinates. -/
abbrev cond0_4 (i : grid0.Coords) : Prop := k0_cond5 i = 1#1
/-- It holds at the points ≡ 3 (mod 5). -/
theorem hcond0_4 : ∀ t : Fin cfg0.N, cond0_4 (grid0.coords t) ↔ t.val % 5 = 3 := fun t => by
  have ht : t.val < 15 := Nat.lt_of_lt_of_eq t.isLt N_0
  have e1 : (grid0.coords t 1).val = t.val % 5 := coord1 t
  simp only [cond0_4, k0_cond5, e1]
  word_cmp

/-- The condition of branch 4, from the grid coordinates. -/
abbrev cond0_5 (i : grid0.Coords) : Prop := k0_cond6 i = 1#1
/-- It holds at the points ≡ 4 (mod 5). -/
theorem hcond0_5 : ∀ t : Fin cfg0.N, cond0_5 (grid0.coords t) ↔ t.val % 5 = 4 := fun t => by
  have ht : t.val < 15 := Nat.lt_of_lt_of_eq t.isLt N_0
  have e1 : (grid0.coords t 1).val = t.val % 5 := coord1 t
  simp only [cond0_5, k0_cond6, e1]
  word_cmp

/-! ## The memrefs -/

/-- Each window's current staging memref at point `t`, spelled as the pipeline passes it (`bodyAt0`), and its wholeness. -/
abbrev ms0_0 (t : Fin cfg0.N) : Memref sig .tc .vmem S1x4096x576 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x4096x512 .fp8e5m2 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x4096x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x16x8x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x640x512 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x640x1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x640x64 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x4096x576 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x640x512 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x640x64 .f32 := win0_9.stage (cfg0.slots t 9)
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S640x128 .f32 := Memref.whole cc0_scratch0
abbrev scM0_1 : Memref sig .tc .vmem S640x64 .bf16 := Memref.whole cc0_scratch1
abbrev scM0_2 : Memref sig .tc .vmem S576x640 .bf16 := Memref.whole cc0_scratch2

/-- The invariant before the first point, with the scratches as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Hand

end
-- ==== Proof.Block.lean ====
module

public import proofs.«01_k».proof.Proof.Gen.KernelIdeal.Skeleton
public import Idealize.ShloMosaic.Lib.Pointwise
public import Idealize.ShloMosaic.Lib.Pipeline.ValueKit
public import Idealize.ShloMosaic.Lib.WordCmp

@[expose] public section

set_option maxRecDepth 16384

noncomputable section

/-! # One query row against one key

What the kernel computes for one query row (one position of one head) and one key, and the three facts every
block uses: the causal mask as an inequality, a sum over the keys of a causal prefix as a sum over all keys, and
the regrouping of a sum over 512 lanes. -/

namespace Cert.KernelIdeal.Hand

open Idealize.ShloMosaic Idealize.ShloMosaic.TcCoe Idealize.SL.Sem
open Cert.KernelIdeal Cert.KernelIdeal.Gen

/-- The softmax scale `192^(-1/2)`, as the programs' constant. -/
abbrev SC : EReal := Ideal.ofBits .f32 0x3D93CD3A#32

/-- The logarithm of `e` to base 2, the kernel's named constant. -/
abbrev L2E : EReal := Named.named (F := Ideal) (φ := .f32) κ "log2_e" 0x3FB8AA3B#32

/-- A query row: its codes `q`, the output gradient `g`, the forward output `o`, its four row parameters and its
position in the sequence. -/
structure Row where
  q : Fin 576 → EReal
  g : Fin 512 → EReal
  o : Fin 512 → EReal
  qs2 : EReal
  lse : EReal
  qs : EReal
  iqs : EReal
  pos : ℕ

/-- A key: its latent codes, its rope part (already divided by the key's scale) and its position. -/
structure Key where
  c : Fin 512 → EReal
  kr : Fin 64 → EReal
  idx : ℕ

/-- A latent lane of a query row. -/
abbrev lat (d : Fin 512) : Fin 576 := ⟨d.val, by omega⟩
/-- A rope lane of a query row. -/
abbrev rope (d : Fin 64) : Fin 576 := ⟨512 + d.val, by omega⟩

/-- The row's `delta`: the scaled product of the output gradient with the forward output. -/
def Row.del (R : Row) : EReal := SC * ∑ d, R.g d * R.o d

/-- The probability of the key under the row (times the gradient's scale, carried in `lse`), zero behind the causal
mask; `e` is the key's scale. -/
def prob (R : Row) (K : Key) (e : EReal) : EReal :=
  if K.idx ≤ R.pos then
    FloatOps.exp2 (F := Ideal) (φ := .f32) ((∑ d, K.c d * R.q (lat d) + ∑ d, K.kr d * R.q (rope d)) * e * R.qs2 - R.lse)
  else 0

/-- The gradient of the score, from the probability `p`. -/
def dscOf (R : Row) (K : Key) (e p : EReal) : EReal := p * ((∑ d, K.c d * R.g d) * e - R.del) * R.qs

/-- The gradient of the score. -/
def dsc (R : Row) (K : Key) (e : EReal) : EReal := dscOf R K e (prob R K e)

theorem prob_masked (R : Row) (K : Key) (e : EReal) (h : R.pos < K.idx) : prob R K e = 0 := by
  unfold prob; rw [if_neg (by omega)]

theorem dsc_masked (R : Row) (K : Key) (e : EReal) (h : R.pos < K.idx) : dsc R K e = 0 := by
  unfold dsc dscOf; rw [prob_masked R K e h, zero_mul, zero_mul]

/-- A sum over a prefix of the keys is the sum over all of them when the rest contribute nothing. -/
theorem sum_prefix {n m : ℕ} (h : n ≤ m) (g : Fin m → EReal) (hz : ∀ j : Fin m, n ≤ j.val → g j = 0) :
    ∑ j : Fin n, g ⟨j.val, by omega⟩ = ∑ j, g j := by
  obtain ⟨k, rfl⟩ := Nat.exists_eq_add_of_le h
  rw [Fin.sum_univ_add]
  have : ∑ i : Fin k, g (Fin.natAdd n i) = 0 :=
    Finset.sum_eq_zero fun i _ => hz _ (by simp)
  rw [this, add_zero]
  rfl

/-- A sum over 512 lanes, lane by lane modulo 128. -/
theorem sum_chunks (f : Fin 512 → EReal) :
    ∑ x : Fin 128, (f ⟨x.val, by omega⟩ + f ⟨128 + x.val, by omega⟩ + f ⟨256 + x.val, by omega⟩ + f ⟨384 + x.val, by omega⟩)
      = ∑ d, f d := by
  have e : ∀ f : Fin (128 + 128 + 128 + 128) → EReal, ∑ x : Fin 128, (f ⟨x.val, by omega⟩ + f ⟨128 + x.val, by omega⟩
      + f ⟨256 + x.val, by omega⟩ + f ⟨384 + x.val, by omega⟩) = ∑ d, f d := by
    intro f
    rw [Fin.sum_univ_add, Fin.sum_univ_add, Fin.sum_univ_add, Finset.sum_add_distrib, Finset.sum_add_distrib,
      Finset.sum_add_distrib]
    rfl
  exact e f

/-- The row's position inside its tile, as the kernel divides the row number by the 32 heads (rounding down). -/
theorem floordiv_word : ∀ r : Fin 256,
    (Scalar.select
      (IntOp.andi
        (IntOp.cmpi CmpIPredicate.ne
          (IntOp.subi (BitVec.setWidth 32 (IntOp.cmpi CmpIPredicate.sgt (BitVec.ofNat 32 r.val) 0#32))
            (BitVec.setWidth 32 (IntOp.cmpi CmpIPredicate.slt (BitVec.ofNat 32 r.val) 0#32)))
          (Scalar.subi (Scalar.extui (Scalar.cmpi CmpIPredicate.sgt 32#32 0#32))
            (Scalar.extui (Scalar.cmpi CmpIPredicate.slt 32#32 0#32))))
        (IntOp.cmpi CmpIPredicate.ne (IntOp.remsi ArithUnit.vector (BitVec.ofNat 32 r.val) 32#32) 0#32))
      (IntOp.subi (IntOp.divsi ArithUnit.vector (BitVec.ofNat 32 r.val) 32#32) 1#32)
      (IntOp.divsi ArithUnit.vector (BitVec.ofNat 32 r.val) 32#32) : BitVec 32) = BitVec.ofNat 32 (r.val / 32) := by
  decide +kernel

/-- The causal mask: the key's number against the row's position `128 b + 8 k + r / 32`. -/
theorem mask_word (b k j : ℕ) (r : Fin 256) (hb : b < 5) (hk : k < 16) (hj : j < 640) :
    IntOp.cmpi CmpIPredicate.sle (BitVec.ofNat 32 j)
      (IntOp.addi (Scalar.addi (Scalar.muli (BitVec.ofNat 32 b) 128#32) (Scalar.muli (BitVec.ofNat 32 k) 8#32))
        (BitVec.ofNat 32 (r.val / 32)))
      = if j ≤ 128 * b + 8 * k + r.val / 32 then 1#1 else 0#1 := by
  have e : IntOp.addi (Scalar.addi (Scalar.muli (BitVec.ofNat 32 b) 128#32) (Scalar.muli (BitVec.ofNat 32 k) 8#32))
        (BitVec.ofNat 32 (r.val / 32)) = BitVec.ofNat 32 (128 * b + 8 * k + r.val / 32) := by
    change BitVec.ofNat 32 b * 128#32 + BitVec.ofNat 32 k * 8#32 + BitVec.ofNat 32 (r.val / 32) = _
    apply BitVec.eq_of_toNat_eq
    simp [BitVec.toNat_add, BitVec.toNat_mul, BitVec.toNat_ofNat]
    omega
  rw [e]
  word_cmp
  by_cases h : j ≤ 128 * b + 8 * k + r.val / 32 <;> simp [h]

/-- The query row of a tile, from the tile's blocks; `p0` is the tile's first position. -/
def tileRow (v22 : FVec Ideal S1x256x576 .fp8e4m3) (v25 : FVec Ideal S1x256x512 .fp8e5m2) (v36 : FVec Ideal S1x256x512 .bf16)
    (v28 : FVec Ideal S1x1x8x256 .f32) (p0 : ℕ) (r : Fin 256) : Row :=
  ⟨fun c => v22 (ix3 0 r c), fun d => v25 (ix3 0 r d), fun d => v36 (ix3 0 r d), v28 (ix4 0 0 0 r) * L2E, v28 (ix4 0 0 1 r) * L2E,
    v28 (ix4 0 0 2 r), v28 (ix4 0 0 3 r), p0 + r.val / 32⟩

/-- The lane of a 128-lane array that serves lane `r` of 256. -/
abbrev half (r : Fin 256) : Fin 128 := ⟨r.val % 128, Nat.mod_lt _ (by decide)⟩

/-- Two copies of a 128-lane value side by side. -/
theorem concat_half {α : Type} (f : Fin 128 → α) (r : Fin 256) :
    (if h : r.val < 128 then f ⟨r.val, h⟩ else f ⟨r.val - 128, by omega⟩) = f (half r) := by
  split
  · exact congrArg f (Fin.ext (Nat.mod_eq_of_lt ‹_›).symm)
  · exact congrArg f (Fin.ext (by simp; omega))

/-- The tile's `delta`. -/
theorem del_tile (v22 : FVec Ideal S1x256x576 .fp8e4m3) (v25 : FVec Ideal S1x256x512 .fp8e5m2) (v36 : FVec Ideal S1x256x512 .bf16)
    (v28 : FVec Ideal S1x1x8x256 .f32) (p0 : ℕ) (r : Fin 256) :
    k0_pay20 (F := Ideal) v25 v36 (ix2 0 r) = (tileRow v22 v25 v36 v28 p0 r).del := by
  pointwise [k0_pay20, k0_pay14]
  exact congrArg (SC * ·) (sum_chunks fun d => v25 (ix3 0 r d) * v36 (ix3 0 r d))

end Cert.KernelIdeal.Hand
end
-- ==== Proof.Point.lean ====
module

public import proofs.«01_k».proof.Proof.Block

@[expose] public section

set_option maxRecDepth 16384

noncomputable section

/-! # One grid point: 4096 query rows against 640 keys

What the kernel's body computes at one grid point, whatever the causal prefix: sums over all 640 keys, since a key behind
the mask contributes nothing. -/

namespace Cert.KernelIdeal.Hand

open Idealize.ShloMosaic Idealize.ShloMosaic.TcCoe Idealize.SL.Sem
open Cert.KernelIdeal Cert.KernelIdeal.Gen

/-- What the body reads at one grid point: the number `b` of the query block, the query codes, the output gradient, the
forward output, the row parameters and the keys' latent codes from the windows; the keys' scales, their rope parts and
the transposed keys from the scratch. -/
structure Pt where
  b : ℕ
  q : FVec Ideal S1x4096x576 .fp8e4m3
  g : FVec Ideal S1x4096x512 .fp8e5m2
  o : FVec Ideal S1x4096x512 .bf16
  rp : FVec Ideal S1x16x8x256 .f32
  c : FVec Ideal S1x640x512 .fp8e4m3
  cs : FVec Ideal S640x128 .f32
  kr : FVec Ideal S640x64 .bf16
  kt : FVec Ideal S576x640 .bf16

/-- The tile of a row. -/
abbrev tileOf (r : Fin 4096) : Fin 16 := ⟨r.val / 256, by omega⟩
/-- The row's place in its tile. -/
abbrev laneOf (r : Fin 4096) : Fin 256 := ⟨r.val % 256, by omega⟩

/-- A query row of the point. -/
def Pt.row (P : Pt) (r : Fin 4096) : Row :=
  ⟨fun c => P.q (ix3 0 r c), fun d => P.g (ix3 0 r d), fun d => P.o (ix3 0 r d), P.rp (ix4 0 (tileOf r) 0 (laneOf r)) * L2E,
    P.rp (ix4 0 (tileOf r) 1 (laneOf r)) * L2E, P.rp (ix4 0 (tileOf r) 2 (laneOf r)), P.rp (ix4 0 (tileOf r) 3 (laneOf r)),
    128 * P.b + r.val / 32⟩

/-- A key of the point. -/
def Pt.key (P : Pt) (j : Fin 640) : Key := ⟨fun d => P.c (ix3 0 j d), fun d => P.kr (ix2 j d), j.val⟩

/-- The probability of key `j` under row `r`. -/
def Pt.p (P : Pt) (r : Fin 4096) (j : Fin 640) : EReal := prob (P.row r) (P.key j) (P.cs (ix2 j (half (laneOf r))))
/-- The score gradient of key `j` under row `r`. -/
def Pt.ds (P : Pt) (r : Fin 4096) (j : Fin 640) : EReal := dsc (P.row r) (P.key j) (P.cs (ix2 j (half (laneOf r))))

/-- Row `r` of tile `k`. -/
abbrev rowAt (k : ℕ) (r : Fin 256) : Fin 4096 := ⟨(256 * k + r.val) % 4096, Nat.mod_lt _ (by decide)⟩

theorem rowAt_val {k : ℕ} (hk : k < 16) (r : Fin 256) : (rowAt k r).val = 256 * k + r.val :=
  Nat.mod_eq_of_lt (by omega)

/-- What tile `k` adds to the latent key gradient. -/
def Pt.dc (P : Pt) (k : ℕ) : FVec Ideal S1x640x512 .f32 := fun i =>
  ∑ r, P.ds (rowAt k r) (i 1) * P.q (ix3 0 (rowAt k r) (lat (i 2))) + ∑ r, P.p (rowAt k r) (i 1) * P.g (ix3 0 (rowAt k r) (i 2))

/-- What tile `k` adds to the rope key gradient. -/
def Pt.dkr (P : Pt) (k : ℕ) : FVec Ideal S1x640x64 .f32 := fun i =>
  ∑ r, P.ds (rowAt k r) (i 1) * P.q (ix3 0 (rowAt k r) (rope (i 2)))

/-- The point's query gradient. -/
def Pt.dq (P : Pt) : FVec Ideal S1x4096x576 .bf16 := fun i =>
  (∑ j, P.kt (ix2 (i 2) j) * P.ds (i 1) j) * P.rp (ix4 0 (tileOf (i 1)) 3 (laneOf (i 1)))

/-- Every key behind the block has probability zero. -/
theorem Pt.p_masked (P : Pt) (r : Fin 4096) (j : Fin 640) (h : 128 * (P.b + 1) ≤ j.val) : P.p r j = 0 :=
  prob_masked _ _ _ (by show 128 * P.b + r.val / 32 < j.val; omega)

theorem Pt.ds_masked (P : Pt) (r : Fin 4096) (j : Fin 640) (h : 128 * (P.b + 1) ≤ j.val) : P.ds r j = 0 :=
  dsc_masked _ _ _ (by show 128 * P.b + r.val / 32 < j.val; omega)

theorem Pt.dc_masked (P : Pt) (k : ℕ) (j : Fin 640) (d : Fin 512) (h : 128 * (P.b + 1) ≤ j.val) : P.dc k (ix3 0 j d) = 0 := by
  show ∑ r, P.ds (rowAt k r) j * _ + ∑ r, P.p (rowAt k r) j * _ = 0
  simp only [P.ds_masked _ j h, P.p_masked _ j h, zero_mul, Finset.sum_const_zero, add_zero]

theorem Pt.dkr_masked (P : Pt) (k : ℕ) (j : Fin 640) (d : Fin 64) (h : 128 * (P.b + 1) ≤ j.val) : P.dkr k (ix3 0 j d) = 0 := by
  show ∑ r, P.ds (rowAt k r) j * _ = 0
  simp only [P.ds_masked _ j h, zero_mul, Finset.sum_const_zero]

/-- Tile `k`'s four row blocks are those of the point. -/
structure Pt.TileOf (P : Pt) (k : ℕ) (v22 : FVec Ideal S1x256x576 .fp8e4m3) (v25 : FVec Ideal S1x256x512 .fp8e5m2)
    (v36 : FVec Ideal S1x256x512 .bf16) (v28 : FVec Ideal S1x1x8x256 .f32) : Prop where
  hk : k < 16
  q : ∀ r c, v22 (ix3 0 r c) = P.q (ix3 0 (rowAt k r) c)
  g : ∀ r c, v25 (ix3 0 r c) = P.g (ix3 0 (rowAt k r) c)
  o : ∀ r c, v36 (ix3 0 r c) = P.o (ix3 0 (rowAt k r) c)
  rp : ∀ a r, v28 (ix4 0 0 a r) = P.rp (ix4 0 ⟨k, hk⟩ a r)

theorem tileOf_rowAt {k : ℕ} (hk : k < 16) (r : Fin 256) : tileOf (rowAt k r) = ⟨k, hk⟩ :=
  Fin.ext (by show (rowAt k r).val / 256 = k; rw [rowAt_val hk]; omega)
theorem laneOf_rowAt {k : ℕ} (hk : k < 16) (r : Fin 256) : laneOf (rowAt k r) = r :=
  Fin.ext (by show (rowAt k r).val % 256 = r.val; rw [rowAt_val hk]; omega)

theorem Pt.TileOf.row {P : Pt} {k : ℕ} {v22 : FVec Ideal S1x256x576 .fp8e4m3} {v25 : FVec Ideal S1x256x512 .fp8e5m2}
    {v36 : FVec Ideal S1x256x512 .bf16} {v28 : FVec Ideal S1x1x8x256 .f32} (h : P.TileOf k v22 v25 v36 v28) (r : Fin 256) :
    tileRow v22 v25 v36 v28 (128 * P.b + 8 * k) r = P.row (rowAt k r) := by
  unfold tileRow Pt.row
  rw [tileOf_rowAt h.hk, laneOf_rowAt h.hk, rowAt_val h.hk]
  simp only [h.q, h.g, h.o, h.rp]
  congr 1
  omega

end Cert.KernelIdeal.Hand
end
-- ==== Proof.Tile.lean ====
module

public import proofs.«01_k».proof.Proof.Point

@[expose] public section

set_option maxRecDepth 16384

noncomputable section

/-! # What one tile of 256 query rows computes

For each of the five causal prefixes (128, 256, …, 640 keys): the tile's probabilities, its score gradients, and what it
adds to the latent and rope key gradients and writes of the query gradient, in terms of the point's rows and keys. -/

namespace Cert.KernelIdeal.Hand

open Idealize.ShloMosaic Idealize.ShloMosaic.TcCoe Idealize.SL.Sem
open Cert.KernelIdeal Cert.KernelIdeal.Gen

section N128
variable (a1 a15 : BitVec 32) (k : ℕ) (v22 : FVec Ideal S1x256x576 .fp8e4m3) (v25 : FVec Ideal S1x256x512 .fp8e5m2)
    (v36 : FVec Ideal S1x256x512 .bf16) (v28 : FVec Ideal S1x1x8x256 .f32) (v54 : FVec Ideal S1x128x512 .fp8e4m3)
    (v56 : FVec Ideal S128x128 .f32) (v60 : FVec Ideal S128x64 .bf16)

/-- The exponents of the tile's probabilities, as the kernel computes them. -/
abbrev x128 : FVec Ideal S128x256 .f32 :=
  k0_pay23 (F := Ideal) (k0_pay13 v22) (k0_pay16 v28) (k0_pay17 v28) (k0_pay21 v54) v56 v60

/-- The tile's probabilities, as the kernel computes them. -/
abbrev p128 : FVec Ideal S128x256 .f32 :=
  k0_pay25 (F := Ideal) (x128 v22 v28 v54 v56 v60) (k0_pay24 a1 a15)

/-- The tile's score gradients, as the kernel computes them. -/
abbrev ds128 : FVec Ideal S128x256 .bf16 :=
  k0_pay26 (F := Ideal) (k0_pay14 v25) (k0_pay18 v28) (k0_pay20 v25 v36) (k0_pay21 v54) (k0_pay22 v56) (x128 v22 v28 v54 v56 v60) (k0_pay24 a1 a15)

/-- The tile's blocks are those of the point, at the causal prefix of 128 keys. -/
structure Pt.Tile128 (P : Pt) : Prop extends P.TileOf k v22 v25 v36 v28 where
  b : P.b = 0
  a1 : a1 = BitVec.ofNat 32 0
  a15 : a15 = BitVec.ofNat 32 k
  c : ∀ (j : Fin 128) d, v54 (ix3 0 j d) = P.c (ix3 0 ⟨j.val, by omega⟩ d)
  cs : ∀ (j : Fin 128) l, v56 (ix2 j l) = P.cs (ix2 ⟨j.val, by omega⟩ l)
  kr : ∀ (j : Fin 128) d, v60 (ix2 j d) = P.kr (ix2 ⟨j.val, by omega⟩ d)

variable {a1 a15 k v22 v25 v36 v28 v54 v56 v60} {P : Pt} (h : P.Tile128 a1 a15 k v22 v25 v36 v28 v54 v56 v60)
include h

theorem p128_apply (j : Fin 128) (r : Fin 256) :
    p128 a1 a15 v22 v28 v54 v56 v60 (ix2 j r) = P.p (rowAt k r) ⟨j.val, by omega⟩ := by
  obtain rfl := h.a1
  obtain rfl := h.a15
  unfold p128 Pt.p
  rw [← h.row, laneOf_rowAt h.hk, ← h.cs]
  pointwise [k0_pay25, k0_pay24, k0_pay23, k0_pay13, k0_pay15, k0_pay16, k0_pay17, k0_pay21, k0_pay22]
  rw [floordiv_word, mask_word 0 k j.val r (by decide) h.hk (by omega), concat_half fun x => v56 (ix2 j x)]
  unfold prob Scalar.select
  simp only [h.c, h.kr]
  have e : (P.key ⟨j.val, by omega⟩).idx ≤ (tileRow v22 v25 v36 v28 (128 * P.b + 8 * k) r).pos ↔ j.val ≤ 128 * 0 + 8 * k + r.val / 32 := by
    show j.val ≤ 128 * P.b + 8 * k + r.val / 32 ↔ _
    rw [h.b]
  by_cases hm : j.val ≤ 128 * 0 + 8 * k + r.val / 32
  · rw [if_pos hm]; exact (if_pos rfl).trans (if_pos (e.mpr hm)).symm
  · rw [if_neg hm]; exact (if_neg (by decide)).trans (if_neg (fun h' => hm (e.mp h'))).symm

theorem ds128_apply (j : Fin 128) (r : Fin 256) :
    ds128 a1 a15 v22 v25 v36 v28 v54 v56 v60 (ix2 j r) = P.ds (rowAt k r) ⟨j.val, by omega⟩ := by
  unfold ds128 Pt.ds dsc
  have hp := p128_apply h j r
  have hd := del_tile v22 v25 v36 v28 (128 * P.b + 8 * k) r
  unfold Pt.p at hp
  rw [← h.row, laneOf_rowAt h.hk, ← h.cs] at hp ⊢
  unfold k0_pay26
  change k0_pay25 (F := Ideal) _ _ (ix2 j r) = _ at hp
  generalize k0_pay25 (F := Ideal) _ _ = p at hp ⊢
  change k0_pay20 (F := Ideal) v25 v36 (ix2 0 r) = _ at hd
  generalize k0_pay20 (F := Ideal) v25 v36 = D at hd ⊢
  pointwise [k0_pay14, k0_pay15, k0_pay18, k0_pay21, k0_pay22]
  rw [concat_half fun x => v56 (ix2 j x), hp, hd]
  simp only [h.c]
  rfl

/-- What the tile leaves of the latent key gradient. -/
theorem dc128_apply (v115 : FVec Ideal S1x128x512 .f32) (j : Fin 128) (d : Fin 512) (y : EReal)
    (hy : v115 (ix3 0 j d) = y) :
    k0_pay27 (F := Ideal) (k0_pay13 v22) (k0_pay14 v25) (k0_pay18 v28) (k0_pay20 v25 v36) (k0_pay21 v54) (k0_pay22 v56) (x128 v22 v28 v54 v56 v60) (k0_pay24 a1 a15) v115 (ix3 0 j d)
    = y + P.dc k (ix3 0 ⟨j.val, by omega⟩ d) := by
  have hp := p128_apply h j
  have hs := ds128_apply h j
  unfold k0_pay27
  change ∀ r, k0_pay26 (F := Ideal) _ _ _ _ _ _ _ (ix2 j r) = _ at hs
  change ∀ r, k0_pay25 (F := Ideal) _ _ (ix2 j r) = _ at hp
  generalize k0_pay26 (F := Ideal) _ _ _ _ _ _ _ = s at hs ⊢
  generalize k0_pay25 (F := Ideal) _ _ = p at hp ⊢
  pointwise [k0_pay13, k0_pay14]
  simp only [hp, hs, h.q, h.g, hy]
  rfl

/-- What the tile leaves of the rope key gradient. -/
theorem dkr128_apply (v125 : FVec Ideal S1x128x64 .f32) (j : Fin 128) (d : Fin 64) (y : EReal)
    (hy : v125 (ix3 0 j d) = y) :
    k0_pay28 (F := Ideal) (k0_pay13 v22) (k0_pay14 v25) (k0_pay18 v28) (k0_pay20 v25 v36) (k0_pay21 v54) (k0_pay22 v56) (x128 v22 v28 v54 v56 v60) (k0_pay24 a1 a15) v125 (ix3 0 j d)
    = y + P.dkr k (ix3 0 ⟨j.val, by omega⟩ d) := by
  have hs := ds128_apply h j
  unfold k0_pay28
  change ∀ r, k0_pay26 (F := Ideal) _ _ _ _ _ _ _ (ix2 j r) = _ at hs
  generalize k0_pay26 (F := Ideal) _ _ _ _ _ _ _ = s at hs ⊢
  pointwise [k0_pay13]
  simp only [hs, h.q, hy]
  rfl

/-- The tile's query gradient. -/
theorem dq128_apply (v133 : FVec Ideal S576x128 .bf16) (h133 : ∀ c (j : Fin 128), v133 (ix2 c j) = P.kt (ix2 c ⟨j.val, by omega⟩))
    (r : Fin 256) (c : Fin 576) :
    k0_pay3 (F := Ideal) (k0_pay29 (k0_pay14 v25) (k0_pay18 v28) (k0_pay19 v28) (k0_pay20 v25 v36) (k0_pay21 v54) (k0_pay22 v56) (x128 v22 v28 v54 v56 v60) (k0_pay24 a1 a15) v133) (ix3 0 r c)
    = P.dq (ix3 0 (rowAt k r) c) := by
  have hs := fun j => ds128_apply h j r
  unfold k0_pay3 k0_pay29
  change ∀ j, k0_pay26 (F := Ideal) _ _ _ _ _ _ _ (ix2 j r) = _ at hs
  generalize k0_pay26 (F := Ideal) _ _ _ _ _ _ _ = s at hs ⊢
  pointwise [k0_pay15, k0_pay19]
  simp only [hs, h133, h.rp]
  rw [sum_prefix (by decide : 128 ≤ 640) (fun j => P.kt (ix2 c j) * P.ds (rowAt k r) j)
    (fun j hj => by rw [P.ds_masked _ j (by rw [h.b]; exact hj), mul_zero])]
  unfold Pt.dq
  show _ = _ * P.rp (ix4 0 (tileOf (rowAt k r)) 3 (laneOf (rowAt k r)))
  rw [tileOf_rowAt h.hk, laneOf_rowAt h.hk]
  rfl

end N128

section N256
variable (a1 a15 : BitVec 32) (k : ℕ) (v22 : FVec Ideal S1x256x576 .fp8e4m3) (v25 : FVec Ideal S1x256x512 .fp8e5m2)
    (v36 : FVec Ideal S1x256x512 .bf16) (v28 : FVec Ideal S1x1x8x256 .f32) (v54 : FVec Ideal S1x256x512 .fp8e4m3)
    (v56 : FVec Ideal S256x128 .f32) (v60 : FVec Ideal S256x64 .bf16)

/-- The exponents of the tile's probabilities, as the kernel computes them. -/
abbrev x256 : FVec Ideal S256x256 .f32 :=
  k0_pay40 (F := Ideal) (k0_pay30 v22) (k0_pay33 v28) (k0_pay34 v28) (k0_pay38 v54) v56 v60

/-- The tile's probabilities, as the kernel computes them. -/
abbrev p256 : FVec Ideal S256x256 .f32 :=
  k0_pay42 (F := Ideal) (x256 v22 v28 v54 v56 v60) (k0_pay41 a1 a15)

/-- The tile's score gradients, as the kernel computes them. -/
abbrev ds256 : FVec Ideal S256x256 .bf16 :=
  k0_pay43 (F := Ideal) (k0_pay31 v25) (k0_pay35 v28) (k0_pay37 v25 v36) (k0_pay38 v54) (k0_pay39 v56) (x256 v22 v28 v54 v56 v60) (k0_pay41 a1 a15)

/-- The tile's blocks are those of the point, at the causal prefix of 256 keys. -/
structure Pt.Tile256 (P : Pt) : Prop extends P.TileOf k v22 v25 v36 v28 where
  b : P.b = 1
  a1 : a1 = BitVec.ofNat 32 1
  a15 : a15 = BitVec.ofNat 32 k
  c : ∀ (j : Fin 256) d, v54 (ix3 0 j d) = P.c (ix3 0 ⟨j.val, by omega⟩ d)
  cs : ∀ (j : Fin 256) l, v56 (ix2 j l) = P.cs (ix2 ⟨j.val, by omega⟩ l)
  kr : ∀ (j : Fin 256) d, v60 (ix2 j d) = P.kr (ix2 ⟨j.val, by omega⟩ d)

variable {a1 a15 k v22 v25 v36 v28 v54 v56 v60} {P : Pt} (h : P.Tile256 a1 a15 k v22 v25 v36 v28 v54 v56 v60)
include h

theorem p256_apply (j : Fin 256) (r : Fin 256) :
    p256 a1 a15 v22 v28 v54 v56 v60 (ix2 j r) = P.p (rowAt k r) ⟨j.val, by omega⟩ := by
  obtain rfl := h.a1
  obtain rfl := h.a15
  unfold p256 Pt.p
  rw [← h.row, laneOf_rowAt h.hk, ← h.cs]
  pointwise [k0_pay42, k0_pay41, k0_pay40, k0_pay30, k0_pay32, k0_pay33, k0_pay34, k0_pay38, k0_pay39]
  rw [floordiv_word, mask_word 1 k j.val r (by decide) h.hk (by omega), concat_half fun x => v56 (ix2 j x)]
  unfold prob Scalar.select
  simp only [h.c, h.kr]
  have e : (P.key ⟨j.val, by omega⟩).idx ≤ (tileRow v22 v25 v36 v28 (128 * P.b + 8 * k) r).pos ↔ j.val ≤ 128 * 1 + 8 * k + r.val / 32 := by
    show j.val ≤ 128 * P.b + 8 * k + r.val / 32 ↔ _
    rw [h.b]
  by_cases hm : j.val ≤ 128 * 1 + 8 * k + r.val / 32
  · rw [if_pos hm]; exact (if_pos rfl).trans (if_pos (e.mpr hm)).symm
  · rw [if_neg hm]; exact (if_neg (by decide)).trans (if_neg (fun h' => hm (e.mp h'))).symm

theorem ds256_apply (j : Fin 256) (r : Fin 256) :
    ds256 a1 a15 v22 v25 v36 v28 v54 v56 v60 (ix2 j r) = P.ds (rowAt k r) ⟨j.val, by omega⟩ := by
  unfold ds256 Pt.ds dsc
  have hp := p256_apply h j r
  have hd := del_tile v22 v25 v36 v28 (128 * P.b + 8 * k) r
  unfold Pt.p at hp
  rw [← h.row, laneOf_rowAt h.hk, ← h.cs] at hp ⊢
  unfold k0_pay43
  change k0_pay42 (F := Ideal) _ _ (ix2 j r) = _ at hp
  generalize k0_pay42 (F := Ideal) _ _ = p at hp ⊢
  change k0_pay37 (F := Ideal) v25 v36 (ix2 0 r) = _ at hd
  generalize k0_pay37 (F := Ideal) v25 v36 = D at hd ⊢
  pointwise [k0_pay31, k0_pay32, k0_pay35, k0_pay38, k0_pay39]
  rw [concat_half fun x => v56 (ix2 j x), hp, hd]
  simp only [h.c]
  rfl

/-- What the tile leaves of the latent key gradient. -/
theorem dc256_apply (v115 : FVec Ideal S1x256x512 .f32) (j : Fin 256) (d : Fin 512) (y : EReal)
    (hy : v115 (ix3 0 j d) = y) :
    k0_pay44 (F := Ideal) (k0_pay30 v22) (k0_pay31 v25) (k0_pay35 v28) (k0_pay37 v25 v36) (k0_pay38 v54) (k0_pay39 v56) (x256 v22 v28 v54 v56 v60) (k0_pay41 a1 a15) v115 (ix3 0 j d)
    = y + P.dc k (ix3 0 ⟨j.val, by omega⟩ d) := by
  have hp := p256_apply h j
  have hs := ds256_apply h j
  unfold k0_pay44
  change ∀ r, k0_pay43 (F := Ideal) _ _ _ _ _ _ _ (ix2 j r) = _ at hs
  change ∀ r, k0_pay42 (F := Ideal) _ _ (ix2 j r) = _ at hp
  generalize k0_pay43 (F := Ideal) _ _ _ _ _ _ _ = s at hs ⊢
  generalize k0_pay42 (F := Ideal) _ _ = p at hp ⊢
  pointwise [k0_pay30, k0_pay31]
  simp only [hp, hs, h.q, h.g, hy]
  rfl

/-- What the tile leaves of the rope key gradient. -/
theorem dkr256_apply (v125 : FVec Ideal S1x256x64 .f32) (j : Fin 256) (d : Fin 64) (y : EReal)
    (hy : v125 (ix3 0 j d) = y) :
    k0_pay45 (F := Ideal) (k0_pay30 v22) (k0_pay31 v25) (k0_pay35 v28) (k0_pay37 v25 v36) (k0_pay38 v54) (k0_pay39 v56) (x256 v22 v28 v54 v56 v60) (k0_pay41 a1 a15) v125 (ix3 0 j d)
    = y + P.dkr k (ix3 0 ⟨j.val, by omega⟩ d) := by
  have hs := ds256_apply h j
  unfold k0_pay45
  change ∀ r, k0_pay43 (F := Ideal) _ _ _ _ _ _ _ (ix2 j r) = _ at hs
  generalize k0_pay43 (F := Ideal) _ _ _ _ _ _ _ = s at hs ⊢
  pointwise [k0_pay30]
  simp only [hs, h.q, hy]
  rfl

/-- The tile's query gradient. -/
theorem dq256_apply (v133 : FVec Ideal S576x256 .bf16) (h133 : ∀ c (j : Fin 256), v133 (ix2 c j) = P.kt (ix2 c ⟨j.val, by omega⟩))
    (r : Fin 256) (c : Fin 576) :
    k0_pay4 (F := Ideal) (k0_pay46 (k0_pay31 v25) (k0_pay35 v28) (k0_pay36 v28) (k0_pay37 v25 v36) (k0_pay38 v54) (k0_pay39 v56) (x256 v22 v28 v54 v56 v60) (k0_pay41 a1 a15) v133) (ix3 0 r c)
    = P.dq (ix3 0 (rowAt k r) c) := by
  have hs := fun j => ds256_apply h j r
  unfold k0_pay4 k0_pay46
  change ∀ j, k0_pay43 (F := Ideal) _ _ _ _ _ _ _ (ix2 j r) = _ at hs
  generalize k0_pay43 (F := Ideal) _ _ _ _ _ _ _ = s at hs ⊢
  pointwise [k0_pay32, k0_pay36]
  simp only [hs, h133, h.rp]
  rw [sum_prefix (by decide : 256 ≤ 640) (fun j => P.kt (ix2 c j) * P.ds (rowAt k r) j)
    (fun j hj => by rw [P.ds_masked _ j (by rw [h.b]; exact hj), mul_zero])]
  unfold Pt.dq
  show _ = _ * P.rp (ix4 0 (tileOf (rowAt k r)) 3 (laneOf (rowAt k r)))
  rw [tileOf_rowAt h.hk, laneOf_rowAt h.hk]
  rfl

end N256

section N384
variable (a1 a15 : BitVec 32) (k : ℕ) (v22 : FVec Ideal S1x256x576 .fp8e4m3) (v25 : FVec Ideal S1x256x512 .fp8e5m2)
    (v36 : FVec Ideal S1x256x512 .bf16) (v28 : FVec Ideal S1x1x8x256 .f32) (v54 : FVec Ideal S1x384x512 .fp8e4m3)
    (v56 : FVec Ideal S384x128 .f32) (v60 : FVec Ideal S384x64 .bf16)

/-- The exponents of the tile's probabilities, as the kernel computes them. -/
abbrev x384 : FVec Ideal S384x256 .f32 :=
  k0_pay57 (F := Ideal) (k0_pay47 v22) (k0_pay50 v28) (k0_pay51 v28) (k0_pay55 v54) v56 v60

/-- The tile's probabilities, as the kernel computes them. -/
abbrev p384 : FVec Ideal S384x256 .f32 :=
  k0_pay59 (F := Ideal) (x384 v22 v28 v54 v56 v60) (k0_pay58 a1 a15)

/-- The tile's score gradients, as the kernel computes them. -/
abbrev ds384 : FVec Ideal S384x256 .bf16 :=
  k0_pay60 (F := Ideal) (k0_pay48 v25) (k0_pay52 v28) (k0_pay54 v25 v36) (k0_pay55 v54) (k0_pay56 v56) (x384 v22 v28 v54 v56 v60) (k0_pay58 a1 a15)

/-- The tile's blocks are those of the point, at the causal prefix of 384 keys. -/
structure Pt.Tile384 (P : Pt) : Prop extends P.TileOf k v22 v25 v36 v28 where
  b : P.b = 2
  a1 : a1 = BitVec.ofNat 32 2
  a15 : a15 = BitVec.ofNat 32 k
  c : ∀ (j : Fin 384) d, v54 (ix3 0 j d) = P.c (ix3 0 ⟨j.val, by omega⟩ d)
  cs : ∀ (j : Fin 384) l, v56 (ix2 j l) = P.cs (ix2 ⟨j.val, by omega⟩ l)
  kr : ∀ (j : Fin 384) d, v60 (ix2 j d) = P.kr (ix2 ⟨j.val, by omega⟩ d)

variable {a1 a15 k v22 v25 v36 v28 v54 v56 v60} {P : Pt} (h : P.Tile384 a1 a15 k v22 v25 v36 v28 v54 v56 v60)
include h

theorem p384_apply (j : Fin 384) (r : Fin 256) :
    p384 a1 a15 v22 v28 v54 v56 v60 (ix2 j r) = P.p (rowAt k r) ⟨j.val, by omega⟩ := by
  obtain rfl := h.a1
  obtain rfl := h.a15
  unfold p384 Pt.p
  rw [← h.row, laneOf_rowAt h.hk, ← h.cs]
  pointwise [k0_pay59, k0_pay58, k0_pay57, k0_pay47, k0_pay49, k0_pay50, k0_pay51, k0_pay55, k0_pay56]
  rw [floordiv_word, mask_word 2 k j.val r (by decide) h.hk (by omega), concat_half fun x => v56 (ix2 j x)]
  unfold prob Scalar.select
  simp only [h.c, h.kr]
  have e : (P.key ⟨j.val, by omega⟩).idx ≤ (tileRow v22 v25 v36 v28 (128 * P.b + 8 * k) r).pos ↔ j.val ≤ 128 * 2 + 8 * k + r.val / 32 := by
    show j.val ≤ 128 * P.b + 8 * k + r.val / 32 ↔ _
    rw [h.b]
  by_cases hm : j.val ≤ 128 * 2 + 8 * k + r.val / 32
  · rw [if_pos hm]; exact (if_pos rfl).trans (if_pos (e.mpr hm)).symm
  · rw [if_neg hm]; exact (if_neg (by decide)).trans (if_neg (fun h' => hm (e.mp h'))).symm

theorem ds384_apply (j : Fin 384) (r : Fin 256) :
    ds384 a1 a15 v22 v25 v36 v28 v54 v56 v60 (ix2 j r) = P.ds (rowAt k r) ⟨j.val, by omega⟩ := by
  unfold ds384 Pt.ds dsc
  have hp := p384_apply h j r
  have hd := del_tile v22 v25 v36 v28 (128 * P.b + 8 * k) r
  unfold Pt.p at hp
  rw [← h.row, laneOf_rowAt h.hk, ← h.cs] at hp ⊢
  unfold k0_pay60
  change k0_pay59 (F := Ideal) _ _ (ix2 j r) = _ at hp
  generalize k0_pay59 (F := Ideal) _ _ = p at hp ⊢
  change k0_pay54 (F := Ideal) v25 v36 (ix2 0 r) = _ at hd
  generalize k0_pay54 (F := Ideal) v25 v36 = D at hd ⊢
  pointwise [k0_pay48, k0_pay49, k0_pay52, k0_pay55, k0_pay56]
  rw [concat_half fun x => v56 (ix2 j x), hp, hd]
  simp only [h.c]
  rfl

/-- What the tile leaves of the latent key gradient. -/
theorem dc384_apply (v115 : FVec Ideal S1x384x512 .f32) (j : Fin 384) (d : Fin 512) (y : EReal)
    (hy : v115 (ix3 0 j d) = y) :
    k0_pay61 (F := Ideal) (k0_pay47 v22) (k0_pay48 v25) (k0_pay52 v28) (k0_pay54 v25 v36) (k0_pay55 v54) (k0_pay56 v56) (x384 v22 v28 v54 v56 v60) (k0_pay58 a1 a15) v115 (ix3 0 j d)
    = y + P.dc k (ix3 0 ⟨j.val, by omega⟩ d) := by
  have hp := p384_apply h j
  have hs := ds384_apply h j
  unfold k0_pay61
  change ∀ r, k0_pay60 (F := Ideal) _ _ _ _ _ _ _ (ix2 j r) = _ at hs
  change ∀ r, k0_pay59 (F := Ideal) _ _ (ix2 j r) = _ at hp
  generalize k0_pay60 (F := Ideal) _ _ _ _ _ _ _ = s at hs ⊢
  generalize k0_pay59 (F := Ideal) _ _ = p at hp ⊢
  pointwise [k0_pay47, k0_pay48]
  simp only [hp, hs, h.q, h.g, hy]
  rfl

/-- What the tile leaves of the rope key gradient. -/
theorem dkr384_apply (v125 : FVec Ideal S1x384x64 .f32) (j : Fin 384) (d : Fin 64) (y : EReal)
    (hy : v125 (ix3 0 j d) = y) :
    k0_pay62 (F := Ideal) (k0_pay47 v22) (k0_pay48 v25) (k0_pay52 v28) (k0_pay54 v25 v36) (k0_pay55 v54) (k0_pay56 v56) (x384 v22 v28 v54 v56 v60) (k0_pay58 a1 a15) v125 (ix3 0 j d)
    = y + P.dkr k (ix3 0 ⟨j.val, by omega⟩ d) := by
  have hs := ds384_apply h j
  unfold k0_pay62
  change ∀ r, k0_pay60 (F := Ideal) _ _ _ _ _ _ _ (ix2 j r) = _ at hs
  generalize k0_pay60 (F := Ideal) _ _ _ _ _ _ _ = s at hs ⊢
  pointwise [k0_pay47]
  simp only [hs, h.q, hy]
  rfl

/-- The tile's query gradient. -/
theorem dq384_apply (v133 : FVec Ideal S576x384 .bf16) (h133 : ∀ c (j : Fin 384), v133 (ix2 c j) = P.kt (ix2 c ⟨j.val, by omega⟩))
    (r : Fin 256) (c : Fin 576) :
    k0_pay5 (F := Ideal) (k0_pay63 (k0_pay48 v25) (k0_pay52 v28) (k0_pay53 v28) (k0_pay54 v25 v36) (k0_pay55 v54) (k0_pay56 v56) (x384 v22 v28 v54 v56 v60) (k0_pay58 a1 a15) v133) (ix3 0 r c)
    = P.dq (ix3 0 (rowAt k r) c) := by
  have hs := fun j => ds384_apply h j r
  unfold k0_pay5 k0_pay63
  change ∀ j, k0_pay60 (F := Ideal) _ _ _ _ _ _ _ (ix2 j r) = _ at hs
  generalize k0_pay60 (F := Ideal) _ _ _ _ _ _ _ = s at hs ⊢
  pointwise [k0_pay49, k0_pay53]
  simp only [hs, h133, h.rp]
  rw [sum_prefix (by decide : 384 ≤ 640) (fun j => P.kt (ix2 c j) * P.ds (rowAt k r) j)
    (fun j hj => by rw [P.ds_masked _ j (by rw [h.b]; exact hj), mul_zero])]
  unfold Pt.dq
  show _ = _ * P.rp (ix4 0 (tileOf (rowAt k r)) 3 (laneOf (rowAt k r)))
  rw [tileOf_rowAt h.hk, laneOf_rowAt h.hk]
  rfl

end N384

section N512
variable (a1 a15 : BitVec 32) (k : ℕ) (v22 : FVec Ideal S1x256x576 .fp8e4m3) (v25 : FVec Ideal S1x256x512 .fp8e5m2)
    (v36 : FVec Ideal S1x256x512 .bf16) (v28 : FVec Ideal S1x1x8x256 .f32) (v54 : FVec Ideal S1x512x512 .fp8e4m3)
    (v56 : FVec Ideal S512x128 .f32) (v60 : FVec Ideal S512x64 .bf16)

/-- The exponents of the tile's probabilities, as the kernel computes them. -/
abbrev x512 : FVec Ideal S512x256 .f32 :=
  k0_pay74 (F := Ideal) (k0_pay64 v22) (k0_pay67 v28) (k0_pay68 v28) (k0_pay72 v54) v56 v60

/-- The tile's probabilities, as the kernel computes them. -/
abbrev p512 : FVec Ideal S512x256 .f32 :=
  k0_pay76 (F := Ideal) (x512 v22 v28 v54 v56 v60) (k0_pay75 a1 a15)

/-- The tile's score gradients, as the kernel computes them. -/
abbrev ds512 : FVec Ideal S512x256 .bf16 :=
  k0_pay77 (F := Ideal) (k0_pay65 v25) (k0_pay69 v28) (k0_pay71 v25 v36) (k0_pay72 v54) (k0_pay73 v56) (x512 v22 v28 v54 v56 v60) (k0_pay75 a1 a15)

/-- The tile's blocks are those of the point, at the causal prefix of 512 keys. -/
structure Pt.Tile512 (P : Pt) : Prop extends P.TileOf k v22 v25 v36 v28 where
  b : P.b = 3
  a1 : a1 = BitVec.ofNat 32 3
  a15 : a15 = BitVec.ofNat 32 k
  c : ∀ (j : Fin 512) d, v54 (ix3 0 j d) = P.c (ix3 0 ⟨j.val, by omega⟩ d)
  cs : ∀ (j : Fin 512) l, v56 (ix2 j l) = P.cs (ix2 ⟨j.val, by omega⟩ l)
  kr : ∀ (j : Fin 512) d, v60 (ix2 j d) = P.kr (ix2 ⟨j.val, by omega⟩ d)

variable {a1 a15 k v22 v25 v36 v28 v54 v56 v60} {P : Pt} (h : P.Tile512 a1 a15 k v22 v25 v36 v28 v54 v56 v60)
include h

theorem p512_apply (j : Fin 512) (r : Fin 256) :
    p512 a1 a15 v22 v28 v54 v56 v60 (ix2 j r) = P.p (rowAt k r) ⟨j.val, by omega⟩ := by
  obtain rfl := h.a1
  obtain rfl := h.a15
  unfold p512 Pt.p
  rw [← h.row, laneOf_rowAt h.hk, ← h.cs]
  pointwise [k0_pay76, k0_pay75, k0_pay74, k0_pay64, k0_pay66, k0_pay67, k0_pay68, k0_pay72, k0_pay73]
  rw [floordiv_word, mask_word 3 k j.val r (by decide) h.hk (by omega), concat_half fun x => v56 (ix2 j x)]
  unfold prob Scalar.select
  simp only [h.c, h.kr]
  have e : (P.key ⟨j.val, by omega⟩).idx ≤ (tileRow v22 v25 v36 v28 (128 * P.b + 8 * k) r).pos ↔ j.val ≤ 128 * 3 + 8 * k + r.val / 32 := by
    show j.val ≤ 128 * P.b + 8 * k + r.val / 32 ↔ _
    rw [h.b]
  by_cases hm : j.val ≤ 128 * 3 + 8 * k + r.val / 32
  · rw [if_pos hm]; exact (if_pos rfl).trans (if_pos (e.mpr hm)).symm
  · rw [if_neg hm]; exact (if_neg (by decide)).trans (if_neg (fun h' => hm (e.mp h'))).symm

theorem ds512_apply (j : Fin 512) (r : Fin 256) :
    ds512 a1 a15 v22 v25 v36 v28 v54 v56 v60 (ix2 j r) = P.ds (rowAt k r) ⟨j.val, by omega⟩ := by
  unfold ds512 Pt.ds dsc
  have hp := p512_apply h j r
  have hd := del_tile v22 v25 v36 v28 (128 * P.b + 8 * k) r
  unfold Pt.p at hp
  rw [← h.row, laneOf_rowAt h.hk, ← h.cs] at hp ⊢
  unfold k0_pay77
  change k0_pay76 (F := Ideal) _ _ (ix2 j r) = _ at hp
  generalize k0_pay76 (F := Ideal) _ _ = p at hp ⊢
  change k0_pay71 (F := Ideal) v25 v36 (ix2 0 r) = _ at hd
  generalize k0_pay71 (F := Ideal) v25 v36 = D at hd ⊢
  pointwise [k0_pay65, k0_pay66, k0_pay69, k0_pay72, k0_pay73]
  rw [concat_half fun x => v56 (ix2 j x), hp, hd]
  simp only [h.c]
  rfl

/-- What the tile leaves of the latent key gradient. -/
theorem dc512_apply (v115 : FVec Ideal S1x512x512 .f32) (j : Fin 512) (d : Fin 512) (y : EReal)
    (hy : v115 (ix3 0 j d) = y) :
    k0_pay78 (F := Ideal) (k0_pay64 v22) (k0_pay65 v25) (k0_pay69 v28) (k0_pay71 v25 v36) (k0_pay72 v54) (k0_pay73 v56) (x512 v22 v28 v54 v56 v60) (k0_pay75 a1 a15) v115 (ix3 0 j d)
    = y + P.dc k (ix3 0 ⟨j.val, by omega⟩ d) := by
  have hp := p512_apply h j
  have hs := ds512_apply h j
  unfold k0_pay78
  change ∀ r, k0_pay77 (F := Ideal) _ _ _ _ _ _ _ (ix2 j r) = _ at hs
  change ∀ r, k0_pay76 (F := Ideal) _ _ (ix2 j r) = _ at hp
  generalize k0_pay77 (F := Ideal) _ _ _ _ _ _ _ = s at hs ⊢
  generalize k0_pay76 (F := Ideal) _ _ = p at hp ⊢
  pointwise [k0_pay64, k0_pay65]
  simp only [hp, hs, h.q, h.g, hy]
  rfl

/-- What the tile leaves of the rope key gradient. -/
theorem dkr512_apply (v125 : FVec Ideal S1x512x64 .f32) (j : Fin 512) (d : Fin 64) (y : EReal)
    (hy : v125 (ix3 0 j d) = y) :
    k0_pay79 (F := Ideal) (k0_pay64 v22) (k0_pay65 v25) (k0_pay69 v28) (k0_pay71 v25 v36) (k0_pay72 v54) (k0_pay73 v56) (x512 v22 v28 v54 v56 v60) (k0_pay75 a1 a15) v125 (ix3 0 j d)
    = y + P.dkr k (ix3 0 ⟨j.val, by omega⟩ d) := by
  have hs := ds512_apply h j
  unfold k0_pay79
  change ∀ r, k0_pay77 (F := Ideal) _ _ _ _ _ _ _ (ix2 j r) = _ at hs
  generalize k0_pay77 (F := Ideal) _ _ _ _ _ _ _ = s at hs ⊢
  pointwise [k0_pay64]
  simp only [hs, h.q, hy]
  rfl

/-- The tile's query gradient. -/
theorem dq512_apply (v133 : FVec Ideal S576x512 .bf16) (h133 : ∀ c (j : Fin 512), v133 (ix2 c j) = P.kt (ix2 c ⟨j.val, by omega⟩))
    (r : Fin 256) (c : Fin 576) :
    k0_pay6 (F := Ideal) (k0_pay80 (k0_pay65 v25) (k0_pay69 v28) (k0_pay70 v28) (k0_pay71 v25 v36) (k0_pay72 v54) (k0_pay73 v56) (x512 v22 v28 v54 v56 v60) (k0_pay75 a1 a15) v133) (ix3 0 r c)
    = P.dq (ix3 0 (rowAt k r) c) := by
  have hs := fun j => ds512_apply h j r
  unfold k0_pay6 k0_pay80
  change ∀ j, k0_pay77 (F := Ideal) _ _ _ _ _ _ _ (ix2 j r) = _ at hs
  generalize k0_pay77 (F := Ideal) _ _ _ _ _ _ _ = s at hs ⊢
  pointwise [k0_pay66, k0_pay70]
  simp only [hs, h133, h.rp]
  rw [sum_prefix (by decide : 512 ≤ 640) (fun j => P.kt (ix2 c j) * P.ds (rowAt k r) j)
    (fun j hj => by rw [P.ds_masked _ j (by rw [h.b]; exact hj), mul_zero])]
  unfold Pt.dq
  show _ = _ * P.rp (ix4 0 (tileOf (rowAt k r)) 3 (laneOf (rowAt k r)))
  rw [tileOf_rowAt h.hk, laneOf_rowAt h.hk]
  rfl

end N512

section N640
variable (a1 a15 : BitVec 32) (k : ℕ) (v22 : FVec Ideal S1x256x576 .fp8e4m3) (v25 : FVec Ideal S1x256x512 .fp8e5m2)
    (v36 : FVec Ideal S1x256x512 .bf16) (v28 : FVec Ideal S1x1x8x256 .f32) (v54 : FVec Ideal S1x640x512 .fp8e4m3)
    (v56 : FVec Ideal S640x128 .f32) (v60 : FVec Ideal S640x64 .bf16)

/-- The exponents of the tile's probabilities, as the kernel computes them. -/
abbrev x640 : FVec Ideal S640x256 .f32 :=
  k0_pay91 (F := Ideal) (k0_pay81 v22) (k0_pay84 v28) (k0_pay85 v28) (k0_pay89 v54) v56 v60

/-- The tile's probabilities, as the kernel computes them. -/
abbrev p640 : FVec Ideal S640x256 .f32 :=
  k0_pay93 (F := Ideal) (x640 v22 v28 v54 v56 v60) (k0_pay92 a1 a15)

/-- The tile's score gradients, as the kernel computes them. -/
abbrev ds640 : FVec Ideal S640x256 .bf16 :=
  k0_pay94 (F := Ideal) (k0_pay82 v25) (k0_pay86 v28) (k0_pay88 v25 v36) (k0_pay89 v54) (k0_pay90 v56) (x640 v22 v28 v54 v56 v60) (k0_pay92 a1 a15)

/-- The tile's blocks are those of the point, at the causal prefix of 640 keys. -/
structure Pt.Tile640 (P : Pt) : Prop extends P.TileOf k v22 v25 v36 v28 where
  b : P.b = 4
  a1 : a1 = BitVec.ofNat 32 4
  a15 : a15 = BitVec.ofNat 32 k
  c : ∀ (j : Fin 640) d, v54 (ix3 0 j d) = P.c (ix3 0 ⟨j.val, by omega⟩ d)
  cs : ∀ (j : Fin 640) l, v56 (ix2 j l) = P.cs (ix2 ⟨j.val, by omega⟩ l)
  kr : ∀ (j : Fin 640) d, v60 (ix2 j d) = P.kr (ix2 ⟨j.val, by omega⟩ d)

variable {a1 a15 k v22 v25 v36 v28 v54 v56 v60} {P : Pt} (h : P.Tile640 a1 a15 k v22 v25 v36 v28 v54 v56 v60)
include h

theorem p640_apply (j : Fin 640) (r : Fin 256) :
    p640 a1 a15 v22 v28 v54 v56 v60 (ix2 j r) = P.p (rowAt k r) ⟨j.val, by omega⟩ := by
  obtain rfl := h.a1
  obtain rfl := h.a15
  unfold p640 Pt.p
  rw [← h.row, laneOf_rowAt h.hk, ← h.cs]
  pointwise [k0_pay93, k0_pay92, k0_pay91, k0_pay81, k0_pay83, k0_pay84, k0_pay85, k0_pay89, k0_pay90]
  rw [floordiv_word, mask_word 4 k j.val r (by decide) h.hk (by omega), concat_half fun x => v56 (ix2 j x)]
  unfold prob Scalar.select
  simp only [h.c, h.kr]
  have e : (P.key ⟨j.val, by omega⟩).idx ≤ (tileRow v22 v25 v36 v28 (128 * P.b + 8 * k) r).pos ↔ j.val ≤ 128 * 4 + 8 * k + r.val / 32 := by
    show j.val ≤ 128 * P.b + 8 * k + r.val / 32 ↔ _
    rw [h.b]
  by_cases hm : j.val ≤ 128 * 4 + 8 * k + r.val / 32
  · rw [if_pos hm]; exact (if_pos rfl).trans (if_pos (e.mpr hm)).symm
  · rw [if_neg hm]; exact (if_neg (by decide)).trans (if_neg (fun h' => hm (e.mp h'))).symm

theorem ds640_apply (j : Fin 640) (r : Fin 256) :
    ds640 a1 a15 v22 v25 v36 v28 v54 v56 v60 (ix2 j r) = P.ds (rowAt k r) ⟨j.val, by omega⟩ := by
  unfold ds640 Pt.ds dsc
  have hp := p640_apply h j r
  have hd := del_tile v22 v25 v36 v28 (128 * P.b + 8 * k) r
  unfold Pt.p at hp
  rw [← h.row, laneOf_rowAt h.hk, ← h.cs] at hp ⊢
  unfold k0_pay94
  change k0_pay93 (F := Ideal) _ _ (ix2 j r) = _ at hp
  generalize k0_pay93 (F := Ideal) _ _ = p at hp ⊢
  change k0_pay88 (F := Ideal) v25 v36 (ix2 0 r) = _ at hd
  generalize k0_pay88 (F := Ideal) v25 v36 = D at hd ⊢
  pointwise [k0_pay82, k0_pay83, k0_pay86, k0_pay89, k0_pay90]
  rw [concat_half fun x => v56 (ix2 j x), hp, hd]
  simp only [h.c]
  rfl

/-- What the tile leaves of the latent key gradient. -/
theorem dc640_apply (v115 : FVec Ideal S1x640x512 .f32) (j : Fin 640) (d : Fin 512) (y : EReal)
    (hy : v115 (ix3 0 j d) = y) :
    k0_pay95 (F := Ideal) (k0_pay81 v22) (k0_pay82 v25) (k0_pay86 v28) (k0_pay88 v25 v36) (k0_pay89 v54) (k0_pay90 v56) (x640 v22 v28 v54 v56 v60) (k0_pay92 a1 a15) v115 (ix3 0 j d)
    = y + P.dc k (ix3 0 ⟨j.val, by omega⟩ d) := by
  have hp := p640_apply h j
  have hs := ds640_apply h j
  unfold k0_pay95
  change ∀ r, k0_pay94 (F := Ideal) _ _ _ _ _ _ _ (ix2 j r) = _ at hs
  change ∀ r, k0_pay93 (F := Ideal) _ _ (ix2 j r) = _ at hp
  generalize k0_pay94 (F := Ideal) _ _ _ _ _ _ _ = s at hs ⊢
  generalize k0_pay93 (F := Ideal) _ _ = p at hp ⊢
  pointwise [k0_pay81, k0_pay82]
  simp only [hp, hs, h.q, h.g, hy]
  rfl

/-- What the tile leaves of the rope key gradient. -/
theorem dkr640_apply (v125 : FVec Ideal S1x640x64 .f32) (j : Fin 640) (d : Fin 64) (y : EReal)
    (hy : v125 (ix3 0 j d) = y) :
    k0_pay96 (F := Ideal) (k0_pay81 v22) (k0_pay82 v25) (k0_pay86 v28) (k0_pay88 v25 v36) (k0_pay89 v54) (k0_pay90 v56) (x640 v22 v28 v54 v56 v60) (k0_pay92 a1 a15) v125 (ix3 0 j d)
    = y + P.dkr k (ix3 0 ⟨j.val, by omega⟩ d) := by
  have hs := ds640_apply h j
  unfold k0_pay96
  change ∀ r, k0_pay94 (F := Ideal) _ _ _ _ _ _ _ (ix2 j r) = _ at hs
  generalize k0_pay94 (F := Ideal) _ _ _ _ _ _ _ = s at hs ⊢
  pointwise [k0_pay81]
  simp only [hs, h.q, hy]
  rfl

/-- The tile's query gradient. -/
theorem dq640_apply (v133 : FVec Ideal S576x640 .bf16) (h133 : ∀ c (j : Fin 640), v133 (ix2 c j) = P.kt (ix2 c ⟨j.val, by omega⟩))
    (r : Fin 256) (c : Fin 576) :
    k0_pay7 (F := Ideal) (k0_pay97 (k0_pay82 v25) (k0_pay86 v28) (k0_pay87 v28) (k0_pay88 v25 v36) (k0_pay89 v54) (k0_pay90 v56) (x640 v22 v28 v54 v56 v60) (k0_pay92 a1 a15) v133) (ix3 0 r c)
    = P.dq (ix3 0 (rowAt k r) c) := by
  have hs := fun j => ds640_apply h j r
  unfold k0_pay7 k0_pay97
  change ∀ j, k0_pay94 (F := Ideal) _ _ _ _ _ _ _ (ix2 j r) = _ at hs
  generalize k0_pay94 (F := Ideal) _ _ _ _ _ _ _ = s at hs ⊢
  pointwise [k0_pay83, k0_pay87]
  simp only [hs, h133, h.rp]
  rw [sum_prefix (by decide : 640 ≤ 640) (fun j => P.kt (ix2 c j) * P.ds (rowAt k r) j)
    (fun j hj => by rw [P.ds_masked _ j (by rw [h.b]; exact hj), mul_zero])]
  unfold Pt.dq
  show _ = _ * P.rp (ix4 0 (tileOf (rowAt k r)) 3 (laneOf (rowAt k r)))
  rw [tileOf_rowAt h.hk, laneOf_rowAt h.hk]
  rfl

end N640

end Cert.KernelIdeal.Hand
end
-- ==== Proof.Trip.lean ====
module

public import proofs.«01_k».proof.Proof.Tile
public import proofs.«01_k».proof.Proof.Gen.KernelIdeal.Loops
public import Idealize.ShloMosaic.Lib.WritesUnit

@[expose] public section

set_option maxRecDepth 16384

noncomputable section

/-! # The loop over the sixteen tiles

For each causal prefix: what one trip leaves in the three output blocks, and what all sixteen leave. -/

namespace Cert.KernelIdeal.Hand

open Idealize.ShloMosaic Idealize.ShloMosaic.TcCoe Idealize.SL.Sem
open Cert.KernelIdeal Cert.KernelIdeal.Gen

/-- A load at a unit-stride rectangle reads the view at the offset plus the index. -/
theorem readAt_at {sig : RefSig} {κ : Kind} {sp : Space} {s : Shape} {e : EltTy} {Val : EltTy → Type} (v : View sig κ sp s e)
    (f : v.ty.Contents Val) {off off' size : Fin s.rank → ℕ} (inb : ∀ a, off a + size a ≤ s.size a) (h : off = off')
    (x : (Rect.unit off size inb).shape.Idx) (y : s.Idx) (hx : ∀ a, (y a).val = off' a + (x a).val) :
    v.readAt Val (Rect.unit off size inb).toLoadRect f x = v.read Val f y := by
  subst h
  exact congrArg (v.read Val f) (funext fun a => Fin.ext (by
    show off a + 1 * (x a).val = (y a).val
    rw [hx a, Nat.one_mul]))

theorem at2 {p : Fin 2 → Prop} (h0 : p 0) (h1 : p 1) : ∀ a, p a := by
  intro a
  match a with
  | 0 => exact h0
  | 1 => exact h1
theorem at3 {p : Fin 3 → Prop} (h0 : p 0) (h1 : p 1) (h2 : p 2) : ∀ a, p a := by
  intro a
  match a with
  | 0 => exact h0
  | 1 => exact h1
  | 2 => exact h2
theorem at4 {p : Fin 4 → Prop} (h0 : p 0) (h1 : p 1) (h2 : p 2) (h3 : p 3) : ∀ a, p a := by
  intro a
  match a with
  | 0 => exact h0
  | 1 => exact h1
  | 2 => exact h2
  | 3 => exact h3

/-- The loop's induction variable, as a word. -/
theorem iv_word (k : ℕ) : Scf.iv 0#32 1#32 k = BitVec.ofNat 32 k := by
  simp [Scf.iv]

/-- One trip: it writes the query gradient of its own rows and leaves the others, and adds its contributions to the two key
gradients. -/
structure Trip (P : Pt) (k : ℕ) (g9 : FVec Ideal S1x4096x576 .bf16) (g10 : FVec Ideal S1x640x512 .f32) (g11 : FVec Ideal S1x640x64 .f32)
    (r9 : FVec Ideal S1x4096x576 .bf16) (r10 : FVec Ideal S1x640x512 .f32) (r11 : FVec Ideal S1x640x64 .f32) : Prop where
  own : ∀ (r : Fin 4096) c, 256 * k ≤ r.val ∧ r.val < 256 * k + 256 → r9 (ix3 0 r c) = P.dq (ix3 0 r c)
  other : ∀ (r : Fin 4096) c, r.val < 256 * k ∨ 256 * k + 256 ≤ r.val → r9 (ix3 0 r c) = g9 (ix3 0 r c)
  dc : ∀ j d, r10 (ix3 0 j d) = g10 (ix3 0 j d) + P.dc k (ix3 0 j d)
  dkr : ∀ j d, r11 (ix3 0 j d) = g11 (ix3 0 j d) + P.dkr k (ix3 0 j d)

/-- What the point adds to the latent key gradient. -/
def Pt.dcAll (P : Pt) : FVec Ideal S1x640x512 .f32 := fun i => ∑ k ∈ Finset.range 16, P.dc k i
/-- What the point adds to the rope key gradient. -/
def Pt.dkrAll (P : Pt) : FVec Ideal S1x640x64 .f32 := fun i => ∑ k ∈ Finset.range 16, P.dkr k i

/-- All sixteen trips. -/
structure Whole (P : Pt) (g10 : FVec Ideal S1x640x512 .f32) (g11 : FVec Ideal S1x640x64 .f32)
    (r9 : FVec Ideal S1x4096x576 .bf16) (r10 : FVec Ideal S1x640x512 .f32) (r11 : FVec Ideal S1x640x64 .f32) : Prop where
  dq : r9 = P.dq
  dc : r10 = fun i => g10 i + P.dcAll i
  dkr : r11 = fun i => g11 i + P.dkrAll i

/-- Sixteen trips in a row. -/
theorem Trip.whole {P : Pt} (r9 : ℕ → FVec Ideal S1x4096x576 .bf16) (r10 : ℕ → FVec Ideal S1x640x512 .f32)
    (r11 : ℕ → FVec Ideal S1x640x64 .f32)
    (h : ∀ k, k < 16 → Trip P k (r9 k) (r10 k) (r11 k) (r9 (k + 1)) (r10 (k + 1)) (r11 (k + 1))) :
    Whole P (r10 0) (r11 0) (r9 16) (r10 16) (r11 16) := by
  have key : ∀ k, k ≤ 16 → (∀ (r : Fin 4096) c, r.val < 256 * k → r9 k (ix3 0 r c) = P.dq (ix3 0 r c))
      ∧ (∀ j d, r10 k (ix3 0 j d) = r10 0 (ix3 0 j d) + ∑ s ∈ Finset.range k, P.dc s (ix3 0 j d))
      ∧ (∀ j d, r11 k (ix3 0 j d) = r11 0 (ix3 0 j d) + ∑ s ∈ Finset.range k, P.dkr s (ix3 0 j d)) := by
    intro k
    induction k with
    | zero => exact fun _ => ⟨fun r c hr => by omega, fun j d => by simp, fun j d => by simp⟩
    | succ k ih =>
      intro hk
      obtain ⟨i9, i10, i11⟩ := ih (by omega)
      have hs := h k (by omega)
      refine ⟨fun r c hr => ?_, fun j d => ?_, fun j d => ?_⟩
      · by_cases h' : r.val < 256 * k
        · rw [hs.other r c (.inl h'), i9 r c h']
        · exact hs.own r c ⟨by omega, by omega⟩
      · rw [hs.dc, i10, Finset.sum_range_succ, add_assoc]
      · rw [hs.dkr, i11, Finset.sum_range_succ, add_assoc]
  obtain ⟨k9, k10, k11⟩ := key 16 le_rfl
  refine ⟨?_, ?_, ?_⟩ <;> funext i <;> idx_vars i
  · rw [Subsingleton.elim i0 0]; exact k9 i1 i2 (by omega)
  · rw [Subsingleton.elim i0 0]; exact k10 i1 i2
  · rw [Subsingleton.elim i0 0]; exact k11 i1 i2

variable (𝒱 : Variants) (c : Dev nD) (bd : Option 𝒱.V) (i : grid0.Coords)
  (arg2 : Memref sig .tc .vmem S1x4096x576 .fp8e4m3) (harg2 : arg2.IsWhole)
  (arg3 : Memref sig .tc .vmem S1x4096x512 .fp8e5m2) (harg3 : arg3.IsWhole)
  (arg4 : Memref sig .tc .vmem S1x4096x512 .bf16) (harg4 : arg4.IsWhole)
  (arg5 : Memref sig .tc .vmem S1x16x8x256 .f32) (harg5 : arg5.IsWhole)
  (arg6 : Memref sig .tc .vmem S1x640x512 .fp8e4m3) (harg6 : arg6.IsWhole)
  (arg7 : Memref sig .tc .vmem S1x640x1 .f32) (harg7 : arg7.IsWhole)
  (arg8 : Memref sig .tc .vmem S1x640x64 .bf16) (harg8 : arg8.IsWhole)
  (arg9 : Memref sig .tc .vmem S1x4096x576 .bf16) (harg9 : arg9.IsWhole)
  (arg10 : Memref sig .tc .vmem S1x640x512 .f32) (harg10 : arg10.IsWhole)
  (arg11 : Memref sig .tc .vmem S1x640x64 .f32) (harg11 : arg11.IsWhole)
  (arg12 : Memref sig .tc .vmem S640x128 .f32) (harg12 : arg12.IsWhole)
  (arg13 : Memref sig .tc .vmem S640x64 .bf16) (harg13 : arg13.IsWhole)
  (arg14 : Memref sig .tc .vmem S576x640 .bf16) (harg14 : arg14.IsWhole)
  (arg1 : BitVec 32)
  (X_arg2 : BufTy.Contents (Elt Ideal) arg2.view.ty)
  (X_arg3 : BufTy.Contents (Elt Ideal) arg3.view.ty)
  (X_arg4 : BufTy.Contents (Elt Ideal) arg4.view.ty)
  (X_arg5 : BufTy.Contents (Elt Ideal) arg5.view.ty)
  (X_arg6 : BufTy.Contents (Elt Ideal) arg6.view.ty)
  (X_arg12 : BufTy.Contents (Elt Ideal) arg12.view.ty)
  (X_arg13 : BufTy.Contents (Elt Ideal) arg13.view.ty)
  (X_arg14 : BufTy.Contents (Elt Ideal) arg14.view.ty)

section N128
variable (hc : k0_cond2 i = 1#1)

theorem trips1 : k0_t1_loop.trips = 16 := by decide +kernel
theorem off1 : ∀ k : Fin k0_t1_loop.trips, k0_off1 k = ![0, 256 * k.val, 0] := by decide +kernel
theorem off2 : ∀ k : Fin k0_t1_loop.trips, k0_off2 k = ![0, 256 * k.val, 0] := by decide +kernel
theorem off3 : ∀ k : Fin k0_t1_loop.trips, k0_off3 k = ![0, k.val, 0, 0] := by decide +kernel

variable {P : Pt} (hb : P.b = 0) (ha1 : arg1 = BitVec.ofNat 32 0)
  (h2 : arg2.view.read (Elt Ideal) X_arg2 = P.q)
  (h3 : arg3.view.read (Elt Ideal) X_arg3 = P.g)
  (h4 : arg4.view.read (Elt Ideal) X_arg4 = P.o)
  (h5 : arg5.view.read (Elt Ideal) X_arg5 = P.rp)
  (h6 : arg6.view.read (Elt Ideal) X_arg6 = P.c)
  (h12 : arg12.view.read (Elt Ideal) X_arg12 = P.cs)
  (h13 : arg13.view.read (Elt Ideal) X_arg13 = P.kr)
  (h14 : arg14.view.read (Elt Ideal) X_arg14 = P.kt)

include hb ha1 h2 h3 h4 h5 h6 h12 h13 in
/-- The blocks trip `k` loads are the point's. -/
theorem tile128 (k : Fin k0_t1_loop.trips) : P.Tile128 arg1 (trip_k0_t1.sl.arg15 k) k.val
    (View.readAt (Elt Ideal) arg2.view (Rect.unit (s := S1x4096x576) (k0_off1 k) S1x256x576.size (k0_off1_inb i k hc)).toLoadRect X_arg2)
    (View.readAt (Elt Ideal) arg3.view (Rect.unit (s := S1x4096x512) (k0_off2 k) S1x256x512.size (k0_off2_inb i k hc)).toLoadRect X_arg3)
    (View.readAt (Elt Ideal) arg4.view (Rect.unit (s := S1x4096x512) (k0_off2 k) S1x256x512.size (k0_off2_inb i k hc)).toLoadRect X_arg4)
    (View.readAt (Elt Ideal) arg5.view (Rect.unit (s := S1x16x8x256) (k0_off3 k) S1x1x8x256.size (k0_off3_inb i k hc)).toLoadRect X_arg5)
    (View.readAt (Elt Ideal) arg6.view (Rect.unit (s := S1x640x512) ![0, 0, 0] S1x128x512.size inb_S1x640x512_S1x128x512_0_0_0).toLoadRect X_arg6)
    (View.readAt (Elt Ideal) arg12.view (Rect.unit (s := S640x128) ![0, 0] S128x128.size inb_S640x128_S128x128_0_0).toLoadRect X_arg12)
    (View.readAt (Elt Ideal) arg13.view (Rect.unit (s := S640x64) ![0, 0] S128x64.size inb_S640x64_S128x64_0_0).toLoadRect X_arg13) := by
  have hk : k.val < 16 := lt_of_lt_of_eq k.isLt trips1
  refine ⟨⟨hk, fun r c => ?_, fun r c => ?_, fun r c => ?_, fun a r => ?_⟩, hb, ha1, ?_, fun j d => ?_, fun j d => ?_, fun j d => ?_⟩
  · rw [← h2]
    refine readAt_at _ _ _ (off1 k) _ _ ?_
    exact at3 rfl (rowAt_val hk r) (Nat.zero_add _).symm
  · rw [← h3]
    refine readAt_at _ _ _ (off2 k) _ _ ?_
    exact at3 rfl (rowAt_val hk r) (Nat.zero_add _).symm
  · rw [← h4]
    refine readAt_at _ _ _ (off2 k) _ _ ?_
    exact at3 rfl (rowAt_val hk r) (Nat.zero_add _).symm
  · rw [← h5]
    refine readAt_at _ _ _ (off3 k) _ _ ?_
    exact at4 rfl rfl (Nat.zero_add _).symm (Nat.zero_add _).symm
  · exact iv_word k.val
  · rw [← h6]
    refine readAt_at _ _ _ rfl _ _ ?_
    exact at3 rfl (Nat.zero_add _).symm (Nat.zero_add _).symm
  · rw [← h12]
    refine readAt_at _ _ _ rfl _ _ ?_
    exact at2 (Nat.zero_add _).symm (Nat.zero_add _).symm
  · rw [← h13]
    refine readAt_at _ _ _ rfl _ _ ?_
    exact at2 (Nat.zero_add _).symm (Nat.zero_add _).symm

include hb ha1 h2 h3 h4 h5 h6 h12 h13 h14 in
/-- What trip `k` leaves: the query gradient of its 256 rows, and its contributions added to the two key gradients. -/
theorem trip128 (k : Fin k0_t1_loop.trips) (f9 : BufTy.Contents (Elt Ideal) arg9.view.ty)
    (f10 : BufTy.Contents (Elt Ideal) arg10.view.ty) (f11 : BufTy.Contents (Elt Ideal) arg11.view.ty) :
    Trip P k.val (arg9.view.read (Elt Ideal) f9) (arg10.view.read (Elt Ideal) f10) (arg11.view.read (Elt Ideal) f11)
      (arg9.view.read (Elt Ideal) (arg9.view.writes (Elt Ideal) f9 (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 hc X_arg2 X_arg3 X_arg4 X_arg5 X_arg6 X_arg12 X_arg13 X_arg14 k f9 f10 f11).1))
      (arg10.view.read (Elt Ideal) (arg10.view.writes (Elt Ideal) f10 (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 hc X_arg2 X_arg3 X_arg4 X_arg5 X_arg6 X_arg12 X_arg13 X_arg14 k f9 f10 f11).2.1))
      (arg11.view.read (Elt Ideal) (arg11.view.writes (Elt Ideal) f11 (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 hc X_arg2 X_arg3 X_arg4 X_arg5 X_arg6 X_arg12 X_arg13 X_arg14 k f9 f10 f11).2.2)) := by
  have hk : k.val < 16 := lt_of_lt_of_eq k.isLt trips1
  have ht := tile128 (P := P) i arg2 arg3 arg4 arg5 arg6 arg12 arg13 arg1 X_arg2 X_arg3 X_arg4 X_arg5 X_arg6 X_arg12 X_arg13 hc hb ha1 h2 h3 h4 h5 h6 h12 h13 k
  unfold tripL_k0_t1 trip_k0_t1
  dsimp only
  refine ⟨fun r c hr => ?_, fun r c hr => ?_, fun j d => ?_, fun j d => ?_⟩
  · obtain ⟨x, rfl⟩ : ∃ x, r = rowAt k.val x :=
      ⟨⟨r.val - 256 * k.val, by omega⟩, Fin.ext (by rw [rowAt_val hk]; show r.val = 256 * k.val + (r.val - 256 * k.val); omega)⟩
    refine (View.read_writes_cons_unit_of_mem (off' := ![0, 256 * k.val, 0]) _ _ _ _ _ _ (ix3 (n0 := 1) 0 x c) (off1 k) ?_).trans ?_
    · exact at3 rfl (rowAt_val hk x) (Nat.zero_add _).symm
    refine dq128_apply ht _ (fun c j => ?_) x c
    rw [← h14]
    refine readAt_at _ _ _ rfl _ _ ?_
    exact at2 (Nat.zero_add _).symm (Nat.zero_add _).symm
  · exact View.read_writes_cons_unit_of_not_mem (off' := ![0, 256 * k.val, 0]) _ _ _ _ _ _ (off1 k) 1 hr
  · by_cases hj : j.val < 128
    · refine (View.read_writes_cons_unit_of_mem (off' := ![0, 0, 0]) arg10.view f10 inb_S1x640x512_S1x128x512_0_0_0 _ [] (ix3 0 j d) (ix3 (n0 := 1) 0 ⟨j.val, hj⟩ d) rfl ?_).trans ?_
      · exact at3 rfl (Nat.zero_add _).symm (Nat.zero_add _).symm
      refine dc128_apply ht _ ⟨j.val, hj⟩ d _ ?_
      refine readAt_at _ _ _ rfl _ _ ?_
      exact at3 rfl (Nat.zero_add _).symm (Nat.zero_add _).symm
    · rw [P.dc_masked _ _ _ (by rw [hb]; omega), add_zero]
      exact View.read_writes_cons_unit_of_not_mem (off' := ![0, 0, 0]) arg10.view f10 inb_S1x640x512_S1x128x512_0_0_0 _ [] (ix3 0 j d) rfl 1 (.inr (by show 0 + 128 ≤ j.val; omega))
  · by_cases hj : j.val < 128
    · refine (View.read_writes_cons_unit_of_mem (off' := ![0, 0, 0]) arg11.view f11 inb_S1x640x64_S1x128x64_0_0_0 _ [] (ix3 0 j d) (ix3 (n0 := 1) 0 ⟨j.val, hj⟩ d) rfl ?_).trans ?_
      · exact at3 rfl (Nat.zero_add _).symm (Nat.zero_add _).symm
      refine dkr128_apply ht _ ⟨j.val, hj⟩ d _ ?_
      refine readAt_at _ _ _ rfl _ _ ?_
      exact at3 rfl (Nat.zero_add _).symm (Nat.zero_add _).symm
    · rw [P.dkr_masked _ _ _ (by rw [hb]; omega), add_zero]
      exact View.read_writes_cons_unit_of_not_mem (off' := ![0, 0, 0]) arg11.view f11 inb_S1x640x64_S1x128x64_0_0_0 _ [] (ix3 0 j d) rfl 1 (.inr (by show 0 + 128 ≤ j.val; omega))

include hb ha1 h2 h3 h4 h5 h6 h12 h13 h14 in
/-- What the whole loop leaves. -/
theorem loop128 (G9 : BufTy.Contents (Elt Ideal) arg9.view.ty)
    (G10 : BufTy.Contents (Elt Ideal) arg10.view.ty) (G11 : BufTy.Contents (Elt Ideal) arg11.view.ty) :
    Whole P (arg10.view.read (Elt Ideal) G10) (arg11.view.read (Elt Ideal) G11)
      (arg9.view.read (Elt Ideal) (arg9.view.writes (Elt Ideal) G9 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 hc X_arg2 X_arg3 X_arg4 X_arg5 X_arg6 X_arg12 X_arg13 X_arg14 G9 G10 G11 k0_t1_loop.trips).1))
      (arg10.view.read (Elt Ideal) (arg10.view.writes (Elt Ideal) G10 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 hc X_arg2 X_arg3 X_arg4 X_arg5 X_arg6 X_arg12 X_arg13 X_arg14 G9 G10 G11 k0_t1_loop.trips).2.1))
      (arg11.view.read (Elt Ideal) (arg11.view.writes (Elt Ideal) G11 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 hc X_arg2 X_arg3 X_arg4 X_arg5 X_arg6 X_arg12 X_arg13 X_arg14 G9 G10 G11 k0_t1_loop.trips).2.2)) := by
  rw [trips1]
  refine Trip.whole (fun k => arg9.view.read (Elt Ideal) (arg9.view.writes (Elt Ideal) G9 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 hc X_arg2 X_arg3 X_arg4 X_arg5 X_arg6 X_arg12 X_arg13 X_arg14 G9 G10 G11 k).1))
    (fun k => arg10.view.read (Elt Ideal) (arg10.view.writes (Elt Ideal) G10 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 hc X_arg2 X_arg3 X_arg4 X_arg5 X_arg6 X_arg12 X_arg13 X_arg14 G9 G10 G11 k).2.1))
    (fun k => arg11.view.read (Elt Ideal) (arg11.view.writes (Elt Ideal) G11 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 hc X_arg2 X_arg3 X_arg4 X_arg5 X_arg6 X_arg12 X_arg13 X_arg14 G9 G10 G11 k).2.2)) fun k hk => ?_
  have e := pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 hc X_arg2 X_arg3 X_arg4 X_arg5 X_arg6 X_arg12 X_arg13 X_arg14 G9 G10 G11 ⟨k, lt_of_lt_of_eq hk trips1.symm⟩
  dsimp only at e ⊢
  rw [e]
  dsimp only
  rw [View.writes_append, View.writes_append, View.writes_append]
  exact trip128 𝒱 c bd i arg2 harg2 arg3 harg3 arg4 harg4 arg5 harg5 arg6 harg6 arg7 harg7 arg8 harg8 arg9 harg9 arg10 harg10 arg11 harg11 arg12 harg12 arg13 harg13 arg14 harg14 arg1 X_arg2 X_arg3 X_arg4 X_arg5 X_arg6 X_arg12 X_arg13 X_arg14 hc hb ha1 h2 h3 h4 h5 h6 h12 h13 h14 ⟨k, lt_of_lt_of_eq hk trips1.symm⟩ _ _ _

end N128

section N256
variable (hc : k0_cond3 i = 1#1)

theorem trips2 : k0_t2_loop.trips = 16 := by decide +kernel
theorem off4 : ∀ k : Fin k0_t2_loop.trips, k0_off4 k = ![0, 256 * k.val, 0] := by decide +kernel
theorem off5 : ∀ k : Fin k0_t2_loop.trips, k0_off5 k = ![0, 256 * k.val, 0] := by decide +kernel
theorem off6 : ∀ k : Fin k0_t2_loop.trips, k0_off6 k = ![0, k.val, 0, 0] := by decide +kernel

variable {P : Pt} (hb : P.b = 1) (ha1 : arg1 = BitVec.ofNat 32 1)
  (h2 : arg2.view.read (Elt Ideal) X_arg2 = P.q)
  (h3 : arg3.view.read (Elt Ideal) X_arg3 = P.g)
  (h4 : arg4.view.read (Elt Ideal) X_arg4 = P.o)
  (h5 : arg5.view.read (Elt Ideal) X_arg5 = P.rp)
  (h6 : arg6.view.read (Elt Ideal) X_arg6 = P.c)
  (h12 : arg12.view.read (Elt Ideal) X_arg12 = P.cs)
  (h13 : arg13.view.read (Elt Ideal) X_arg13 = P.kr)
  (h14 : arg14.view.read (Elt Ideal) X_arg14 = P.kt)

include hb ha1 h2 h3 h4 h5 h6 h12 h13 in
/-- The blocks trip `k` loads are the point's. -/
theorem tile256 (k : Fin k0_t2_loop.trips) : P.Tile256 arg1 (trip_k0_t2.sl.arg15 k) k.val
    (View.readAt (Elt Ideal) arg2.view (Rect.unit (s := S1x4096x576) (k0_off4 k) S1x256x576.size (k0_off4_inb i k hc)).toLoadRect X_arg2)
    (View.readAt (Elt Ideal) arg3.view (Rect.unit (s := S1x4096x512) (k0_off5 k) S1x256x512.size (k0_off5_inb i k hc)).toLoadRect X_arg3)
    (View.readAt (Elt Ideal) arg4.view (Rect.unit (s := S1x4096x512) (k0_off5 k) S1x256x512.size (k0_off5_inb i k hc)).toLoadRect X_arg4)
    (View.readAt (Elt Ideal) arg5.view (Rect.unit (s := S1x16x8x256) (k0_off6 k) S1x1x8x256.size (k0_off6_inb i k hc)).toLoadRect X_arg5)
    (View.readAt (Elt Ideal) arg6.view (Rect.unit (s := S1x640x512) ![0, 0, 0] S1x256x512.size inb_S1x640x512_S1x256x512_0_0_0).toLoadRect X_arg6)
    (View.readAt (Elt Ideal) arg12.view (Rect.unit (s := S640x128) ![0, 0] S256x128.size inb_S640x128_S256x128_0_0).toLoadRect X_arg12)
    (View.readAt (Elt Ideal) arg13.view (Rect.unit (s := S640x64) ![0, 0] S256x64.size inb_S640x64_S256x64_0_0).toLoadRect X_arg13) := by
  have hk : k.val < 16 := lt_of_lt_of_eq k.isLt trips2
  refine ⟨⟨hk, fun r c => ?_, fun r c => ?_, fun r c => ?_, fun a r => ?_⟩, hb, ha1, ?_, fun j d => ?_, fun j d => ?_, fun j d => ?_⟩
  · rw [← h2]
    refine readAt_at _ _ _ (off4 k) _ _ ?_
    exact at3 rfl (rowAt_val hk r) (Nat.zero_add _).symm
  · rw [← h3]
    refine readAt_at _ _ _ (off5 k) _ _ ?_
    exact at3 rfl (rowAt_val hk r) (Nat.zero_add _).symm
  · rw [← h4]
    refine readAt_at _ _ _ (off5 k) _ _ ?_
    exact at3 rfl (rowAt_val hk r) (Nat.zero_add _).symm
  · rw [← h5]
    refine readAt_at _ _ _ (off6 k) _ _ ?_
    exact at4 rfl rfl (Nat.zero_add _).symm (Nat.zero_add _).symm
  · exact iv_word k.val
  · rw [← h6]
    refine readAt_at _ _ _ rfl _ _ ?_
    exact at3 rfl (Nat.zero_add _).symm (Nat.zero_add _).symm
  · rw [← h12]
    refine readAt_at _ _ _ rfl _ _ ?_
    exact at2 (Nat.zero_add _).symm (Nat.zero_add _).symm
  · rw [← h13]
    refine readAt_at _ _ _ rfl _ _ ?_
    exact at2 (Nat.zero_add _).symm (Nat.zero_add _).symm

include hb ha1 h2 h3 h4 h5 h6 h12 h13 h14 in
/-- What trip `k` leaves: the query gradient of its 256 rows, and its contributions added to the two key gradients. -/
theorem trip256 (k : Fin k0_t2_loop.trips) (f9 : BufTy.Contents (Elt Ideal) arg9.view.ty)
    (f10 : BufTy.Contents (Elt Ideal) arg10.view.ty) (f11 : BufTy.Contents (Elt Ideal) arg11.view.ty) :
    Trip P k.val (arg9.view.read (Elt Ideal) f9) (arg10.view.read (Elt Ideal) f10) (arg11.view.read (Elt Ideal) f11)
      (arg9.view.read (Elt Ideal) (arg9.view.writes (Elt Ideal) f9 (tripL_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 hc X_arg2 X_arg3 X_arg4 X_arg5 X_arg6 X_arg12 X_arg13 X_arg14 k f9 f10 f11).1))
      (arg10.view.read (Elt Ideal) (arg10.view.writes (Elt Ideal) f10 (tripL_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 hc X_arg2 X_arg3 X_arg4 X_arg5 X_arg6 X_arg12 X_arg13 X_arg14 k f9 f10 f11).2.1))
      (arg11.view.read (Elt Ideal) (arg11.view.writes (Elt Ideal) f11 (tripL_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 hc X_arg2 X_arg3 X_arg4 X_arg5 X_arg6 X_arg12 X_arg13 X_arg14 k f9 f10 f11).2.2)) := by
  have hk : k.val < 16 := lt_of_lt_of_eq k.isLt trips2
  have ht := tile256 (P := P) i arg2 arg3 arg4 arg5 arg6 arg12 arg13 arg1 X_arg2 X_arg3 X_arg4 X_arg5 X_arg6 X_arg12 X_arg13 hc hb ha1 h2 h3 h4 h5 h6 h12 h13 k
  unfold tripL_k0_t2 trip_k0_t2
  dsimp only
  refine ⟨fun r c hr => ?_, fun r c hr => ?_, fun j d => ?_, fun j d => ?_⟩
  · obtain ⟨x, rfl⟩ : ∃ x, r = rowAt k.val x :=
      ⟨⟨r.val - 256 * k.val, by omega⟩, Fin.ext (by rw [rowAt_val hk]; show r.val = 256 * k.val + (r.val - 256 * k.val); omega)⟩
    refine (View.read_writes_cons_unit_of_mem (off' := ![0, 256 * k.val, 0]) _ _ _ _ _ _ (ix3 (n0 := 1) 0 x c) (off4 k) ?_).trans ?_
    · exact at3 rfl (rowAt_val hk x) (Nat.zero_add _).symm
    refine dq256_apply ht _ (fun c j => ?_) x c
    rw [← h14]
    refine readAt_at _ _ _ rfl _ _ ?_
    exact at2 (Nat.zero_add _).symm (Nat.zero_add _).symm
  · exact View.read_writes_cons_unit_of_not_mem (off' := ![0, 256 * k.val, 0]) _ _ _ _ _ _ (off4 k) 1 hr
  · by_cases hj : j.val < 256
    · refine (View.read_writes_cons_unit_of_mem (off' := ![0, 0, 0]) arg10.view f10 inb_S1x640x512_S1x256x512_0_0_0 _ [] (ix3 0 j d) (ix3 (n0 := 1) 0 ⟨j.val, hj⟩ d) rfl ?_).trans ?_
      · exact at3 rfl (Nat.zero_add _).symm (Nat.zero_add _).symm
      refine dc256_apply ht _ ⟨j.val, hj⟩ d _ ?_
      refine readAt_at _ _ _ rfl _ _ ?_
      exact at3 rfl (Nat.zero_add _).symm (Nat.zero_add _).symm
    · rw [P.dc_masked _ _ _ (by rw [hb]; omega), add_zero]
      exact View.read_writes_cons_unit_of_not_mem (off' := ![0, 0, 0]) arg10.view f10 inb_S1x640x512_S1x256x512_0_0_0 _ [] (ix3 0 j d) rfl 1 (.inr (by show 0 + 256 ≤ j.val; omega))
  · by_cases hj : j.val < 256
    · refine (View.read_writes_cons_unit_of_mem (off' := ![0, 0, 0]) arg11.view f11 inb_S1x640x64_S1x256x64_0_0_0 _ [] (ix3 0 j d) (ix3 (n0 := 1) 0 ⟨j.val, hj⟩ d) rfl ?_).trans ?_
      · exact at3 rfl (Nat.zero_add _).symm (Nat.zero_add _).symm
      refine dkr256_apply ht _ ⟨j.val, hj⟩ d _ ?_
      refine readAt_at _ _ _ rfl _ _ ?_
      exact at3 rfl (Nat.zero_add _).symm (Nat.zero_add _).symm
    · rw [P.dkr_masked _ _ _ (by rw [hb]; omega), add_zero]
      exact View.read_writes_cons_unit_of_not_mem (off' := ![0, 0, 0]) arg11.view f11 inb_S1x640x64_S1x256x64_0_0_0 _ [] (ix3 0 j d) rfl 1 (.inr (by show 0 + 256 ≤ j.val; omega))

include hb ha1 h2 h3 h4 h5 h6 h12 h13 h14 in
/-- What the whole loop leaves. -/
theorem loop256 (G9 : BufTy.Contents (Elt Ideal) arg9.view.ty)
    (G10 : BufTy.Contents (Elt Ideal) arg10.view.ty) (G11 : BufTy.Contents (Elt Ideal) arg11.view.ty) :
    Whole P (arg10.view.read (Elt Ideal) G10) (arg11.view.read (Elt Ideal) G11)
      (arg9.view.read (Elt Ideal) (arg9.view.writes (Elt Ideal) G9 (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 hc X_arg2 X_arg3 X_arg4 X_arg5 X_arg6 X_arg12 X_arg13 X_arg14 G9 G10 G11 k0_t2_loop.trips).1))
      (arg10.view.read (Elt Ideal) (arg10.view.writes (Elt Ideal) G10 (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 hc X_arg2 X_arg3 X_arg4 X_arg5 X_arg6 X_arg12 X_arg13 X_arg14 G9 G10 G11 k0_t2_loop.trips).2.1))
      (arg11.view.read (Elt Ideal) (arg11.view.writes (Elt Ideal) G11 (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 hc X_arg2 X_arg3 X_arg4 X_arg5 X_arg6 X_arg12 X_arg13 X_arg14 G9 G10 G11 k0_t2_loop.trips).2.2)) := by
  rw [trips2]
  refine Trip.whole (fun k => arg9.view.read (Elt Ideal) (arg9.view.writes (Elt Ideal) G9 (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 hc X_arg2 X_arg3 X_arg4 X_arg5 X_arg6 X_arg12 X_arg13 X_arg14 G9 G10 G11 k).1))
    (fun k => arg10.view.read (Elt Ideal) (arg10.view.writes (Elt Ideal) G10 (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 hc X_arg2 X_arg3 X_arg4 X_arg5 X_arg6 X_arg12 X_arg13 X_arg14 G9 G10 G11 k).2.1))
    (fun k => arg11.view.read (Elt Ideal) (arg11.view.writes (Elt Ideal) G11 (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 hc X_arg2 X_arg3 X_arg4 X_arg5 X_arg6 X_arg12 X_arg13 X_arg14 G9 G10 G11 k).2.2)) fun k hk => ?_
  have e := pb_k0_t2_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 hc X_arg2 X_arg3 X_arg4 X_arg5 X_arg6 X_arg12 X_arg13 X_arg14 G9 G10 G11 ⟨k, lt_of_lt_of_eq hk trips2.symm⟩
  dsimp only at e ⊢
  rw [e]
  dsimp only
  rw [View.writes_append, View.writes_append, View.writes_append]
  exact trip256 𝒱 c bd i arg2 harg2 arg3 harg3 arg4 harg4 arg5 harg5 arg6 harg6 arg7 harg7 arg8 harg8 arg9 harg9 arg10 harg10 arg11 harg11 arg12 harg12 arg13 harg13 arg14 harg14 arg1 X_arg2 X_arg3 X_arg4 X_arg5 X_arg6 X_arg12 X_arg13 X_arg14 hc hb ha1 h2 h3 h4 h5 h6 h12 h13 h14 ⟨k, lt_of_lt_of_eq hk trips2.symm⟩ _ _ _

end N256

section N384
variable (hc : k0_cond4 i = 1#1)

theorem trips3 : k0_t3_loop.trips = 16 := by decide +kernel
theorem off7 : ∀ k : Fin k0_t3_loop.trips, k0_off7 k = ![0, 256 * k.val, 0] := by decide +kernel
theorem off8 : ∀ k : Fin k0_t3_loop.trips, k0_off8 k = ![0, 256 * k.val, 0] := by decide +kernel
theorem off9 : ∀ k : Fin k0_t3_loop.trips, k0_off9 k = ![0, k.val, 0, 0] := by decide +kernel

variable {P : Pt} (hb : P.b = 2) (ha1 : arg1 = BitVec.ofNat 32 2)
  (h2 : arg2.view.read (Elt Ideal) X_arg2 = P.q)
  (h3 : arg3.view.read (Elt Ideal) X_arg3 = P.g)
  (h4 : arg4.view.read (Elt Ideal) X_arg4 = P.o)
  (h5 : arg5.view.read (Elt Ideal) X_arg5 = P.rp)
  (h6 : arg6.view.read (Elt Ideal) X_arg6 = P.c)
  (h12 : arg12.view.read (Elt Ideal) X_arg12 = P.cs)
  (h13 : arg13.view.read (Elt Ideal) X_arg13 = P.kr)
  (h14 : arg14.view.read (Elt Ideal) X_arg14 = P.kt)

include hb ha1 h2 h3 h4 h5 h6 h12 h13 in
/-- The blocks trip `k` loads are the point's. -/
theorem tile384 (k : Fin k0_t3_loop.trips) : P.Tile384 arg1 (trip_k0_t3.sl.arg15 k) k.val
    (View.readAt (Elt Ideal) arg2.view (Rect.unit (s := S1x4096x576) (k0_off7 k) S1x256x576.size (k0_off7_inb i k hc)).toLoadRect X_arg2)
    (View.readAt (Elt Ideal) arg3.view (Rect.unit (s := S1x4096x512) (k0_off8 k) S1x256x512.size (k0_off8_inb i k hc)).toLoadRect X_arg3)
    (View.readAt (Elt Ideal) arg4.view (Rect.unit (s := S1x4096x512) (k0_off8 k) S1x256x512.size (k0_off8_inb i k hc)).toLoadRect X_arg4)
    (View.readAt (Elt Ideal) arg5.view (Rect.unit (s := S1x16x8x256) (k0_off9 k) S1x1x8x256.size (k0_off9_inb i k hc)).toLoadRect X_arg5)
    (View.readAt (Elt Ideal) arg6.view (Rect.unit (s := S1x640x512) ![0, 0, 0] S1x384x512.size inb_S1x640x512_S1x384x512_0_0_0).toLoadRect X_arg6)
    (View.readAt (Elt Ideal) arg12.view (Rect.unit (s := S640x128) ![0, 0] S384x128.size inb_S640x128_S384x128_0_0).toLoadRect X_arg12)
    (View.readAt (Elt Ideal) arg13.view (Rect.unit (s := S640x64) ![0, 0] S384x64.size inb_S640x64_S384x64_0_0).toLoadRect X_arg13) := by
  have hk : k.val < 16 := lt_of_lt_of_eq k.isLt trips3
  refine ⟨⟨hk, fun r c => ?_, fun r c => ?_, fun r c => ?_, fun a r => ?_⟩, hb, ha1, ?_, fun j d => ?_, fun j d => ?_, fun j d => ?_⟩
  · rw [← h2]
    refine readAt_at _ _ _ (off7 k) _ _ ?_
    exact at3 rfl (rowAt_val hk r) (Nat.zero_add _).symm
  · rw [← h3]
    refine readAt_at _ _ _ (off8 k) _ _ ?_
    exact at3 rfl (rowAt_val hk r) (Nat.zero_add _).symm
  · rw [← h4]
    refine readAt_at _ _ _ (off8 k) _ _ ?_
    exact at3 rfl (rowAt_val hk r) (Nat.zero_add _).symm
  · rw [← h5]
    refine readAt_at _ _ _ (off9 k) _ _ ?_
    exact at4 rfl rfl (Nat.zero_add _).symm (Nat.zero_add _).symm
  · exact iv_word k.val
  · rw [← h6]
    refine readAt_at _ _ _ rfl _ _ ?_
    exact at3 rfl (Nat.zero_add _).symm (Nat.zero_add _).symm
  · rw [← h12]
    refine readAt_at _ _ _ rfl _ _ ?_
    exact at2 (Nat.zero_add _).symm (Nat.zero_add _).symm
  · rw [← h13]
    refine readAt_at _ _ _ rfl _ _ ?_
    exact at2 (Nat.zero_add _).symm (Nat.zero_add _).symm

include hb ha1 h2 h3 h4 h5 h6 h12 h13 h14 in
/-- What trip `k` leaves: the query gradient of its 256 rows, and its contributions added to the two key gradients. -/
theorem trip384 (k : Fin k0_t3_loop.trips) (f9 : BufTy.Contents (Elt Ideal) arg9.view.ty)
    (f10 : BufTy.Contents (Elt Ideal) arg10.view.ty) (f11 : BufTy.Contents (Elt Ideal) arg11.view.ty) :
    Trip P k.val (arg9.view.read (Elt Ideal) f9) (arg10.view.read (Elt Ideal) f10) (arg11.view.read (Elt Ideal) f11)
      (arg9.view.read (Elt Ideal) (arg9.view.writes (Elt Ideal) f9 (tripL_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 hc X_arg2 X_arg3 X_arg4 X_arg5 X_arg6 X_arg12 X_arg13 X_arg14 k f9 f10 f11).1))
      (arg10.view.read (Elt Ideal) (arg10.view.writes (Elt Ideal) f10 (tripL_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 hc X_arg2 X_arg3 X_arg4 X_arg5 X_arg6 X_arg12 X_arg13 X_arg14 k f9 f10 f11).2.1))
      (arg11.view.read (Elt Ideal) (arg11.view.writes (Elt Ideal) f11 (tripL_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 hc X_arg2 X_arg3 X_arg4 X_arg5 X_arg6 X_arg12 X_arg13 X_arg14 k f9 f10 f11).2.2)) := by
  have hk : k.val < 16 := lt_of_lt_of_eq k.isLt trips3
  have ht := tile384 (P := P) i arg2 arg3 arg4 arg5 arg6 arg12 arg13 arg1 X_arg2 X_arg3 X_arg4 X_arg5 X_arg6 X_arg12 X_arg13 hc hb ha1 h2 h3 h4 h5 h6 h12 h13 k
  unfold tripL_k0_t3 trip_k0_t3
  dsimp only
  refine ⟨fun r c hr => ?_, fun r c hr => ?_, fun j d => ?_, fun j d => ?_⟩
  · obtain ⟨x, rfl⟩ : ∃ x, r = rowAt k.val x :=
      ⟨⟨r.val - 256 * k.val, by omega⟩, Fin.ext (by rw [rowAt_val hk]; show r.val = 256 * k.val + (r.val - 256 * k.val); omega)⟩
    refine (View.read_writes_cons_unit_of_mem (off' := ![0, 256 * k.val, 0]) _ _ _ _ _ _ (ix3 (n0 := 1) 0 x c) (off7 k) ?_).trans ?_
    · exact at3 rfl (rowAt_val hk x) (Nat.zero_add _).symm
    refine dq384_apply ht _ (fun c j => ?_) x c
    rw [← h14]
    refine readAt_at _ _ _ rfl _ _ ?_
    exact at2 (Nat.zero_add _).symm (Nat.zero_add _).symm
  · exact View.read_writes_cons_unit_of_not_mem (off' := ![0, 256 * k.val, 0]) _ _ _ _ _ _ (off7 k) 1 hr
  · by_cases hj : j.val < 384
    · refine (View.read_writes_cons_unit_of_mem (off' := ![0, 0, 0]) arg10.view f10 inb_S1x640x512_S1x384x512_0_0_0 _ [] (ix3 0 j d) (ix3 (n0 := 1) 0 ⟨j.val, hj⟩ d) rfl ?_).trans ?_
      · exact at3 rfl (Nat.zero_add _).symm (Nat.zero_add _).symm
      refine dc384_apply ht _ ⟨j.val, hj⟩ d _ ?_
      refine readAt_at _ _ _ rfl _ _ ?_
      exact at3 rfl (Nat.zero_add _).symm (Nat.zero_add _).symm
    · rw [P.dc_masked _ _ _ (by rw [hb]; omega), add_zero]
      exact View.read_writes_cons_unit_of_not_mem (off' := ![0, 0, 0]) arg10.view f10 inb_S1x640x512_S1x384x512_0_0_0 _ [] (ix3 0 j d) rfl 1 (.inr (by show 0 + 384 ≤ j.val; omega))
  · by_cases hj : j.val < 384
    · refine (View.read_writes_cons_unit_of_mem (off' := ![0, 0, 0]) arg11.view f11 inb_S1x640x64_S1x384x64_0_0_0 _ [] (ix3 0 j d) (ix3 (n0 := 1) 0 ⟨j.val, hj⟩ d) rfl ?_).trans ?_
      · exact at3 rfl (Nat.zero_add _).symm (Nat.zero_add _).symm
      refine dkr384_apply ht _ ⟨j.val, hj⟩ d _ ?_
      refine readAt_at _ _ _ rfl _ _ ?_
      exact at3 rfl (Nat.zero_add _).symm (Nat.zero_add _).symm
    · rw [P.dkr_masked _ _ _ (by rw [hb]; omega), add_zero]
      exact View.read_writes_cons_unit_of_not_mem (off' := ![0, 0, 0]) arg11.view f11 inb_S1x640x64_S1x384x64_0_0_0 _ [] (ix3 0 j d) rfl 1 (.inr (by show 0 + 384 ≤ j.val; omega))

include hb ha1 h2 h3 h4 h5 h6 h12 h13 h14 in
/-- What the whole loop leaves. -/
theorem loop384 (G9 : BufTy.Contents (Elt Ideal) arg9.view.ty)
    (G10 : BufTy.Contents (Elt Ideal) arg10.view.ty) (G11 : BufTy.Contents (Elt Ideal) arg11.view.ty) :
    Whole P (arg10.view.read (Elt Ideal) G10) (arg11.view.read (Elt Ideal) G11)
      (arg9.view.read (Elt Ideal) (arg9.view.writes (Elt Ideal) G9 (pb_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 hc X_arg2 X_arg3 X_arg4 X_arg5 X_arg6 X_arg12 X_arg13 X_arg14 G9 G10 G11 k0_t3_loop.trips).1))
      (arg10.view.read (Elt Ideal) (arg10.view.writes (Elt Ideal) G10 (pb_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 hc X_arg2 X_arg3 X_arg4 X_arg5 X_arg6 X_arg12 X_arg13 X_arg14 G9 G10 G11 k0_t3_loop.trips).2.1))
      (arg11.view.read (Elt Ideal) (arg11.view.writes (Elt Ideal) G11 (pb_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 hc X_arg2 X_arg3 X_arg4 X_arg5 X_arg6 X_arg12 X_arg13 X_arg14 G9 G10 G11 k0_t3_loop.trips).2.2)) := by
  rw [trips3]
  refine Trip.whole (fun k => arg9.view.read (Elt Ideal) (arg9.view.writes (Elt Ideal) G9 (pb_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 hc X_arg2 X_arg3 X_arg4 X_arg5 X_arg6 X_arg12 X_arg13 X_arg14 G9 G10 G11 k).1))
    (fun k => arg10.view.read (Elt Ideal) (arg10.view.writes (Elt Ideal) G10 (pb_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 hc X_arg2 X_arg3 X_arg4 X_arg5 X_arg6 X_arg12 X_arg13 X_arg14 G9 G10 G11 k).2.1))
    (fun k => arg11.view.read (Elt Ideal) (arg11.view.writes (Elt Ideal) G11 (pb_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 hc X_arg2 X_arg3 X_arg4 X_arg5 X_arg6 X_arg12 X_arg13 X_arg14 G9 G10 G11 k).2.2)) fun k hk => ?_
  have e := pb_k0_t3_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 hc X_arg2 X_arg3 X_arg4 X_arg5 X_arg6 X_arg12 X_arg13 X_arg14 G9 G10 G11 ⟨k, lt_of_lt_of_eq hk trips3.symm⟩
  dsimp only at e ⊢
  rw [e]
  dsimp only
  rw [View.writes_append, View.writes_append, View.writes_append]
  exact trip384 𝒱 c bd i arg2 harg2 arg3 harg3 arg4 harg4 arg5 harg5 arg6 harg6 arg7 harg7 arg8 harg8 arg9 harg9 arg10 harg10 arg11 harg11 arg12 harg12 arg13 harg13 arg14 harg14 arg1 X_arg2 X_arg3 X_arg4 X_arg5 X_arg6 X_arg12 X_arg13 X_arg14 hc hb ha1 h2 h3 h4 h5 h6 h12 h13 h14 ⟨k, lt_of_lt_of_eq hk trips3.symm⟩ _ _ _

end N384

section N512
variable (hc : k0_cond5 i = 1#1)

theorem trips4 : k0_t4_loop.trips = 16 := by decide +kernel
theorem off10 : ∀ k : Fin k0_t4_loop.trips, k0_off10 k = ![0, 256 * k.val, 0] := by decide +kernel
theorem off11 : ∀ k : Fin k0_t4_loop.trips, k0_off11 k = ![0, 256 * k.val, 0] := by decide +kernel
theorem off12 : ∀ k : Fin k0_t4_loop.trips, k0_off12 k = ![0, k.val, 0, 0] := by decide +kernel

variable {P : Pt} (hb : P.b = 3) (ha1 : arg1 = BitVec.ofNat 32 3)
  (h2 : arg2.view.read (Elt Ideal) X_arg2 = P.q)
  (h3 : arg3.view.read (Elt Ideal) X_arg3 = P.g)
  (h4 : arg4.view.read (Elt Ideal) X_arg4 = P.o)
  (h5 : arg5.view.read (Elt Ideal) X_arg5 = P.rp)
  (h6 : arg6.view.read (Elt Ideal) X_arg6 = P.c)
  (h12 : arg12.view.read (Elt Ideal) X_arg12 = P.cs)
  (h13 : arg13.view.read (Elt Ideal) X_arg13 = P.kr)
  (h14 : arg14.view.read (Elt Ideal) X_arg14 = P.kt)

include hb ha1 h2 h3 h4 h5 h6 h12 h13 in
/-- The blocks trip `k` loads are the point's. -/
theorem tile512 (k : Fin k0_t4_loop.trips) : P.Tile512 arg1 (trip_k0_t4.sl.arg15 k) k.val
    (View.readAt (Elt Ideal) arg2.view (Rect.unit (s := S1x4096x576) (k0_off10 k) S1x256x576.size (k0_off10_inb i k hc)).toLoadRect X_arg2)
    (View.readAt (Elt Ideal) arg3.view (Rect.unit (s := S1x4096x512) (k0_off11 k) S1x256x512.size (k0_off11_inb i k hc)).toLoadRect X_arg3)
    (View.readAt (Elt Ideal) arg4.view (Rect.unit (s := S1x4096x512) (k0_off11 k) S1x256x512.size (k0_off11_inb i k hc)).toLoadRect X_arg4)
    (View.readAt (Elt Ideal) arg5.view (Rect.unit (s := S1x16x8x256) (k0_off12 k) S1x1x8x256.size (k0_off12_inb i k hc)).toLoadRect X_arg5)
    (View.readAt (Elt Ideal) arg6.view (Rect.unit (s := S1x640x512) ![0, 0, 0] S1x512x512.size inb_S1x640x512_S1x512x512_0_0_0).toLoadRect X_arg6)
    (View.readAt (Elt Ideal) arg12.view (Rect.unit (s := S640x128) ![0, 0] S512x128.size inb_S640x128_S512x128_0_0).toLoadRect X_arg12)
    (View.readAt (Elt Ideal) arg13.view (Rect.unit (s := S640x64) ![0, 0] S512x64.size inb_S640x64_S512x64_0_0).toLoadRect X_arg13) := by
  have hk : k.val < 16 := lt_of_lt_of_eq k.isLt trips4
  refine ⟨⟨hk, fun r c => ?_, fun r c => ?_, fun r c => ?_, fun a r => ?_⟩, hb, ha1, ?_, fun j d => ?_, fun j d => ?_, fun j d => ?_⟩
  · rw [← h2]
    refine readAt_at _ _ _ (off10 k) _ _ ?_
    exact at3 rfl (rowAt_val hk r) (Nat.zero_add _).symm
  · rw [← h3]
    refine readAt_at _ _ _ (off11 k) _ _ ?_
    exact at3 rfl (rowAt_val hk r) (Nat.zero_add _).symm
  · rw [← h4]
    refine readAt_at _ _ _ (off11 k) _ _ ?_
    exact at3 rfl (rowAt_val hk r) (Nat.zero_add _).symm
  · rw [← h5]
    refine readAt_at _ _ _ (off12 k) _ _ ?_
    exact at4 rfl rfl (Nat.zero_add _).symm (Nat.zero_add _).symm
  · exact iv_word k.val
  · rw [← h6]
    refine readAt_at _ _ _ rfl _ _ ?_
    exact at3 rfl (Nat.zero_add _).symm (Nat.zero_add _).symm
  · rw [← h12]
    refine readAt_at _ _ _ rfl _ _ ?_
    exact at2 (Nat.zero_add _).symm (Nat.zero_add _).symm
  · rw [← h13]
    refine readAt_at _ _ _ rfl _ _ ?_
    exact at2 (Nat.zero_add _).symm (Nat.zero_add _).symm

include hb ha1 h2 h3 h4 h5 h6 h12 h13 h14 in
/-- What trip `k` leaves: the query gradient of its 256 rows, and its contributions added to the two key gradients. -/
theorem trip512 (k : Fin k0_t4_loop.trips) (f9 : BufTy.Contents (Elt Ideal) arg9.view.ty)
    (f10 : BufTy.Contents (Elt Ideal) arg10.view.ty) (f11 : BufTy.Contents (Elt Ideal) arg11.view.ty) :
    Trip P k.val (arg9.view.read (Elt Ideal) f9) (arg10.view.read (Elt Ideal) f10) (arg11.view.read (Elt Ideal) f11)
      (arg9.view.read (Elt Ideal) (arg9.view.writes (Elt Ideal) f9 (tripL_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 hc X_arg2 X_arg3 X_arg4 X_arg5 X_arg6 X_arg12 X_arg13 X_arg14 k f9 f10 f11).1))
      (arg10.view.read (Elt Ideal) (arg10.view.writes (Elt Ideal) f10 (tripL_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 hc X_arg2 X_arg3 X_arg4 X_arg5 X_arg6 X_arg12 X_arg13 X_arg14 k f9 f10 f11).2.1))
      (arg11.view.read (Elt Ideal) (arg11.view.writes (Elt Ideal) f11 (tripL_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 hc X_arg2 X_arg3 X_arg4 X_arg5 X_arg6 X_arg12 X_arg13 X_arg14 k f9 f10 f11).2.2)) := by
  have hk : k.val < 16 := lt_of_lt_of_eq k.isLt trips4
  have ht := tile512 (P := P) i arg2 arg3 arg4 arg5 arg6 arg12 arg13 arg1 X_arg2 X_arg3 X_arg4 X_arg5 X_arg6 X_arg12 X_arg13 hc hb ha1 h2 h3 h4 h5 h6 h12 h13 k
  unfold tripL_k0_t4 trip_k0_t4
  dsimp only
  refine ⟨fun r c hr => ?_, fun r c hr => ?_, fun j d => ?_, fun j d => ?_⟩
  · obtain ⟨x, rfl⟩ : ∃ x, r = rowAt k.val x :=
      ⟨⟨r.val - 256 * k.val, by omega⟩, Fin.ext (by rw [rowAt_val hk]; show r.val = 256 * k.val + (r.val - 256 * k.val); omega)⟩
    refine (View.read_writes_cons_unit_of_mem (off' := ![0, 256 * k.val, 0]) _ _ _ _ _ _ (ix3 (n0 := 1) 0 x c) (off10 k) ?_).trans ?_
    · exact at3 rfl (rowAt_val hk x) (Nat.zero_add _).symm
    refine dq512_apply ht _ (fun c j => ?_) x c
    rw [← h14]
    refine readAt_at _ _ _ rfl _ _ ?_
    exact at2 (Nat.zero_add _).symm (Nat.zero_add _).symm
  · exact View.read_writes_cons_unit_of_not_mem (off' := ![0, 256 * k.val, 0]) _ _ _ _ _ _ (off10 k) 1 hr
  · by_cases hj : j.val < 512
    · refine (View.read_writes_cons_unit_of_mem (off' := ![0, 0, 0]) arg10.view f10 inb_S1x640x512_S1x512x512_0_0_0 _ [] (ix3 0 j d) (ix3 (n0 := 1) 0 ⟨j.val, hj⟩ d) rfl ?_).trans ?_
      · exact at3 rfl (Nat.zero_add _).symm (Nat.zero_add _).symm
      refine dc512_apply ht _ ⟨j.val, hj⟩ d _ ?_
      refine readAt_at _ _ _ rfl _ _ ?_
      exact at3 rfl (Nat.zero_add _).symm (Nat.zero_add _).symm
    · rw [P.dc_masked _ _ _ (by rw [hb]; omega), add_zero]
      exact View.read_writes_cons_unit_of_not_mem (off' := ![0, 0, 0]) arg10.view f10 inb_S1x640x512_S1x512x512_0_0_0 _ [] (ix3 0 j d) rfl 1 (.inr (by show 0 + 512 ≤ j.val; omega))
  · by_cases hj : j.val < 512
    · refine (View.read_writes_cons_unit_of_mem (off' := ![0, 0, 0]) arg11.view f11 inb_S1x640x64_S1x512x64_0_0_0 _ [] (ix3 0 j d) (ix3 (n0 := 1) 0 ⟨j.val, hj⟩ d) rfl ?_).trans ?_
      · exact at3 rfl (Nat.zero_add _).symm (Nat.zero_add _).symm
      refine dkr512_apply ht _ ⟨j.val, hj⟩ d _ ?_
      refine readAt_at _ _ _ rfl _ _ ?_
      exact at3 rfl (Nat.zero_add _).symm (Nat.zero_add _).symm
    · rw [P.dkr_masked _ _ _ (by rw [hb]; omega), add_zero]
      exact View.read_writes_cons_unit_of_not_mem (off' := ![0, 0, 0]) arg11.view f11 inb_S1x640x64_S1x512x64_0_0_0 _ [] (ix3 0 j d) rfl 1 (.inr (by show 0 + 512 ≤ j.val; omega))

include hb ha1 h2 h3 h4 h5 h6 h12 h13 h14 in
/-- What the whole loop leaves. -/
theorem loop512 (G9 : BufTy.Contents (Elt Ideal) arg9.view.ty)
    (G10 : BufTy.Contents (Elt Ideal) arg10.view.ty) (G11 : BufTy.Contents (Elt Ideal) arg11.view.ty) :
    Whole P (arg10.view.read (Elt Ideal) G10) (arg11.view.read (Elt Ideal) G11)
      (arg9.view.read (Elt Ideal) (arg9.view.writes (Elt Ideal) G9 (pb_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 hc X_arg2 X_arg3 X_arg4 X_arg5 X_arg6 X_arg12 X_arg13 X_arg14 G9 G10 G11 k0_t4_loop.trips).1))
      (arg10.view.read (Elt Ideal) (arg10.view.writes (Elt Ideal) G10 (pb_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 hc X_arg2 X_arg3 X_arg4 X_arg5 X_arg6 X_arg12 X_arg13 X_arg14 G9 G10 G11 k0_t4_loop.trips).2.1))
      (arg11.view.read (Elt Ideal) (arg11.view.writes (Elt Ideal) G11 (pb_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 hc X_arg2 X_arg3 X_arg4 X_arg5 X_arg6 X_arg12 X_arg13 X_arg14 G9 G10 G11 k0_t4_loop.trips).2.2)) := by
  rw [trips4]
  refine Trip.whole (fun k => arg9.view.read (Elt Ideal) (arg9.view.writes (Elt Ideal) G9 (pb_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 hc X_arg2 X_arg3 X_arg4 X_arg5 X_arg6 X_arg12 X_arg13 X_arg14 G9 G10 G11 k).1))
    (fun k => arg10.view.read (Elt Ideal) (arg10.view.writes (Elt Ideal) G10 (pb_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 hc X_arg2 X_arg3 X_arg4 X_arg5 X_arg6 X_arg12 X_arg13 X_arg14 G9 G10 G11 k).2.1))
    (fun k => arg11.view.read (Elt Ideal) (arg11.view.writes (Elt Ideal) G11 (pb_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 hc X_arg2 X_arg3 X_arg4 X_arg5 X_arg6 X_arg12 X_arg13 X_arg14 G9 G10 G11 k).2.2)) fun k hk => ?_
  have e := pb_k0_t4_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 hc X_arg2 X_arg3 X_arg4 X_arg5 X_arg6 X_arg12 X_arg13 X_arg14 G9 G10 G11 ⟨k, lt_of_lt_of_eq hk trips4.symm⟩
  dsimp only at e ⊢
  rw [e]
  dsimp only
  rw [View.writes_append, View.writes_append, View.writes_append]
  exact trip512 𝒱 c bd i arg2 harg2 arg3 harg3 arg4 harg4 arg5 harg5 arg6 harg6 arg7 harg7 arg8 harg8 arg9 harg9 arg10 harg10 arg11 harg11 arg12 harg12 arg13 harg13 arg14 harg14 arg1 X_arg2 X_arg3 X_arg4 X_arg5 X_arg6 X_arg12 X_arg13 X_arg14 hc hb ha1 h2 h3 h4 h5 h6 h12 h13 h14 ⟨k, lt_of_lt_of_eq hk trips4.symm⟩ _ _ _

end N512

section N640
variable (hc : k0_cond6 i = 1#1)

theorem trips5 : k0_t5_loop.trips = 16 := by decide +kernel
theorem off13 : ∀ k : Fin k0_t5_loop.trips, k0_off13 k = ![0, 256 * k.val, 0] := by decide +kernel
theorem off14 : ∀ k : Fin k0_t5_loop.trips, k0_off14 k = ![0, 256 * k.val, 0] := by decide +kernel
theorem off15 : ∀ k : Fin k0_t5_loop.trips, k0_off15 k = ![0, k.val, 0, 0] := by decide +kernel

variable {P : Pt} (hb : P.b = 4) (ha1 : arg1 = BitVec.ofNat 32 4)
  (h2 : arg2.view.read (Elt Ideal) X_arg2 = P.q)
  (h3 : arg3.view.read (Elt Ideal) X_arg3 = P.g)
  (h4 : arg4.view.read (Elt Ideal) X_arg4 = P.o)
  (h5 : arg5.view.read (Elt Ideal) X_arg5 = P.rp)
  (h6 : arg6.view.read (Elt Ideal) X_arg6 = P.c)
  (h12 : arg12.view.read (Elt Ideal) X_arg12 = P.cs)
  (h13 : arg13.view.read (Elt Ideal) X_arg13 = P.kr)
  (h14 : arg14.view.read (Elt Ideal) X_arg14 = P.kt)

include hb ha1 h2 h3 h4 h5 h6 h12 h13 in
/-- The blocks trip `k` loads are the point's. -/
theorem tile640 (k : Fin k0_t5_loop.trips) : P.Tile640 arg1 (trip_k0_t5.sl.arg15 k) k.val
    (View.readAt (Elt Ideal) arg2.view (Rect.unit (s := S1x4096x576) (k0_off13 k) S1x256x576.size (k0_off13_inb i k hc)).toLoadRect X_arg2)
    (View.readAt (Elt Ideal) arg3.view (Rect.unit (s := S1x4096x512) (k0_off14 k) S1x256x512.size (k0_off14_inb i k hc)).toLoadRect X_arg3)
    (View.readAt (Elt Ideal) arg4.view (Rect.unit (s := S1x4096x512) (k0_off14 k) S1x256x512.size (k0_off14_inb i k hc)).toLoadRect X_arg4)
    (View.readAt (Elt Ideal) arg5.view (Rect.unit (s := S1x16x8x256) (k0_off15 k) S1x1x8x256.size (k0_off15_inb i k hc)).toLoadRect X_arg5)
    (View.readAt (Elt Ideal) arg6.view (Rect.unit (s := S1x640x512) ![0, 0, 0] S1x640x512.size inb_S1x640x512_S1x640x512_0_0_0).toLoadRect X_arg6)
    (View.readAt (Elt Ideal) arg12.view (Rect.unit (s := S640x128) ![0, 0] S640x128.size inb_S640x128_S640x128_0_0).toLoadRect X_arg12)
    (View.readAt (Elt Ideal) arg13.view (Rect.unit (s := S640x64) ![0, 0] S640x64.size inb_S640x64_S640x64_0_0).toLoadRect X_arg13) := by
  have hk : k.val < 16 := lt_of_lt_of_eq k.isLt trips5
  refine ⟨⟨hk, fun r c => ?_, fun r c => ?_, fun r c => ?_, fun a r => ?_⟩, hb, ha1, ?_, fun j d => ?_, fun j d => ?_, fun j d => ?_⟩
  · rw [← h2]
    refine readAt_at _ _ _ (off13 k) _ _ ?_
    exact at3 rfl (rowAt_val hk r) (Nat.zero_add _).symm
  · rw [← h3]
    refine readAt_at _ _ _ (off14 k) _ _ ?_
    exact at3 rfl (rowAt_val hk r) (Nat.zero_add _).symm
  · rw [← h4]
    refine readAt_at _ _ _ (off14 k) _ _ ?_
    exact at3 rfl (rowAt_val hk r) (Nat.zero_add _).symm
  · rw [← h5]
    refine readAt_at _ _ _ (off15 k) _ _ ?_
    exact at4 rfl rfl (Nat.zero_add _).symm (Nat.zero_add _).symm
  · exact iv_word k.val
  · rw [← h6]
    refine readAt_at _ _ _ rfl _ _ ?_
    exact at3 rfl (Nat.zero_add _).symm (Nat.zero_add _).symm
  · rw [← h12]
    refine readAt_at _ _ _ rfl _ _ ?_
    exact at2 (Nat.zero_add _).symm (Nat.zero_add _).symm
  · rw [← h13]
    refine readAt_at _ _ _ rfl _ _ ?_
    exact at2 (Nat.zero_add _).symm (Nat.zero_add _).symm

include hb ha1 h2 h3 h4 h5 h6 h12 h13 h14 in
/-- What trip `k` leaves: the query gradient of its 256 rows, and its contributions added to the two key gradients. -/
theorem trip640 (k : Fin k0_t5_loop.trips) (f9 : BufTy.Contents (Elt Ideal) arg9.view.ty)
    (f10 : BufTy.Contents (Elt Ideal) arg10.view.ty) (f11 : BufTy.Contents (Elt Ideal) arg11.view.ty) :
    Trip P k.val (arg9.view.read (Elt Ideal) f9) (arg10.view.read (Elt Ideal) f10) (arg11.view.read (Elt Ideal) f11)
      (arg9.view.read (Elt Ideal) (arg9.view.writes (Elt Ideal) f9 (tripL_k0_t5 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 hc X_arg2 X_arg3 X_arg4 X_arg5 X_arg6 X_arg12 X_arg13 X_arg14 k f9 f10 f11).1))
      (arg10.view.read (Elt Ideal) (arg10.view.writes (Elt Ideal) f10 (tripL_k0_t5 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 hc X_arg2 X_arg3 X_arg4 X_arg5 X_arg6 X_arg12 X_arg13 X_arg14 k f9 f10 f11).2.1))
      (arg11.view.read (Elt Ideal) (arg11.view.writes (Elt Ideal) f11 (tripL_k0_t5 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 hc X_arg2 X_arg3 X_arg4 X_arg5 X_arg6 X_arg12 X_arg13 X_arg14 k f9 f10 f11).2.2)) := by
  have hk : k.val < 16 := lt_of_lt_of_eq k.isLt trips5
  have ht := tile640 (P := P) i arg2 arg3 arg4 arg5 arg6 arg12 arg13 arg1 X_arg2 X_arg3 X_arg4 X_arg5 X_arg6 X_arg12 X_arg13 hc hb ha1 h2 h3 h4 h5 h6 h12 h13 k
  unfold tripL_k0_t5 trip_k0_t5
  dsimp only
  refine ⟨fun r c hr => ?_, fun r c hr => ?_, fun j d => ?_, fun j d => ?_⟩
  · obtain ⟨x, rfl⟩ : ∃ x, r = rowAt k.val x :=
      ⟨⟨r.val - 256 * k.val, by omega⟩, Fin.ext (by rw [rowAt_val hk]; show r.val = 256 * k.val + (r.val - 256 * k.val); omega)⟩
    refine (View.read_writes_cons_unit_of_mem (off' := ![0, 256 * k.val, 0]) _ _ _ _ _ _ (ix3 (n0 := 1) 0 x c) (off13 k) ?_).trans ?_
    · exact at3 rfl (rowAt_val hk x) (Nat.zero_add _).symm
    refine dq640_apply ht _ (fun c j => ?_) x c
    rw [← h14]
    refine readAt_at _ _ _ rfl _ _ ?_
    exact at2 (Nat.zero_add _).symm (Nat.zero_add _).symm
  · exact View.read_writes_cons_unit_of_not_mem (off' := ![0, 256 * k.val, 0]) _ _ _ _ _ _ (off13 k) 1 hr
  · by_cases hj : j.val < 640
    · refine (View.read_writes_cons_unit_of_mem (off' := ![0, 0, 0]) arg10.view f10 inb_S1x640x512_S1x640x512_0_0_0 _ [] (ix3 0 j d) (ix3 (n0 := 1) 0 ⟨j.val, hj⟩ d) rfl ?_).trans ?_
      · exact at3 rfl (Nat.zero_add _).symm (Nat.zero_add _).symm
      refine dc640_apply ht _ ⟨j.val, hj⟩ d _ ?_
      refine readAt_at _ _ _ rfl _ _ ?_
      exact at3 rfl (Nat.zero_add _).symm (Nat.zero_add _).symm
    · rw [P.dc_masked _ _ _ (by rw [hb]; omega), add_zero]
      exact View.read_writes_cons_unit_of_not_mem (off' := ![0, 0, 0]) arg10.view f10 inb_S1x640x512_S1x640x512_0_0_0 _ [] (ix3 0 j d) rfl 1 (.inr (by show 0 + 640 ≤ j.val; omega))
  · by_cases hj : j.val < 640
    · refine (View.read_writes_cons_unit_of_mem (off' := ![0, 0, 0]) arg11.view f11 inb_S1x640x64_S1x640x64_0_0_0 _ [] (ix3 0 j d) (ix3 (n0 := 1) 0 ⟨j.val, hj⟩ d) rfl ?_).trans ?_
      · exact at3 rfl (Nat.zero_add _).symm (Nat.zero_add _).symm
      refine dkr640_apply ht _ ⟨j.val, hj⟩ d _ ?_
      refine readAt_at _ _ _ rfl _ _ ?_
      exact at3 rfl (Nat.zero_add _).symm (Nat.zero_add _).symm
    · rw [P.dkr_masked _ _ _ (by rw [hb]; omega), add_zero]
      exact View.read_writes_cons_unit_of_not_mem (off' := ![0, 0, 0]) arg11.view f11 inb_S1x640x64_S1x640x64_0_0_0 _ [] (ix3 0 j d) rfl 1 (.inr (by show 0 + 640 ≤ j.val; omega))

include hb ha1 h2 h3 h4 h5 h6 h12 h13 h14 in
/-- What the whole loop leaves. -/
theorem loop640 (G9 : BufTy.Contents (Elt Ideal) arg9.view.ty)
    (G10 : BufTy.Contents (Elt Ideal) arg10.view.ty) (G11 : BufTy.Contents (Elt Ideal) arg11.view.ty) :
    Whole P (arg10.view.read (Elt Ideal) G10) (arg11.view.read (Elt Ideal) G11)
      (arg9.view.read (Elt Ideal) (arg9.view.writes (Elt Ideal) G9 (pb_k0_t5 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 hc X_arg2 X_arg3 X_arg4 X_arg5 X_arg6 X_arg12 X_arg13 X_arg14 G9 G10 G11 k0_t5_loop.trips).1))
      (arg10.view.read (Elt Ideal) (arg10.view.writes (Elt Ideal) G10 (pb_k0_t5 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 hc X_arg2 X_arg3 X_arg4 X_arg5 X_arg6 X_arg12 X_arg13 X_arg14 G9 G10 G11 k0_t5_loop.trips).2.1))
      (arg11.view.read (Elt Ideal) (arg11.view.writes (Elt Ideal) G11 (pb_k0_t5 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 hc X_arg2 X_arg3 X_arg4 X_arg5 X_arg6 X_arg12 X_arg13 X_arg14 G9 G10 G11 k0_t5_loop.trips).2.2)) := by
  rw [trips5]
  refine Trip.whole (fun k => arg9.view.read (Elt Ideal) (arg9.view.writes (Elt Ideal) G9 (pb_k0_t5 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 hc X_arg2 X_arg3 X_arg4 X_arg5 X_arg6 X_arg12 X_arg13 X_arg14 G9 G10 G11 k).1))
    (fun k => arg10.view.read (Elt Ideal) (arg10.view.writes (Elt Ideal) G10 (pb_k0_t5 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 hc X_arg2 X_arg3 X_arg4 X_arg5 X_arg6 X_arg12 X_arg13 X_arg14 G9 G10 G11 k).2.1))
    (fun k => arg11.view.read (Elt Ideal) (arg11.view.writes (Elt Ideal) G11 (pb_k0_t5 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 hc X_arg2 X_arg3 X_arg4 X_arg5 X_arg6 X_arg12 X_arg13 X_arg14 G9 G10 G11 k).2.2)) fun k hk => ?_
  have e := pb_k0_t5_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 hc X_arg2 X_arg3 X_arg4 X_arg5 X_arg6 X_arg12 X_arg13 X_arg14 G9 G10 G11 ⟨k, lt_of_lt_of_eq hk trips5.symm⟩
  dsimp only at e ⊢
  rw [e]
  dsimp only
  rw [View.writes_append, View.writes_append, View.writes_append]
  exact trip640 𝒱 c bd i arg2 harg2 arg3 harg3 arg4 harg4 arg5 harg5 arg6 harg6 arg7 harg7 arg8 harg8 arg9 harg9 arg10 harg10 arg11 harg11 arg12 harg12 arg13 harg13 arg14 harg14 arg1 X_arg2 X_arg3 X_arg4 X_arg5 X_arg6 X_arg12 X_arg13 X_arg14 hc hb ha1 h2 h3 h4 h5 h6 h12 h13 h14 ⟨k, lt_of_lt_of_eq hk trips5.symm⟩ _ _ _

end N640

end Cert.KernelIdeal.Hand
end
-- ==== Proof.Prep.lean ====
module

public import proofs.«01_k».proof.Proof.Trip
public import Idealize.ShloMosaic.Lib.VecWindow

/-! # The preparation

At the first point of a batch entry the kernel fills three scratches from the entry's keys: their scales times the softmax
scale, their rope parts over their scales, and the transposed dequantized keys. -/

@[expose] public section

set_option maxRecDepth 16384

noncomputable section

namespace Cert.KernelIdeal.Hand

open Idealize.ShloMosaic Idealize.ShloMosaic.TcCoe Idealize.SL.Sem
open Cert.KernelIdeal Cert.KernelIdeal.Gen

/-- The keys' scales times the softmax scale, the same in every lane. -/
def csOf (x5 : FVec Ideal S1x640x1 .f32) : FVec Ideal S640x128 .f32 := fun i => x5 (ix3 0 (i 0) 0) * SC

/-- The keys' rope parts over their scales. -/
def krOf (x5 : FVec Ideal S1x640x1 .f32) (x6 : FVec Ideal S1x640x64 .bf16) : FVec Ideal S640x64 .bf16 :=
  fun i => Ideal.div (x6 (ix3 0 (i 0) (i 1))) (x5 (ix3 0 (i 0) 0))

/-- The dequantized keys, transposed: the latent columns, then the rope columns. -/
def ktOf (x4 : FVec Ideal S1x640x512 .fp8e4m3) (x5 : FVec Ideal S1x640x1 .f32) (x6 : FVec Ideal S1x640x64 .bf16) :
    FVec Ideal S576x640 .bf16 := fun i =>
  if h : (i 0).val < 512 then x4 (ix3 0 (i 1) ⟨(i 0).val, h⟩) * x5 (ix3 0 (i 1) 0)
  else x6 (ix3 0 (i 1) ⟨(i 0).val - 512, by have : (i 0).val < 576 := (i 0).isLt; show (i 0).val - 512 < 64; omega⟩)

theorem pay9_eq (v18 : FVec Ideal S1x640x1 .f32) : k0_pay9 (F := Ideal) v18 = csOf v18 := by
  funext i
  idx_vars i
  pointwise [k0_pay9, k0_pay8]
  rfl

theorem pay10_eq (v18 : FVec Ideal S1x640x1 .f32) (v27 : FVec Ideal S1x640x64 .bf16) : k0_pay10 (F := Ideal) v18 v27 = krOf v18 v27 := by
  funext i
  idx_vars i
  pointwise [k0_pay10, k0_pay8]
  rfl

theorem pay11_apply (v18 : FVec Ideal S1x640x1 .f32) (v36 : FVec Ideal S1x640x512 .fp8e4m3) (a : Fin 512) (j : Fin 640) :
    k0_pay11 (F := Ideal) v18 v36 (ix2 a j) = v36 (ix3 0 j a) * v18 (ix3 0 j 0) := by
  pointwise [k0_pay11, k0_pay8]

theorem pay12_apply (v46 : FVec Ideal S1x640x64 .bf16) (a : Fin 64) (j : Fin 640) :
    k0_pay12 (F := Ideal) v46 (ix2 a j) = v46 (ix3 0 j a) := by
  pointwise [k0_pay12]

/-- Reading a whole view's rectangle is reading the view. -/
theorem readAt_all {sig : RefSig} {κ : Kind} {sp : Space} {s : Shape} {e : EltTy} {Val : EltTy → Type} (v : View sig κ sp s e)
    (f : v.ty.Contents Val) {off : Fin s.rank → ℕ} (inb : ∀ a, off a + s.size a ≤ s.size a) :
    v.readAt Val (Rect.unit off s.size inb).toLoadRect f = v.read Val f := by
  funext x
  exact readAt_at v f inb rfl x x fun a => by have := inb a; omega

/-- The first scratch, once stored. -/
theorem read_cs {sp : Space} (v : View sig .tc sp S640x128 .f32) (g : v.ty.Contents (Elt Ideal)) {sp5 : Space}
    (v5 : View sig .tc sp5 S1x640x1 .f32) (f5 : v5.ty.Contents (Elt Ideal)) {x5 : FVec Ideal S1x640x1 .f32}
    (h5 : v5.read (Elt Ideal) f5 = x5) :
    v.read (Elt Ideal) (v.writes (Elt Ideal) g [⟨Rect.unit ![0, 0] S640x128.size inb_S640x128_S640x128_0_0,
      k0_pay9 (F := Ideal) (v5.readAt (Elt Ideal) (Rect.unit ![0, 0, 0] S1x640x1.size inb_S1x640x1_S1x640x1_0_0_0).toLoadRect f5)⟩])
      = csOf x5 := by
  rw [readAt_all v5 f5 inb_S1x640x1_S1x640x1_0_0_0, h5, pay9_eq]
  exact View.read_writes_full v g _ _ _

/-- The second scratch, once stored. -/
theorem read_kr {sp : Space} (v : View sig .tc sp S640x64 .bf16) (g : v.ty.Contents (Elt Ideal)) {sp5 sp6 : Space}
    (v5 : View sig .tc sp5 S1x640x1 .f32) (f5 : v5.ty.Contents (Elt Ideal)) (v6 : View sig .tc sp6 S1x640x64 .bf16)
    (f6 : v6.ty.Contents (Elt Ideal)) {x5 : FVec Ideal S1x640x1 .f32} {x6 : FVec Ideal S1x640x64 .bf16}
    (h5 : v5.read (Elt Ideal) f5 = x5) (h6 : v6.read (Elt Ideal) f6 = x6) :
    v.read (Elt Ideal) (v.writes (Elt Ideal) g [⟨Rect.unit ![0, 0] S640x64.size inb_S640x64_S640x64_0_0,
      k0_pay10 (F := Ideal) (v5.readAt (Elt Ideal) (Rect.unit ![0, 0, 0] S1x640x1.size inb_S1x640x1_S1x640x1_0_0_0).toLoadRect f5)
        (v6.readAt (Elt Ideal) (Rect.unit ![0, 0, 0] S1x640x64.size inb_S1x640x64_S1x640x64_0_0_0).toLoadRect f6)⟩])
      = krOf x5 x6 := by
  rw [readAt_all v5 f5 inb_S1x640x1_S1x640x1_0_0_0, readAt_all v6 f6 inb_S1x640x64_S1x640x64_0_0_0, h5, h6, pay10_eq]
  exact View.read_writes_full v g _ _ _

/-- The third scratch, once its two row blocks are stored. -/
theorem read_kt {sp : Space} (v : View sig .tc sp S576x640 .bf16) (g : v.ty.Contents (Elt Ideal)) {sp4 sp5 sp6 : Space}
    (v4 : View sig .tc sp4 S1x640x512 .fp8e4m3) (f4 : v4.ty.Contents (Elt Ideal))
    (v5 : View sig .tc sp5 S1x640x1 .f32) (f5 : v5.ty.Contents (Elt Ideal)) (v6 : View sig .tc sp6 S1x640x64 .bf16)
    (f6 : v6.ty.Contents (Elt Ideal)) {x4 : FVec Ideal S1x640x512 .fp8e4m3} {x5 : FVec Ideal S1x640x1 .f32}
    {x6 : FVec Ideal S1x640x64 .bf16}
    (h4 : v4.read (Elt Ideal) f4 = x4) (h5 : v5.read (Elt Ideal) f5 = x5) (h6 : v6.read (Elt Ideal) f6 = x6) :
    v.read (Elt Ideal) (v.writes (Elt Ideal) g [⟨Rect.unit ![512, 0] S64x640.size inb_S576x640_S64x640_512_0,
        k0_pay12 (F := Ideal) (v6.readAt (Elt Ideal) (Rect.unit ![0, 0, 0] S1x640x64.size inb_S1x640x64_S1x640x64_0_0_0).toLoadRect f6)⟩,
      ⟨Rect.unit ![0, 0] S512x640.size inb_S576x640_S512x640_0_0,
        k0_pay11 (F := Ideal) (v5.readAt (Elt Ideal) (Rect.unit ![0, 0, 0] S1x640x1.size inb_S1x640x1_S1x640x1_0_0_0).toLoadRect f5)
          (v4.readAt (Elt Ideal) (Rect.unit ![0, 0, 0] S1x640x512.size inb_S1x640x512_S1x640x512_0_0_0).toLoadRect f4)⟩])
      = ktOf x4 x5 x6 := by
  rw [readAt_all v4 f4 inb_S1x640x512_S1x640x512_0_0_0, readAt_all v5 f5 inb_S1x640x1_S1x640x1_0_0_0,
    readAt_all v6 f6 inb_S1x640x64_S1x640x64_0_0_0, h4, h5, h6]
  funext y
  idx_vars y
  by_cases hy : y0.val < 512
  · rw [View.read_writes_cons_unit_of_not_mem v g inb_S576x640_S64x640_512_0 _ _ (ix2 y0 y1) rfl (0 : Fin 2) (Or.inl hy)]
    refine (View.read_writes_cons_unit_of_mem v g inb_S576x640_S512x640_0_0 _ [] (ix2 y0 y1)
      (ix2 (⟨y0.val, hy⟩ : Fin 512) y1) rfl (at2 (Nat.zero_add _).symm (Nat.zero_add _).symm)).trans ?_
    rw [pay11_apply]
    unfold ktOf
    rw [dif_pos (show ((ix2 y0 y1 : S576x640.Idx) 0).val < 512 from hy)]
    rfl
  · refine (View.read_writes_cons_unit_of_mem v g inb_S576x640_S64x640_512_0 _ _ (ix2 y0 y1)
      (ix2 (⟨y0.val - 512, by omega⟩ : Fin 64) y1) rfl (at2 (show y0.val = 512 + (y0.val - 512) by omega) (Nat.zero_add _).symm)).trans ?_
    rw [pay12_apply]
    unfold ktOf
    rw [dif_neg (show ¬((ix2 y0 y1 : S576x640.Idx) 0).val < 512 from hy)]
    rfl

/-- A cleared latent output. -/
theorem read_pay1 {sp : Space} (v : View sig .tc sp S1x640x512 .f32) (g : v.ty.Contents (Elt Ideal)) :
    v.read (Elt Ideal) (v.writes (Elt Ideal) g [⟨Rect.unit ![0, 0, 0] S1x640x512.size inb_S1x640x512_S1x640x512_0_0_0,
      k0_pay1 (F := Ideal) (Scalar.ofBits .f32 0x00000000#32)⟩]) = fun _ => 0 := by
  refine (View.read_writes_full v g _ _ _).trans ?_
  funext i
  show Ideal.ofBits .f32 0x00000000#32 = 0
  simp [Ideal.ofBits, Ideal.ieee]

/-- A cleared rope output. -/
theorem read_pay2 {sp : Space} (v : View sig .tc sp S1x640x64 .f32) (g : v.ty.Contents (Elt Ideal)) :
    v.read (Elt Ideal) (v.writes (Elt Ideal) g [⟨Rect.unit ![0, 0, 0] S1x640x64.size inb_S1x640x64_S1x640x64_0_0_0,
      k0_pay2 (F := Ideal)⟩]) = fun _ => 0 := by
  refine (View.read_writes_full v g _ _ _).trans ?_
  funext i
  show Ideal.ofBits .f32 0x00000000#32 = 0
  simp [Ideal.ofBits, Ideal.ieee]

end Cert.KernelIdeal.Hand
end
-- ==== Proof.Blocks.lean ====
module

public import proofs.«01_k».proof.Proof.Runs
public import proofs.«01_k».proof.Proof.Prep
public import Idealize.ShloMosaic.Lib.Pipeline.ValueKit

/-! # The blocks of a grid point

Point `t` works on batch entry `t / 5` and query block `t % 5`. Here: its windows' blocks read off the arrays, and the data
(`ptAt`) its body computes with. -/

@[expose] public section

set_option maxRecDepth 16384

noncomputable section

namespace Cert.KernelIdeal.Hand

open Idealize.ShloMosaic Idealize.ShloMosaic.TcCoe Idealize.SL.Sem
open Cert.KernelIdeal Cert.KernelIdeal.Gen

variable (m : (ℓ : Loc nD τ sig) → Buf (Elt Ideal) ℓ)

/-- The windows' index maps, point by point. -/
theorem idx : ∀ t : Fin cfg0.N, win0_0.index t = ![t.val / 5, t.val % 5, 0] ∧ win0_1.index t = ![t.val / 5, t.val % 5, 0]
    ∧ win0_2.index t = ![t.val / 5, t.val % 5, 0] ∧ win0_3.index t = ![t.val / 5, t.val % 5, 0, 0]
    ∧ win0_4.index t = ![t.val / 5, 0, 0] ∧ win0_5.index t = ![t.val / 5, 0, 0] ∧ win0_6.index t = ![t.val / 5, 0, 0]
    ∧ win0_7.index t = ![t.val / 5, t.val % 5, 0] ∧ win0_8.index t = ![t.val / 5, 0, 0] ∧ win0_9.index t = ![t.val / 5, 0, 0] :=
  (by decide +kernel : ∀ t : Fin grid0.N, _)

/-- The batch entry of a point. -/
abbrev batchOf (t : Fin cfg0.N) : Fin 3 := ⟨t.val / 5, by have : t.val < 15 := lt_of_lt_of_eq t.isLt N_0; omega⟩

/-- The array row of row `r` of point `t`'s query block. -/
abbrev arrRow (t : Fin cfg0.N) (r : Fin 4096) : Fin 20480 :=
  ⟨t.val % 5 * 4096 + r.val, by omega⟩

/-- The array tile of tile `k` of point `t`'s query block. -/
abbrev arrTile (t : Fin cfg0.N) (k : Fin 16) : Fin 80 := ⟨t.val % 5 * 16 + k.val, by omega⟩

theorem iblk0_apply (c : Dev nD) (t : Fin cfg0.N) (r : Fin 4096) (k : Fin 576) :
    (iblk m c 0 t : FVec Ideal S1x4096x576 .fp8e4m3) (ix3 0 r k) = (V m c main_v18 : FVec Ideal S3x20480x576 .fp8e4m3) (ix3 (batchOf t) (arrRow t r) k) := by
  blk_ext [iblk, idx t]
theorem iblk1_apply (c : Dev nD) (t : Fin cfg0.N) (r : Fin 4096) (k : Fin 512) :
    (iblk m c 1 t : FVec Ideal S1x4096x512 .fp8e5m2) (ix3 0 r k) = (V m c main_v19 : FVec Ideal S3x20480x512 .fp8e5m2) (ix3 (batchOf t) (arrRow t r) k) := by
  blk_ext [iblk, idx t]
theorem iblk2_apply (c : Dev nD) (t : Fin cfg0.N) (r : Fin 4096) (k : Fin 512) :
    (iblk m c 2 t : FVec Ideal S1x4096x512 .bf16) (ix3 0 r k) = (V m c main_v20 : FVec Ideal S3x20480x512 .bf16) (ix3 (batchOf t) (arrRow t r) k) := by
  blk_ext [iblk, idx t]
theorem iblk3_apply (c : Dev nD) (t : Fin cfg0.N) (k : Fin 16) (a : Fin 8) (l : Fin 256) :
    (iblk m c 3 t : FVec Ideal S1x16x8x256 .f32) (ix4 0 k a l) = (V m c main_v17 : FVec Ideal S3x80x8x256 .f32) (ix4 (batchOf t) (arrTile t k) a l) := by
  blk_ext [iblk, idx t]
theorem iblk4_apply (c : Dev nD) (t : Fin cfg0.N) (j : Fin 640) (k : Fin 512) :
    (iblk m c 4 t : FVec Ideal S1x640x512 .fp8e4m3) (ix3 0 j k) = (V m c main_arg2 : FVec Ideal S3x640x512 .fp8e4m3) (ix3 (batchOf t) j k) := by
  blk_ext [iblk, idx t]
theorem iblk5_apply (c : Dev nD) (t : Fin cfg0.N) (j : Fin 640) (k : Fin 1) :
    (iblk m c 5 t : FVec Ideal S1x640x1 .f32) (ix3 0 j k) = (V m c main_v21 : FVec Ideal S3x640x1 .f32) (ix3 (batchOf t) j k) := by
  blk_ext [iblk, idx t]
theorem iblk6_apply (c : Dev nD) (t : Fin cfg0.N) (j : Fin 640) (k : Fin 64) :
    (iblk m c 6 t : FVec Ideal S1x640x64 .bf16) (ix3 0 j k) = (V m c main_arg4 : FVec Ideal S3x640x64 .bf16) (ix3 (batchOf t) j k) := by
  blk_ext [iblk, idx t]

/-- The key windows' blocks depend on the batch entry alone. -/
theorem iblk4_batch (c : Dev nD) {t t' : Fin cfg0.N} (h : t.val / 5 = t'.val / 5) :
    (iblk m c 4 t : FVec Ideal S1x640x512 .fp8e4m3) = iblk m c 4 t' := by
  funext i
  idx_vars i
  rw [Subsingleton.elim i0 0]
  exact (iblk4_apply m c t i1 i2).trans ((congrArg (fun b => (V m c main_arg2 : FVec Ideal S3x640x512 .fp8e4m3) (ix3 b i1 i2))
    (Fin.ext h : batchOf t = batchOf t')).trans (iblk4_apply m c t' i1 i2).symm)
theorem iblk5_batch (c : Dev nD) {t t' : Fin cfg0.N} (h : t.val / 5 = t'.val / 5) :
    (iblk m c 5 t : FVec Ideal S1x640x1 .f32) = iblk m c 5 t' := by
  funext i
  idx_vars i
  rw [Subsingleton.elim i0 0]
  exact (iblk5_apply m c t i1 i2).trans ((congrArg (fun b => (V m c main_v21 : FVec Ideal S3x640x1 .f32) (ix3 b i1 i2))
    (Fin.ext h : batchOf t = batchOf t')).trans (iblk5_apply m c t' i1 i2).symm)
theorem iblk6_batch (c : Dev nD) {t t' : Fin cfg0.N} (h : t.val / 5 = t'.val / 5) :
    (iblk m c 6 t : FVec Ideal S1x640x64 .bf16) = iblk m c 6 t' := by
  funext i
  idx_vars i
  rw [Subsingleton.elim i0 0]
  exact (iblk6_apply m c t i1 i2).trans ((congrArg (fun b => (V m c main_arg4 : FVec Ideal S3x640x64 .bf16) (ix3 b i1 i2))
    (Fin.ext h : batchOf t = batchOf t')).trans (iblk6_apply m c t' i1 i2).symm)

/-- What point `t`'s body computes with: its windows' blocks, and the scratches prepared from its batch entry's keys. -/
def ptAt (c : Dev nD) (t : Fin cfg0.N) : Pt where
  b := t.val % 5
  q := iblk m c 0 t
  g := iblk m c 1 t
  o := iblk m c 2 t
  rp := iblk m c 3 t
  c := iblk m c 4 t
  cs := csOf (iblk m c 5 t)
  kr := krOf (iblk m c 5 t) (iblk m c 6 t)
  kt := ktOf (iblk m c 4 t) (iblk m c 5 t) (iblk m c 6 t)

/-- Point number `n` of the grid. -/
def pidx (n : ℕ) : Fin cfg0.N := ⟨n % 15, lt_of_lt_of_eq (Nat.mod_lt _ (by decide)) N_0.symm⟩

theorem pidx_val (t : Fin cfg0.N) : pidx t.val = t :=
  Fin.ext (Nat.mod_eq_of_lt (lt_of_lt_of_eq t.isLt N_0))

/-- What the latent key gradient's block holds after point `t`: the sums of the batch entry's points up to `t`. -/
def accC (c : Dev nD) (t : Fin cfg0.N) : FVec Ideal S1x640x512 .f32 := fun i =>
  ∑ s ∈ Finset.range (t.val % 5 + 1), (ptAt m c (pidx (t.val / 5 * 5 + s))).dcAll i

/-- What the rope key gradient's block holds after point `t`. -/
def accR (c : Dev nD) (t : Fin cfg0.N) : FVec Ideal S1x640x64 .f32 := fun i =>
  ∑ s ∈ Finset.range (t.val % 5 + 1), (ptAt m c (pidx (t.val / 5 * 5 + s))).dkrAll i

theorem pidx_last (t : Fin cfg0.N) : pidx (t.val / 5 * 5 + t.val % 5) = t := by
  rw [show t.val / 5 * 5 + t.val % 5 = t.val by omega, pidx_val]

theorem accC_zero (c : Dev nD) (t : Fin cfg0.N) (h : t.val % 5 = 0) : accC m c t = (ptAt m c t).dcAll := by
  funext i
  have e := pidx_last t
  unfold accC
  rw [h] at e ⊢
  rw [Finset.sum_range_one, e]

theorem accR_zero (c : Dev nD) (t : Fin cfg0.N) (h : t.val % 5 = 0) : accR m c t = (ptAt m c t).dkrAll := by
  funext i
  have e := pidx_last t
  unfold accR
  rw [h] at e ⊢
  rw [Finset.sum_range_one, e]

theorem accC_succ (c : Dev nD) (t : Fin cfg0.N) (h : t.val % 5 ≠ 0) (h' : t.val - 1 < cfg0.N) :
    accC m c t = fun i => accC m c ⟨t.val - 1, h'⟩ i + (ptAt m c t).dcAll i := by
  funext i
  unfold accC
  rw [Finset.sum_range_succ, pidx_last]
  rw [show (t.val - 1) % 5 + 1 = t.val % 5 by omega, show (t.val - 1) / 5 = t.val / 5 by omega]

theorem accR_succ (c : Dev nD) (t : Fin cfg0.N) (h : t.val % 5 ≠ 0) (h' : t.val - 1 < cfg0.N) :
    accR m c t = fun i => accR m c ⟨t.val - 1, h'⟩ i + (ptAt m c t).dkrAll i := by
  funext i
  unfold accR
  rw [Finset.sum_range_succ, pidx_last]
  rw [show (t.val - 1) % 5 + 1 = t.val % 5 by omega, show (t.val - 1) / 5 = t.val / 5 by omega]

end Cert.KernelIdeal.Hand
end
-- ==== Proof.RunA.lean ====
module

public import proofs.«01_k».proof.Proof.Runs
public import proofs.«01_k».proof.Proof.Prep
public import proofs.«01_k».proof.Proof.Gen.KernelIdeal.Loops

/-! # The body at the first point of a batch entry

The preparation fills the scratches (`Prep`), the outputs are cleared, and the loop of branch 0 runs (`loop128` of
`Trip`). -/

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

set_option maxHeartbeats 1200000 in
/-- Branch 0, the first point of a batch entry: the body prepares the scratches from the point's keys, clears the revisited
    outputs and leaves the point's `dq` and sums. -/
theorem runA (c : Dev nD) (i : grid0.Coords) (arg2 : Memref sig .tc .vmem S1x4096x576 .fp8e4m3) (harg2 : arg2.IsWhole) (arg3 : Memref sig .tc .vmem S1x4096x512 .fp8e5m2) (harg3 : arg3.IsWhole) (arg4 : Memref sig .tc .vmem S1x4096x512 .bf16) (harg4 : arg4.IsWhole) (arg5 : Memref sig .tc .vmem S1x16x8x256 .f32) (harg5 : arg5.IsWhole) (arg6 : Memref sig .tc .vmem S1x640x512 .fp8e4m3) (harg6 : arg6.IsWhole) (arg7 : Memref sig .tc .vmem S1x640x1 .f32) (harg7 : arg7.IsWhole) (arg8 : Memref sig .tc .vmem S1x640x64 .bf16) (harg8 : arg8.IsWhole) (arg9 : Memref sig .tc .vmem S1x4096x576 .bf16) (harg9 : arg9.IsWhole) (arg10 : Memref sig .tc .vmem S1x640x512 .f32) (harg10 : arg10.IsWhole) (arg11 : Memref sig .tc .vmem S1x640x64 .f32) (harg11 : arg11.IsWhole) (arg12 : Memref sig .tc .vmem S640x128 .f32) (harg12 : arg12.IsWhole) (arg13 : Memref sig .tc .vmem S640x64 .bf16) (harg13 : arg13.IsWhole) (arg14 : Memref sig .tc .vmem S576x640 .bf16) (harg14 : arg14.IsWhole) (hc0 : cond0_0 i) (hc1 : cond0_1 i) (hc2 : ¬cond0_2 i) (hc3 : ¬cond0_3 i) (hc4 : ¬cond0_4 i) (hc5 : ¬cond0_5 i) (P : Pt) (hb : P.b = 0) (hi : (i 1).val = 0)
    (x5 : Vec Ideal S1x640x1 .f32) (x6 : Vec Ideal S1x640x64 .bf16) (hcs : P.cs = csOf x5) (hkr : P.kr = krOf x5 x6) (hkt : P.kt = ktOf P.c x5 x6) (E : Set ℕ) (K : PUnit → sProp 𝕄) :
    iprop(owns (c : Thread nD τ) arg2 fullShare P.q ∗ owns (c : Thread nD τ) arg3 fullShare P.g ∗ owns (c : Thread nD τ) arg4 fullShare P.o ∗ owns (c : Thread nD τ) arg5 fullShare P.rp ∗ owns (c : Thread nD τ) arg6 fullShare P.c ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg2 fullShare P.q ∗ owns (c : Thread nD τ) arg3 fullShare P.g ∗ owns (c : Thread nD τ) arg4 fullShare P.o ∗ owns (c : Thread nD τ) arg5 fullShare P.rp ∗ owns (c : Thread nD τ) arg6 fullShare P.c ∗ owns (c : Thread nD τ) arg7 fullShare x5 ∗ owns (c : Thread nD τ) arg8 fullShare x6 ∗ owns (c : Thread nD τ) arg9 fullShare P.dq ∗ owns (c : Thread nD τ) arg10 fullShare P.dcAll ∗ owns (c : Thread nD τ) arg11 fullShare P.dkrAll ∗ owns (c : Thread nD τ) arg12 fullShare P.cs ∗ owns (c : Thread nD τ) arg13 fullShare P.kr ∗ owns (c : Thread nD τ) arg14 fullShare P.kt) -∗ K ⟨⟩))
      ⊢ wp frame (wpE (defs₀ (F := Ideal)) Variants.none c none) E (cc0_mla_bwd i arg2 harg2 arg3 harg3 arg4 harg4 arg5 harg5 arg6 harg6 arg7 harg7 arg8 harg8 arg9 harg9 arg10 harg10 arg11 harg11 arg12 harg12 arg13 harg13 arg14 harg14) K := by
  simp only [cc0_mla_bwd_eq_skeleton]; unfold cc0_mla_bwd_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%ds0, %fs0, -, HS0⟩, ⟨%ds1, %fs1, -, HS1⟩, ⟨%ds2, %fs2, -, HS2⟩, Hk⟩
  sl_exec (disch := first | sl_exact hc0 | sl_exact hc1 | sl_exact hc2 | sl_exact hc3 | sl_exact hc4 | sl_exact hc5)
  sl_step
  iapply Hk
  have gcs := fun g => (read_cs arg12.view g arg7.view f5 hf5).trans hcs.symm
  have gkr := fun g => (read_kr arg13.view g arg7.view f5 arg8.view f6 hf5 hf6).trans hkr.symm
  have gkt := fun g => (read_kt arg14.view g arg6.view f4 arg7.view f5 arg8.view f6 hf4 hf5 hf6).trans hkt.symm
  have hw := fun h9 h10 h11 => loop128 Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) f0 f1 f2 f3 f4 _ _ _ hc1 hb (by rw [hi]) hf0 hf1 hf2 hf3 hf4 (gcs arg12.view.junk) (gkr arg13.view.junk) (gkt arg14.view.junk) h9 h10 h11
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; swap; · iexact H7
    ipureintro; exact (hw _ _ _).dq
  isplitl [H8]
  · iexists _; isplitr; swap; · iexact H8
    ipureintro
    rw [View.writes_append]
    refine (hw _ _ _).dc.trans ?_
    funext y
    exact (congrArg (· + P.dcAll y) (congrFun (read_pay1 arg10.view arg10.view.junk) y)).trans (zero_add _)
  isplitl [H9]
  · iexists _; isplitr; swap; · iexact H9
    ipureintro
    rw [View.writes_append]
    refine (hw _ _ _).dkr.trans ?_
    funext y
    exact (congrArg (· + P.dkrAll y) (congrFun (read_pay2 arg11.view arg11.view.junk) y)).trans (zero_add _)
  isplitl [HS0]
  · iexists _; isplitr; swap; · iexact HS0
    ipureintro; exact gcs _
  isplitl [HS1]
  · iexists _; isplitr; swap; · iexact HS1
    ipureintro; exact gkr _
  iexists _; isplitr; swap; · iexact HS2
  ipureintro; exact gkt _

end Cert.KernelIdeal.Hand

end
-- ==== Proof.RunB.lean ====
module

public import proofs.«01_k».proof.Proof.Runs
public import proofs.«01_k».proof.Proof.Trip
public import proofs.«01_k».proof.Proof.Gen.KernelIdeal.Loops

/-! # The body at the points of branch 1

The loop over the sixteen row tiles is run by its invariant; what it leaves is `loop256` (`Trip`). -/

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

set_option maxHeartbeats 1200000 in
/-- Branch 1: from the point's windows, whatever the revisited outputs hold and the prepared scratches, the body leaves
    the point's `dq`, and the outputs with the point's sums added. -/
theorem runB (c : Dev nD) (i : grid0.Coords) (arg2 : Memref sig .tc .vmem S1x4096x576 .fp8e4m3) (harg2 : arg2.IsWhole) (arg3 : Memref sig .tc .vmem S1x4096x512 .fp8e5m2) (harg3 : arg3.IsWhole) (arg4 : Memref sig .tc .vmem S1x4096x512 .bf16) (harg4 : arg4.IsWhole) (arg5 : Memref sig .tc .vmem S1x16x8x256 .f32) (harg5 : arg5.IsWhole) (arg6 : Memref sig .tc .vmem S1x640x512 .fp8e4m3) (harg6 : arg6.IsWhole) (arg7 : Memref sig .tc .vmem S1x640x1 .f32) (harg7 : arg7.IsWhole) (arg8 : Memref sig .tc .vmem S1x640x64 .bf16) (harg8 : arg8.IsWhole) (arg9 : Memref sig .tc .vmem S1x4096x576 .bf16) (harg9 : arg9.IsWhole) (arg10 : Memref sig .tc .vmem S1x640x512 .f32) (harg10 : arg10.IsWhole) (arg11 : Memref sig .tc .vmem S1x640x64 .f32) (harg11 : arg11.IsWhole) (arg12 : Memref sig .tc .vmem S640x128 .f32) (harg12 : arg12.IsWhole) (arg13 : Memref sig .tc .vmem S640x64 .bf16) (harg13 : arg13.IsWhole) (arg14 : Memref sig .tc .vmem S576x640 .bf16) (harg14 : arg14.IsWhole) (hc0 : ¬cond0_0 i) (hc1 : ¬cond0_1 i) (hc2 : cond0_2 i) (hc3 : ¬cond0_3 i) (hc4 : ¬cond0_4 i) (hc5 : ¬cond0_5 i) (P : Pt) (hb : P.b = 1) (hi : (i 1).val = 1)
    (x5 : Vec Ideal S1x640x1 .f32) (x6 : Vec Ideal S1x640x64 .bf16) (y8 : Vec Ideal S1x640x512 .f32) (y9 : Vec Ideal S1x640x64 .f32) (E : Set ℕ) (K : PUnit → sProp 𝕄) :
    iprop(owns (c : Thread nD τ) arg2 fullShare P.q ∗ owns (c : Thread nD τ) arg3 fullShare P.g ∗ owns (c : Thread nD τ) arg4 fullShare P.o ∗ owns (c : Thread nD τ) arg5 fullShare P.rp ∗ owns (c : Thread nD τ) arg6 fullShare P.c ∗ owns (c : Thread nD τ) arg7 fullShare x5 ∗ owns (c : Thread nD τ) arg8 fullShare x6 ∗ (∃ d, owns (c : Thread nD τ) arg9 fullShare d) ∗ owns (c : Thread nD τ) arg10 fullShare y8 ∗ owns (c : Thread nD τ) arg11 fullShare y9 ∗ owns (c : Thread nD τ) arg12 fullShare P.cs ∗ owns (c : Thread nD τ) arg13 fullShare P.kr ∗ owns (c : Thread nD τ) arg14 fullShare P.kt
        ∗ (iprop(owns (c : Thread nD τ) arg2 fullShare P.q ∗ owns (c : Thread nD τ) arg3 fullShare P.g ∗ owns (c : Thread nD τ) arg4 fullShare P.o ∗ owns (c : Thread nD τ) arg5 fullShare P.rp ∗ owns (c : Thread nD τ) arg6 fullShare P.c ∗ owns (c : Thread nD τ) arg7 fullShare x5 ∗ owns (c : Thread nD τ) arg8 fullShare x6 ∗ owns (c : Thread nD τ) arg9 fullShare P.dq ∗ owns (c : Thread nD τ) arg10 fullShare (fun i => y8 i + P.dcAll i) ∗ owns (c : Thread nD τ) arg11 fullShare (fun i => y9 i + P.dkrAll i) ∗ owns (c : Thread nD τ) arg12 fullShare P.cs ∗ owns (c : Thread nD τ) arg13 fullShare P.kr ∗ owns (c : Thread nD τ) arg14 fullShare P.kt) -∗ K ⟨⟩))
      ⊢ wp frame (wpE (defs₀ (F := Ideal)) Variants.none c none) E (cc0_mla_bwd i arg2 harg2 arg3 harg3 arg4 harg4 arg5 harg5 arg6 harg6 arg7 harg7 arg8 harg8 arg9 harg9 arg10 harg10 arg11 harg11 arg12 harg12 arg13 harg13 arg14 harg14) K := by
  simp only [cc0_mla_bwd_eq_skeleton]; unfold cc0_mla_bwd_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%fs0, %hfs0, HS0⟩, ⟨%fs1, %hfs1, HS1⟩, ⟨%fs2, %hfs2, HS2⟩, Hk⟩
  sl_exec (disch := first | sl_exact hc0 | sl_exact hc1 | sl_exact hc2 | sl_exact hc3 | sl_exact hc4 | sl_exact hc5)
  sl_step
  iapply Hk
  have hw := fun h9 h10 h11 => loop256 Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) f0 f1 f2 f3 f4 fs0 fs1 fs2 hc2 hb (by rw [hi]) hf0 hf1 hf2 hf3 hf4 hfs0 hfs1 hfs2 h9 h10 h11
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; swap; · iexact H7
    ipureintro; exact (hw _ _ _).dq
  isplitl [H8]
  · iexists _; isplitr; swap; · iexact H8
    ipureintro; exact (hw _ _ _).dc.trans (by rw [hf8])
  isplitl [H9]
  · iexists _; isplitr; swap; · iexact H9
    ipureintro; exact (hw _ _ _).dkr.trans (by rw [hf9])
  isplitl [HS0]
  · iexists _; isplitr; · ipureintro; exact hfs0
    iexact HS0
  isplitl [HS1]
  · iexists _; isplitr; · ipureintro; exact hfs1
    iexact HS1
  iexists _; isplitr; · ipureintro; exact hfs2
  iexact HS2

end Cert.KernelIdeal.Hand

end
-- ==== Proof.RunC.lean ====
module

public import proofs.«01_k».proof.Proof.Runs
public import proofs.«01_k».proof.Proof.Trip
public import proofs.«01_k».proof.Proof.Gen.KernelIdeal.Loops

/-! # The body at the points of branch 2

The loop over the sixteen row tiles is run by its invariant; what it leaves is `loop384` (`Trip`). -/

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

set_option maxHeartbeats 1200000 in
/-- Branch 2: from the point's windows, whatever the revisited outputs hold and the prepared scratches, the body leaves
    the point's `dq`, and the outputs with the point's sums added. -/
theorem runC (c : Dev nD) (i : grid0.Coords) (arg2 : Memref sig .tc .vmem S1x4096x576 .fp8e4m3) (harg2 : arg2.IsWhole) (arg3 : Memref sig .tc .vmem S1x4096x512 .fp8e5m2) (harg3 : arg3.IsWhole) (arg4 : Memref sig .tc .vmem S1x4096x512 .bf16) (harg4 : arg4.IsWhole) (arg5 : Memref sig .tc .vmem S1x16x8x256 .f32) (harg5 : arg5.IsWhole) (arg6 : Memref sig .tc .vmem S1x640x512 .fp8e4m3) (harg6 : arg6.IsWhole) (arg7 : Memref sig .tc .vmem S1x640x1 .f32) (harg7 : arg7.IsWhole) (arg8 : Memref sig .tc .vmem S1x640x64 .bf16) (harg8 : arg8.IsWhole) (arg9 : Memref sig .tc .vmem S1x4096x576 .bf16) (harg9 : arg9.IsWhole) (arg10 : Memref sig .tc .vmem S1x640x512 .f32) (harg10 : arg10.IsWhole) (arg11 : Memref sig .tc .vmem S1x640x64 .f32) (harg11 : arg11.IsWhole) (arg12 : Memref sig .tc .vmem S640x128 .f32) (harg12 : arg12.IsWhole) (arg13 : Memref sig .tc .vmem S640x64 .bf16) (harg13 : arg13.IsWhole) (arg14 : Memref sig .tc .vmem S576x640 .bf16) (harg14 : arg14.IsWhole) (hc0 : ¬cond0_0 i) (hc1 : ¬cond0_1 i) (hc2 : ¬cond0_2 i) (hc3 : cond0_3 i) (hc4 : ¬cond0_4 i) (hc5 : ¬cond0_5 i) (P : Pt) (hb : P.b = 2) (hi : (i 1).val = 2)
    (x5 : Vec Ideal S1x640x1 .f32) (x6 : Vec Ideal S1x640x64 .bf16) (y8 : Vec Ideal S1x640x512 .f32) (y9 : Vec Ideal S1x640x64 .f32) (E : Set ℕ) (K : PUnit → sProp 𝕄) :
    iprop(owns (c : Thread nD τ) arg2 fullShare P.q ∗ owns (c : Thread nD τ) arg3 fullShare P.g ∗ owns (c : Thread nD τ) arg4 fullShare P.o ∗ owns (c : Thread nD τ) arg5 fullShare P.rp ∗ owns (c : Thread nD τ) arg6 fullShare P.c ∗ owns (c : Thread nD τ) arg7 fullShare x5 ∗ owns (c : Thread nD τ) arg8 fullShare x6 ∗ (∃ d, owns (c : Thread nD τ) arg9 fullShare d) ∗ owns (c : Thread nD τ) arg10 fullShare y8 ∗ owns (c : Thread nD τ) arg11 fullShare y9 ∗ owns (c : Thread nD τ) arg12 fullShare P.cs ∗ owns (c : Thread nD τ) arg13 fullShare P.kr ∗ owns (c : Thread nD τ) arg14 fullShare P.kt
        ∗ (iprop(owns (c : Thread nD τ) arg2 fullShare P.q ∗ owns (c : Thread nD τ) arg3 fullShare P.g ∗ owns (c : Thread nD τ) arg4 fullShare P.o ∗ owns (c : Thread nD τ) arg5 fullShare P.rp ∗ owns (c : Thread nD τ) arg6 fullShare P.c ∗ owns (c : Thread nD τ) arg7 fullShare x5 ∗ owns (c : Thread nD τ) arg8 fullShare x6 ∗ owns (c : Thread nD τ) arg9 fullShare P.dq ∗ owns (c : Thread nD τ) arg10 fullShare (fun i => y8 i + P.dcAll i) ∗ owns (c : Thread nD τ) arg11 fullShare (fun i => y9 i + P.dkrAll i) ∗ owns (c : Thread nD τ) arg12 fullShare P.cs ∗ owns (c : Thread nD τ) arg13 fullShare P.kr ∗ owns (c : Thread nD τ) arg14 fullShare P.kt) -∗ K ⟨⟩))
      ⊢ wp frame (wpE (defs₀ (F := Ideal)) Variants.none c none) E (cc0_mla_bwd i arg2 harg2 arg3 harg3 arg4 harg4 arg5 harg5 arg6 harg6 arg7 harg7 arg8 harg8 arg9 harg9 arg10 harg10 arg11 harg11 arg12 harg12 arg13 harg13 arg14 harg14) K := by
  simp only [cc0_mla_bwd_eq_skeleton]; unfold cc0_mla_bwd_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%fs0, %hfs0, HS0⟩, ⟨%fs1, %hfs1, HS1⟩, ⟨%fs2, %hfs2, HS2⟩, Hk⟩
  sl_exec (disch := first | sl_exact hc0 | sl_exact hc1 | sl_exact hc2 | sl_exact hc3 | sl_exact hc4 | sl_exact hc5)
  sl_step
  iapply Hk
  have hw := fun h9 h10 h11 => loop384 Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) f0 f1 f2 f3 f4 fs0 fs1 fs2 hc3 hb (by rw [hi]) hf0 hf1 hf2 hf3 hf4 hfs0 hfs1 hfs2 h9 h10 h11
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; swap; · iexact H7
    ipureintro; exact (hw _ _ _).dq
  isplitl [H8]
  · iexists _; isplitr; swap; · iexact H8
    ipureintro; exact (hw _ _ _).dc.trans (by rw [hf8])
  isplitl [H9]
  · iexists _; isplitr; swap; · iexact H9
    ipureintro; exact (hw _ _ _).dkr.trans (by rw [hf9])
  isplitl [HS0]
  · iexists _; isplitr; · ipureintro; exact hfs0
    iexact HS0
  isplitl [HS1]
  · iexists _; isplitr; · ipureintro; exact hfs1
    iexact HS1
  iexists _; isplitr; · ipureintro; exact hfs2
  iexact HS2

end Cert.KernelIdeal.Hand

end
-- ==== Proof.RunD.lean ====
module

public import proofs.«01_k».proof.Proof.Runs
public import proofs.«01_k».proof.Proof.Trip
public import proofs.«01_k».proof.Proof.Gen.KernelIdeal.Loops

/-! # The body at the points of branch 3

The loop over the sixteen row tiles is run by its invariant; what it leaves is `loop512` (`Trip`). -/

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

set_option maxHeartbeats 1200000 in
/-- Branch 3: from the point's windows, whatever the revisited outputs hold and the prepared scratches, the body leaves
    the point's `dq`, and the outputs with the point's sums added. -/
theorem runD (c : Dev nD) (i : grid0.Coords) (arg2 : Memref sig .tc .vmem S1x4096x576 .fp8e4m3) (harg2 : arg2.IsWhole) (arg3 : Memref sig .tc .vmem S1x4096x512 .fp8e5m2) (harg3 : arg3.IsWhole) (arg4 : Memref sig .tc .vmem S1x4096x512 .bf16) (harg4 : arg4.IsWhole) (arg5 : Memref sig .tc .vmem S1x16x8x256 .f32) (harg5 : arg5.IsWhole) (arg6 : Memref sig .tc .vmem S1x640x512 .fp8e4m3) (harg6 : arg6.IsWhole) (arg7 : Memref sig .tc .vmem S1x640x1 .f32) (harg7 : arg7.IsWhole) (arg8 : Memref sig .tc .vmem S1x640x64 .bf16) (harg8 : arg8.IsWhole) (arg9 : Memref sig .tc .vmem S1x4096x576 .bf16) (harg9 : arg9.IsWhole) (arg10 : Memref sig .tc .vmem S1x640x512 .f32) (harg10 : arg10.IsWhole) (arg11 : Memref sig .tc .vmem S1x640x64 .f32) (harg11 : arg11.IsWhole) (arg12 : Memref sig .tc .vmem S640x128 .f32) (harg12 : arg12.IsWhole) (arg13 : Memref sig .tc .vmem S640x64 .bf16) (harg13 : arg13.IsWhole) (arg14 : Memref sig .tc .vmem S576x640 .bf16) (harg14 : arg14.IsWhole) (hc0 : ¬cond0_0 i) (hc1 : ¬cond0_1 i) (hc2 : ¬cond0_2 i) (hc3 : ¬cond0_3 i) (hc4 : cond0_4 i) (hc5 : ¬cond0_5 i) (P : Pt) (hb : P.b = 3) (hi : (i 1).val = 3)
    (x5 : Vec Ideal S1x640x1 .f32) (x6 : Vec Ideal S1x640x64 .bf16) (y8 : Vec Ideal S1x640x512 .f32) (y9 : Vec Ideal S1x640x64 .f32) (E : Set ℕ) (K : PUnit → sProp 𝕄) :
    iprop(owns (c : Thread nD τ) arg2 fullShare P.q ∗ owns (c : Thread nD τ) arg3 fullShare P.g ∗ owns (c : Thread nD τ) arg4 fullShare P.o ∗ owns (c : Thread nD τ) arg5 fullShare P.rp ∗ owns (c : Thread nD τ) arg6 fullShare P.c ∗ owns (c : Thread nD τ) arg7 fullShare x5 ∗ owns (c : Thread nD τ) arg8 fullShare x6 ∗ (∃ d, owns (c : Thread nD τ) arg9 fullShare d) ∗ owns (c : Thread nD τ) arg10 fullShare y8 ∗ owns (c : Thread nD τ) arg11 fullShare y9 ∗ owns (c : Thread nD τ) arg12 fullShare P.cs ∗ owns (c : Thread nD τ) arg13 fullShare P.kr ∗ owns (c : Thread nD τ) arg14 fullShare P.kt
        ∗ (iprop(owns (c : Thread nD τ) arg2 fullShare P.q ∗ owns (c : Thread nD τ) arg3 fullShare P.g ∗ owns (c : Thread nD τ) arg4 fullShare P.o ∗ owns (c : Thread nD τ) arg5 fullShare P.rp ∗ owns (c : Thread nD τ) arg6 fullShare P.c ∗ owns (c : Thread nD τ) arg7 fullShare x5 ∗ owns (c : Thread nD τ) arg8 fullShare x6 ∗ owns (c : Thread nD τ) arg9 fullShare P.dq ∗ owns (c : Thread nD τ) arg10 fullShare (fun i => y8 i + P.dcAll i) ∗ owns (c : Thread nD τ) arg11 fullShare (fun i => y9 i + P.dkrAll i) ∗ owns (c : Thread nD τ) arg12 fullShare P.cs ∗ owns (c : Thread nD τ) arg13 fullShare P.kr ∗ owns (c : Thread nD τ) arg14 fullShare P.kt) -∗ K ⟨⟩))
      ⊢ wp frame (wpE (defs₀ (F := Ideal)) Variants.none c none) E (cc0_mla_bwd i arg2 harg2 arg3 harg3 arg4 harg4 arg5 harg5 arg6 harg6 arg7 harg7 arg8 harg8 arg9 harg9 arg10 harg10 arg11 harg11 arg12 harg12 arg13 harg13 arg14 harg14) K := by
  simp only [cc0_mla_bwd_eq_skeleton]; unfold cc0_mla_bwd_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%fs0, %hfs0, HS0⟩, ⟨%fs1, %hfs1, HS1⟩, ⟨%fs2, %hfs2, HS2⟩, Hk⟩
  sl_exec (disch := first | sl_exact hc0 | sl_exact hc1 | sl_exact hc2 | sl_exact hc3 | sl_exact hc4 | sl_exact hc5)
  sl_step
  iapply Hk
  have hw := fun h9 h10 h11 => loop512 Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) f0 f1 f2 f3 f4 fs0 fs1 fs2 hc4 hb (by rw [hi]) hf0 hf1 hf2 hf3 hf4 hfs0 hfs1 hfs2 h9 h10 h11
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; swap; · iexact H7
    ipureintro; exact (hw _ _ _).dq
  isplitl [H8]
  · iexists _; isplitr; swap; · iexact H8
    ipureintro; exact (hw _ _ _).dc.trans (by rw [hf8])
  isplitl [H9]
  · iexists _; isplitr; swap; · iexact H9
    ipureintro; exact (hw _ _ _).dkr.trans (by rw [hf9])
  isplitl [HS0]
  · iexists _; isplitr; · ipureintro; exact hfs0
    iexact HS0
  isplitl [HS1]
  · iexists _; isplitr; · ipureintro; exact hfs1
    iexact HS1
  iexists _; isplitr; · ipureintro; exact hfs2
  iexact HS2

end Cert.KernelIdeal.Hand

end
-- ==== Proof.RunE.lean ====
module

public import proofs.«01_k».proof.Proof.Runs
public import proofs.«01_k».proof.Proof.Trip
public import proofs.«01_k».proof.Proof.Gen.KernelIdeal.Loops

/-! # The body at the points of branch 4

The loop over the sixteen row tiles is run by its invariant; what it leaves is `loop640` (`Trip`). -/

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

set_option maxHeartbeats 1200000 in
/-- Branch 4: from the point's windows, whatever the revisited outputs hold and the prepared scratches, the body leaves
    the point's `dq`, and the outputs with the point's sums added. -/
theorem runE (c : Dev nD) (i : grid0.Coords) (arg2 : Memref sig .tc .vmem S1x4096x576 .fp8e4m3) (harg2 : arg2.IsWhole) (arg3 : Memref sig .tc .vmem S1x4096x512 .fp8e5m2) (harg3 : arg3.IsWhole) (arg4 : Memref sig .tc .vmem S1x4096x512 .bf16) (harg4 : arg4.IsWhole) (arg5 : Memref sig .tc .vmem S1x16x8x256 .f32) (harg5 : arg5.IsWhole) (arg6 : Memref sig .tc .vmem S1x640x512 .fp8e4m3) (harg6 : arg6.IsWhole) (arg7 : Memref sig .tc .vmem S1x640x1 .f32) (harg7 : arg7.IsWhole) (arg8 : Memref sig .tc .vmem S1x640x64 .bf16) (harg8 : arg8.IsWhole) (arg9 : Memref sig .tc .vmem S1x4096x576 .bf16) (harg9 : arg9.IsWhole) (arg10 : Memref sig .tc .vmem S1x640x512 .f32) (harg10 : arg10.IsWhole) (arg11 : Memref sig .tc .vmem S1x640x64 .f32) (harg11 : arg11.IsWhole) (arg12 : Memref sig .tc .vmem S640x128 .f32) (harg12 : arg12.IsWhole) (arg13 : Memref sig .tc .vmem S640x64 .bf16) (harg13 : arg13.IsWhole) (arg14 : Memref sig .tc .vmem S576x640 .bf16) (harg14 : arg14.IsWhole) (hc0 : ¬cond0_0 i) (hc1 : ¬cond0_1 i) (hc2 : ¬cond0_2 i) (hc3 : ¬cond0_3 i) (hc4 : ¬cond0_4 i) (hc5 : cond0_5 i) (P : Pt) (hb : P.b = 4) (hi : (i 1).val = 4)
    (x5 : Vec Ideal S1x640x1 .f32) (x6 : Vec Ideal S1x640x64 .bf16) (y8 : Vec Ideal S1x640x512 .f32) (y9 : Vec Ideal S1x640x64 .f32) (E : Set ℕ) (K : PUnit → sProp 𝕄) :
    iprop(owns (c : Thread nD τ) arg2 fullShare P.q ∗ owns (c : Thread nD τ) arg3 fullShare P.g ∗ owns (c : Thread nD τ) arg4 fullShare P.o ∗ owns (c : Thread nD τ) arg5 fullShare P.rp ∗ owns (c : Thread nD τ) arg6 fullShare P.c ∗ owns (c : Thread nD τ) arg7 fullShare x5 ∗ owns (c : Thread nD τ) arg8 fullShare x6 ∗ (∃ d, owns (c : Thread nD τ) arg9 fullShare d) ∗ owns (c : Thread nD τ) arg10 fullShare y8 ∗ owns (c : Thread nD τ) arg11 fullShare y9 ∗ owns (c : Thread nD τ) arg12 fullShare P.cs ∗ owns (c : Thread nD τ) arg13 fullShare P.kr ∗ owns (c : Thread nD τ) arg14 fullShare P.kt
        ∗ (iprop(owns (c : Thread nD τ) arg2 fullShare P.q ∗ owns (c : Thread nD τ) arg3 fullShare P.g ∗ owns (c : Thread nD τ) arg4 fullShare P.o ∗ owns (c : Thread nD τ) arg5 fullShare P.rp ∗ owns (c : Thread nD τ) arg6 fullShare P.c ∗ owns (c : Thread nD τ) arg7 fullShare x5 ∗ owns (c : Thread nD τ) arg8 fullShare x6 ∗ owns (c : Thread nD τ) arg9 fullShare P.dq ∗ owns (c : Thread nD τ) arg10 fullShare (fun i => y8 i + P.dcAll i) ∗ owns (c : Thread nD τ) arg11 fullShare (fun i => y9 i + P.dkrAll i) ∗ owns (c : Thread nD τ) arg12 fullShare P.cs ∗ owns (c : Thread nD τ) arg13 fullShare P.kr ∗ owns (c : Thread nD τ) arg14 fullShare P.kt) -∗ K ⟨⟩))
      ⊢ wp frame (wpE (defs₀ (F := Ideal)) Variants.none c none) E (cc0_mla_bwd i arg2 harg2 arg3 harg3 arg4 harg4 arg5 harg5 arg6 harg6 arg7 harg7 arg8 harg8 arg9 harg9 arg10 harg10 arg11 harg11 arg12 harg12 arg13 harg13 arg14 harg14) K := by
  simp only [cc0_mla_bwd_eq_skeleton]; unfold cc0_mla_bwd_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%fs0, %hfs0, HS0⟩, ⟨%fs1, %hfs1, HS1⟩, ⟨%fs2, %hfs2, HS2⟩, Hk⟩
  sl_exec (disch := first | sl_exact hc0 | sl_exact hc1 | sl_exact hc2 | sl_exact hc3 | sl_exact hc4 | sl_exact hc5)
  sl_step
  iapply Hk
  have hw := fun h9 h10 h11 => loop640 Variants.none c none i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) f0 f1 f2 f3 f4 fs0 fs1 fs2 hc5 hb (by rw [hi]) hf0 hf1 hf2 hf3 hf4 hfs0 hfs1 hfs2 h9 h10 h11
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; swap; · iexact H7
    ipureintro; exact (hw _ _ _).dq
  isplitl [H8]
  · iexists _; isplitr; swap; · iexact H8
    ipureintro; exact (hw _ _ _).dc.trans (by rw [hf8])
  isplitl [H9]
  · iexists _; isplitr; swap; · iexact H9
    ipureintro; exact (hw _ _ _).dkr.trans (by rw [hf9])
  isplitl [HS0]
  · iexists _; isplitr; · ipureintro; exact hfs0
    iexact HS0
  isplitl [HS1]
  · iexists _; isplitr; · ipureintro; exact hfs1
    iexact HS1
  iexists _; isplitr; · ipureintro; exact hfs2
  iexact HS2

end Cert.KernelIdeal.Hand

end
-- ==== Proof.Dats.lean ====
module

public import proofs.«01_k».proof.Proof.Blocks
public import proofs.«01_k».proof.Proof.RunA
public import proofs.«01_k».proof.Proof.RunB
public import proofs.«01_k».proof.Proof.RunC
public import proofs.«01_k».proof.Proof.RunD
public import proofs.«01_k».proof.Proof.RunE
public import Idealize.ShloMosaic.Lib.Claim

/-! # The run of the whole grid

The proof data of the pipelined call — what every staging buffer and every scratch holds after each grid point —, its body
obligation from the five branches' runs, the run of the program and its frame. -/

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

/-- The scratches as point `t` leaves them, and the generator register at some state. -/
def PhiAt (c : Dev nD) (t : Fin cfg0.N) : sProp 𝕄 :=
  iprop(iprop(owns (c : Thread nD τ) scM0_0 fullShare (ptAt m c t).cs ∗ owns (c : Thread nD τ) scM0_1 fullShare (ptAt m c t).kr ∗ owns (c : Thread nD τ) scM0_2 fullShare (ptAt m c t).kt) ∗ (∃ r, prngReg c r))

/-- The invariant before position `n`: the scratches at anything before the first point, afterwards as the point before
left them. -/
def PhiS (c : Dev nD) : (n : ℕ) → n ≤ cfg0.N → sProp 𝕄
  | 0, _ => Pipeline.ΦA spec0 c
  | n + 1, hn => PhiAt m c ⟨n, hn⟩

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) : PhiS m c (n + 1) hn = PhiAt m c ⟨n, hn⟩ := rfl
theorem PhiS_pos (c : Dev nD) (n : ℕ) (h : n ≤ cfg0.N) (hz : n ≠ 0) : PhiS m c n h = PhiAt m c ⟨n - 1, by omega⟩ := by
  cases n with
  | zero => exact absurd rfl hz
  | succ n => rfl

/-- The proof data: each input's buffer at its block, the query gradient's at the point's, the key gradients' at the sums so
far. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (ptAt m c t).dq
    | ⟨8, _⟩ => accC m c t
    | ⟨9, _⟩ => accR m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) : (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = (ptAt m c t).dq := by dsimp only [dats]
theorem after0_8 (c : Dev nD) (t : Fin cfg0.N) : (dats m 0 c).after 8 t = accC m c t := by dsimp only [dats]
theorem after0_9 (c : Dev nD) (t : Fin cfg0.N) : (dats m 0 c).after 9 t = accR m c t := by dsimp only [dats]

/-! Every point stores into every output. -/

theorem live0_7 : ∀ i : grid0.Coords, cfg0.idle 7 i = false := (by decide +kernel : ∀ i : grid0.Coords, idle0 7 i = false)
theorem live0_8 : ∀ i : grid0.Coords, cfg0.idle 8 i = false := (by decide +kernel : ∀ i : grid0.Coords, idle0 8 i = false)
theorem live0_9 : ∀ i : grid0.Coords, cfg0.idle 9 i = false := (by decide +kernel : ∀ i : grid0.Coords, idle0 9 i = false)

/-! Before a point: an input's buffer holds its block, a key gradient's the sums the point before left. -/

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_8 (c : Dev nD) (t : Fin cfg0.N) (h : t.val % 5 ≠ 0) (d) :
    (dats m 0 c).before 8 t d = accC m c ⟨t.val - 1, Nat.lt_of_le_of_lt (Nat.sub_le _ _) t.isLt⟩ :=
  ((dats m 0 c).before_out_kept 8 rfl t (by omega)
    (Bool.eq_false_iff.mpr fun hf => by have := (flush0_8 _).mp hf; dsimp only at this; omega) live0_8 (fun _ _ => rfl) d).trans
    (after0_8 m c _)
theorem before0_9 (c : Dev nD) (t : Fin cfg0.N) (h : t.val % 5 ≠ 0) (d) :
    (dats m 0 c).before 9 t d = accR m c ⟨t.val - 1, Nat.lt_of_le_of_lt (Nat.sub_le _ _) t.isLt⟩ :=
  ((dats m 0 c).before_out_kept 9 rfl t (by omega)
    (Bool.eq_false_iff.mpr fun hf => by have := (flush0_9 _).mp hf; dsimp only at this; omega) live0_9 (fun _ _ => rfl) d).trans
    (after0_9 m c _)

/-- The scratches do not change within a batch entry. -/
theorem pt_keys (c : Dev nD) (t t' : Fin cfg0.N) (h : t.val / 5 = t'.val / 5) :
    (ptAt m c t).cs = (ptAt m c t').cs ∧ (ptAt m c t).kr = (ptAt m c t').kr ∧ (ptAt m c t).kt = (ptAt m c t').kt := by
  unfold ptAt
  dsimp only
  rw [iblk4_batch m c h, iblk5_batch m c h, iblk6_batch m c h]
  exact ⟨rfl, rfl, rfl⟩

/-- Inside a batch entry the invariant before a point already has the point's scratches. -/
theorem PhiS_step (c : Dev nD) (t : Fin cfg0.N) (h : t.val % 5 ≠ 0) : (dats m 0 c).Φ t.castSucc = PhiAt m c t := by
  rw [PhiS_castSucc, PhiS_pos m c _ _ (by omega)]
  unfold PhiAt
  obtain ⟨e1, e2, e3⟩ := pt_keys m c ⟨t.val - 1, by have := t.isLt; omega⟩ t (by show (t.val - 1) / 5 = t.val / 5; omega)
  rw [e1, e2, e3]

/-- Before any point the scratches hold something. -/
theorem PhiS_some (c : Dev nD) (n : ℕ) (h : n ≤ cfg0.N) : PhiS m c n h ⊢ Pipeline.ΦA spec0 c := by
  by_cases hz : n = 0
  · rw [PhiS_zero m c n h hz]
  · rw [PhiS_pos m c n h hz, PhiA0_eq]
    unfold PhiAt
    iintro ⟨⟨HS0, HS1, HS2⟩, Hg⟩
    isplitl [HS0 HS1 HS2]
    · isplitl [HS0]
      · iexists _; iexact HS0
      isplitl [HS1]
      · iexists _; iexact HS1
      iexists _; iexact HS2
    iexact Hg

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

theorem leaves0_0 (c : Dev nD) (t : Fin cfg0.N) :
    (dats m 0 c).leavesExact 0 t = owns (c : Thread nD τ) (ms0_0 t) fullShare ((dats m 0 c).after 0 t) := by
  unfold Dat.leavesExact; rw [show cfg0.idle 0 (grid0.coords t) = false from rfl]
theorem leaves0_1 (c : Dev nD) (t : Fin cfg0.N) :
    (dats m 0 c).leavesExact 1 t = owns (c : Thread nD τ) (ms0_1 t) fullShare ((dats m 0 c).after 1 t) := by
  unfold Dat.leavesExact; rw [show cfg0.idle 1 (grid0.coords t) = false from rfl]
theorem leaves0_2 (c : Dev nD) (t : Fin cfg0.N) :
    (dats m 0 c).leavesExact 2 t = owns (c : Thread nD τ) (ms0_2 t) fullShare ((dats m 0 c).after 2 t) := by
  unfold Dat.leavesExact; rw [show cfg0.idle 2 (grid0.coords t) = false from rfl]
theorem leaves0_3 (c : Dev nD) (t : Fin cfg0.N) :
    (dats m 0 c).leavesExact 3 t = owns (c : Thread nD τ) (ms0_3 t) fullShare ((dats m 0 c).after 3 t) := by
  unfold Dat.leavesExact; rw [show cfg0.idle 3 (grid0.coords t) = false from rfl]
theorem leaves0_4 (c : Dev nD) (t : Fin cfg0.N) :
    (dats m 0 c).leavesExact 4 t = owns (c : Thread nD τ) (ms0_4 t) fullShare ((dats m 0 c).after 4 t) := by
  unfold Dat.leavesExact; rw [show cfg0.idle 4 (grid0.coords t) = false from rfl]
theorem leaves0_5 (c : Dev nD) (t : Fin cfg0.N) :
    (dats m 0 c).leavesExact 5 t = owns (c : Thread nD τ) (ms0_5 t) fullShare ((dats m 0 c).after 5 t) := by
  unfold Dat.leavesExact; rw [show cfg0.idle 5 (grid0.coords t) = false from rfl]
theorem leaves0_6 (c : Dev nD) (t : Fin cfg0.N) :
    (dats m 0 c).leavesExact 6 t = owns (c : Thread nD τ) (ms0_6 t) fullShare ((dats m 0 c).after 6 t) := by
  unfold Dat.leavesExact; rw [show cfg0.idle 6 (grid0.coords t) = false from rfl]
theorem leaves0_7 (c : Dev nD) (t : Fin cfg0.N) :
    (dats m 0 c).leavesExact 7 t = owns (c : Thread nD τ) (ms0_7 t) fullShare ((dats m 0 c).after 7 t) := by
  unfold Dat.leavesExact; rw [show cfg0.idle 7 (grid0.coords t) = false from live0_7 _]
theorem leaves0_8 (c : Dev nD) (t : Fin cfg0.N) :
    (dats m 0 c).leavesExact 8 t = owns (c : Thread nD τ) (ms0_8 t) fullShare ((dats m 0 c).after 8 t) := by
  unfold Dat.leavesExact; rw [show cfg0.idle 8 (grid0.coords t) = false from live0_8 _]
theorem leaves0_9 (c : Dev nD) (t : Fin cfg0.N) :
    (dats m 0 c).leavesExact 9 t = owns (c : Thread nD τ) (ms0_9 t) fullShare ((dats m 0 c).after 9 t) := by
  unfold Dat.leavesExact; rw [show cfg0.idle 9 (grid0.coords t) = false from live0_9 _]
set_option maxHeartbeats 1600000 in
/-- The body at the first point of a batch entry. -/
theorem sound_A (c : Dev nD) (t : Fin cfg0.N) (ht : t.val % 5 = 0) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = PhiS m c (t.val + 1) t.isLt from rfl, PhiS_succ, leaves0_0, leaves0_1, leaves0_2, leaves0_3, leaves0_4, leaves0_5, leaves0_6, leaves0_7, leaves0_8, leaves0_9, after0_0, after0_1, after0_2, after0_3, after0_4, after0_5, after0_6, after0_7, after0_8, after0_9, accC_zero m c t ht, accR_zero m c t ht, PhiS_castSucc]
  refine (BIClass.sep_mono (PhiS_some m c _ _) (BI.Entails.refl _)).trans ?_
  rw [PhiA0_eq]
  unfold PhiAt
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (runA c (grid0.coords t) _ _ _ _ _ _ _ _ _ _ _ _ _ _ _ _ _ _ _ _ _ _ _ _ _ _ ((hcond0_0 t).mpr (by omega)) ((hcond0_1 t).mpr (by omega)) (fun h => by have := (hcond0_2 t).mp h; omega) (fun h => by have := (hcond0_3 t).mp h; omega) (fun h => by have := (hcond0_4 t).mp h; omega) (fun h => by have := (hcond0_5 t).mp h; omega) (ptAt m c t) ht ((coord1 t).trans ht) (iblk m c 5 t) (iblk m c 6 t) rfl rfl rfl Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [HS0]; · iexact HS0
  isplitl [HS1]; · iexact HS1
  isplitl [HS2]; · iexact HS2
  iintro ⟨H0, H1, H2, H3, H4, H5, H6, H7, H8, H9, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

set_option maxHeartbeats 1600000 in
/-- The body at the points of branch 1. -/
theorem sound_B (c : Dev nD) (t : Fin cfg0.N) (ht : t.val % 5 = 1) :
    bodyPre m c t ⊢ wp frame (wpE (defs₀ (F := Ideal)) Variants.none c none) Set.univ (bodyAt0 t) (fun _ => bodyPost m c t) := by
  have h0 : t.val % 5 ≠ 0 := by omega
  unfold bodyPre bodyPost bodyAt0
  simp only [before0_0, before0_1, before0_2, before0_3, before0_4, before0_5, before0_6, before0_8 m c t h0, before0_9 m c t h0]
  rw [show (dats m 0 c).owesAt () t.succ = (dats m 0 c).owesAt () t.castSucc from rfl]
  rw [show (dats m 0 c).Φ t.succ = PhiS m c (t.val + 1) t.isLt from rfl, PhiS_succ, leaves0_0, leaves0_1, leaves0_2, leaves0_3, leaves0_4, leaves0_5, leaves0_6, leaves0_7, leaves0_8, leaves0_9, after0_0, after0_1, after0_2, after0_3, after0_4, after0_5, after0_6, after0_7, after0_8, after0_9, accC_succ m c t h0 (Nat.lt_of_le_of_lt (Nat.sub_le _ _) t.isLt), accR_succ m c t h0 (Nat.lt_of_le_of_lt (Nat.sub_le _ _) t.isLt), PhiS_step m c t h0]
  unfold PhiAt
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (runB c (grid0.coords t) _ _ _ _ _ _ _ _ _ _ _ _ _ _ _ _ _ _ _ _ _ _ _ _ _ _ (fun h => by have := (hcond0_0 t).mp h; omega) (fun h => by have := (hcond0_1 t).mp h; omega) ((hcond0_2 t).mpr (by omega)) (fun h => by have := (hcond0_3 t).mp h; omega) (fun h => by have := (hcond0_4 t).mp h; omega) (fun h => by have := (hcond0_5 t).mp h; omega) (ptAt m c t) ht ((coord1 t).trans ht) (iblk m c 5 t) (iblk m c 6 t) (accC m c ⟨t.val - 1, Nat.lt_of_le_of_lt (Nat.sub_le _ _) t.isLt⟩) (accR m c ⟨t.val - 1, Nat.lt_of_le_of_lt (Nat.sub_le _ _) t.isLt⟩) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexact H8
  isplitl [H9]; · iexact H9
  isplitl [HS0]; · iexact HS0
  isplitl [HS1]; · iexact HS1
  isplitl [HS2]; · iexact HS2
  iintro ⟨H0, H1, H2, H3, H4, H5, H6, H7, H8, H9, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

set_option maxHeartbeats 1600000 in
/-- The body at the points of branch 2. -/
theorem sound_C (c : Dev nD) (t : Fin cfg0.N) (ht : t.val % 5 = 2) :
    bodyPre m c t ⊢ wp frame (wpE (defs₀ (F := Ideal)) Variants.none c none) Set.univ (bodyAt0 t) (fun _ => bodyPost m c t) := by
  have h0 : t.val % 5 ≠ 0 := by omega
  unfold bodyPre bodyPost bodyAt0
  simp only [before0_0, before0_1, before0_2, before0_3, before0_4, before0_5, before0_6, before0_8 m c t h0, before0_9 m c t h0]
  rw [show (dats m 0 c).owesAt () t.succ = (dats m 0 c).owesAt () t.castSucc from rfl]
  rw [show (dats m 0 c).Φ t.succ = PhiS m c (t.val + 1) t.isLt from rfl, PhiS_succ, leaves0_0, leaves0_1, leaves0_2, leaves0_3, leaves0_4, leaves0_5, leaves0_6, leaves0_7, leaves0_8, leaves0_9, after0_0, after0_1, after0_2, after0_3, after0_4, after0_5, after0_6, after0_7, after0_8, after0_9, accC_succ m c t h0 (Nat.lt_of_le_of_lt (Nat.sub_le _ _) t.isLt), accR_succ m c t h0 (Nat.lt_of_le_of_lt (Nat.sub_le _ _) t.isLt), PhiS_step m c t h0]
  unfold PhiAt
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (runC c (grid0.coords t) _ _ _ _ _ _ _ _ _ _ _ _ _ _ _ _ _ _ _ _ _ _ _ _ _ _ (fun h => by have := (hcond0_0 t).mp h; omega) (fun h => by have := (hcond0_1 t).mp h; omega) (fun h => by have := (hcond0_2 t).mp h; omega) ((hcond0_3 t).mpr (by omega)) (fun h => by have := (hcond0_4 t).mp h; omega) (fun h => by have := (hcond0_5 t).mp h; omega) (ptAt m c t) ht ((coord1 t).trans ht) (iblk m c 5 t) (iblk m c 6 t) (accC m c ⟨t.val - 1, Nat.lt_of_le_of_lt (Nat.sub_le _ _) t.isLt⟩) (accR m c ⟨t.val - 1, Nat.lt_of_le_of_lt (Nat.sub_le _ _) t.isLt⟩) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexact H8
  isplitl [H9]; · iexact H9
  isplitl [HS0]; · iexact HS0
  isplitl [HS1]; · iexact HS1
  isplitl [HS2]; · iexact HS2
  iintro ⟨H0, H1, H2, H3, H4, H5, H6, H7, H8, H9, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

set_option maxHeartbeats 1600000 in
/-- The body at the points of branch 3. -/
theorem sound_D (c : Dev nD) (t : Fin cfg0.N) (ht : t.val % 5 = 3) :
    bodyPre m c t ⊢ wp frame (wpE (defs₀ (F := Ideal)) Variants.none c none) Set.univ (bodyAt0 t) (fun _ => bodyPost m c t) := by
  have h0 : t.val % 5 ≠ 0 := by omega
  unfold bodyPre bodyPost bodyAt0
  simp only [before0_0, before0_1, before0_2, before0_3, before0_4, before0_5, before0_6, before0_8 m c t h0, before0_9 m c t h0]
  rw [show (dats m 0 c).owesAt () t.succ = (dats m 0 c).owesAt () t.castSucc from rfl]
  rw [show (dats m 0 c).Φ t.succ = PhiS m c (t.val + 1) t.isLt from rfl, PhiS_succ, leaves0_0, leaves0_1, leaves0_2, leaves0_3, leaves0_4, leaves0_5, leaves0_6, leaves0_7, leaves0_8, leaves0_9, after0_0, after0_1, after0_2, after0_3, after0_4, after0_5, after0_6, after0_7, after0_8, after0_9, accC_succ m c t h0 (Nat.lt_of_le_of_lt (Nat.sub_le _ _) t.isLt), accR_succ m c t h0 (Nat.lt_of_le_of_lt (Nat.sub_le _ _) t.isLt), PhiS_step m c t h0]
  unfold PhiAt
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (runD c (grid0.coords t) _ _ _ _ _ _ _ _ _ _ _ _ _ _ _ _ _ _ _ _ _ _ _ _ _ _ (fun h => by have := (hcond0_0 t).mp h; omega) (fun h => by have := (hcond0_1 t).mp h; omega) (fun h => by have := (hcond0_2 t).mp h; omega) (fun h => by have := (hcond0_3 t).mp h; omega) ((hcond0_4 t).mpr (by omega)) (fun h => by have := (hcond0_5 t).mp h; omega) (ptAt m c t) ht ((coord1 t).trans ht) (iblk m c 5 t) (iblk m c 6 t) (accC m c ⟨t.val - 1, Nat.lt_of_le_of_lt (Nat.sub_le _ _) t.isLt⟩) (accR m c ⟨t.val - 1, Nat.lt_of_le_of_lt (Nat.sub_le _ _) t.isLt⟩) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexact H8
  isplitl [H9]; · iexact H9
  isplitl [HS0]; · iexact HS0
  isplitl [HS1]; · iexact HS1
  isplitl [HS2]; · iexact HS2
  iintro ⟨H0, H1, H2, H3, H4, H5, H6, H7, H8, H9, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

set_option maxHeartbeats 1600000 in
/-- The body at the points of branch 4. -/
theorem sound_E (c : Dev nD) (t : Fin cfg0.N) (ht : t.val % 5 = 4) :
    bodyPre m c t ⊢ wp frame (wpE (defs₀ (F := Ideal)) Variants.none c none) Set.univ (bodyAt0 t) (fun _ => bodyPost m c t) := by
  have h0 : t.val % 5 ≠ 0 := by omega
  unfold bodyPre bodyPost bodyAt0
  simp only [before0_0, before0_1, before0_2, before0_3, before0_4, before0_5, before0_6, before0_8 m c t h0, before0_9 m c t h0]
  rw [show (dats m 0 c).owesAt () t.succ = (dats m 0 c).owesAt () t.castSucc from rfl]
  rw [show (dats m 0 c).Φ t.succ = PhiS m c (t.val + 1) t.isLt from rfl, PhiS_succ, leaves0_0, leaves0_1, leaves0_2, leaves0_3, leaves0_4, leaves0_5, leaves0_6, leaves0_7, leaves0_8, leaves0_9, after0_0, after0_1, after0_2, after0_3, after0_4, after0_5, after0_6, after0_7, after0_8, after0_9, accC_succ m c t h0 (Nat.lt_of_le_of_lt (Nat.sub_le _ _) t.isLt), accR_succ m c t h0 (Nat.lt_of_le_of_lt (Nat.sub_le _ _) t.isLt), PhiS_step m c t h0]
  unfold PhiAt
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (runE c (grid0.coords t) _ _ _ _ _ _ _ _ _ _ _ _ _ _ _ _ _ _ _ _ _ _ _ _ _ _ (fun h => by have := (hcond0_0 t).mp h; omega) (fun h => by have := (hcond0_1 t).mp h; omega) (fun h => by have := (hcond0_2 t).mp h; omega) (fun h => by have := (hcond0_3 t).mp h; omega) (fun h => by have := (hcond0_4 t).mp h; omega) ((hcond0_5 t).mpr (by omega)) (ptAt m c t) ht ((coord1 t).trans ht) (iblk m c 5 t) (iblk m c 6 t) (accC m c ⟨t.val - 1, Nat.lt_of_le_of_lt (Nat.sub_le _ _) t.isLt⟩) (accR m c ⟨t.val - 1, Nat.lt_of_le_of_lt (Nat.sub_le _ _) t.isLt⟩) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexact H8
  isplitl [H9]; · iexact H9
  isplitl [HS0]; · iexact HS0
  isplitl [HS1]; · iexact HS1
  isplitl [HS2]; · iexact HS2
  iintro ⟨H0, H1, H2, H3, H4, H5, H6, H7, H8, H9, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body at any point. -/
theorem sound_body (c : Dev nD) (t : Fin cfg0.N) :
    bodyPre m c t ⊢ wp frame (wpE (defs₀ (F := Ideal)) Variants.none c none) Set.univ (bodyAt0 t) (fun _ => bodyPost m c t) := by
  have h : t.val % 5 < 5 := Nat.mod_lt _ (by decide)
  rcases (by omega : t.val % 5 = 0 ∨ t.val % 5 = 1 ∨ t.val % 5 = 2 ∨ t.val % 5 = 3 ∨ t.val % 5 = 4) with h | h | h | h | h
  · exact sound_A m c t h
  · exact sound_B m c t h
  · exact sound_C m c t h
  · exact sound_D m c t h
  · exact sound_E m c t h

theorem defs₀_row (t : Fin cfg0.N) :
    defs₀ (F := Ideal) .tc cfg0.body (cfg0.bodyArgs t (cfg0.slots t)) = bodyAt0 t := by
  unfold defs₀; rw [Defs.onTc_tc]

/-- The body obligation, at every point. -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]

theorem hout (c : Dev nD) : (dats m 0 c).Φ (Fin.last cfg0.N) ⊢ Pipeline.ΦA spec0 c := by
  rw [show (dats m 0 c).Φ (Fin.last cfg0.N) = PhiS m c cfg0.N le_rfl from rfl]
  exact PhiS_some m c _ _

set_option backward.isDefEq.respectTransparency.types false in
/-- The launch: every run ends with the arrays the proof data names, every semaphore at zero. -/
theorem run_main_quiescent : θ_run defs (onTc (τ := τ) (main (F := Ideal))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := Ideal))) (s₀ m ρ) (Pipeline.FramePost cfgs (dats m) 0 (V m)) :=
  (θ_run defs _ _).mono (fun _ h => h.1) (run_main_quiescent m ρ)

/-- The program ends with its arguments unchanged and every semaphore at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of m ρ (dats m) (A_eq m) (run_main m ρ)) ((θ_run defs _ _).mono (fun _ h => h.2) (run_main_quiescent m ρ))

end Cert.KernelIdeal.Hand
end
-- ==== Proof.Entry.lean ====
module

public import proofs.«01_k».proof.Proof.Blocks
public import Idealize.ShloMosaic.Lib.IdealHost
public import Idealize.ShloMosaic.Lib.Claim

/-! # The arrays the kernel is launched with

The host lays the arguments out before the launch: the rows of all heads in one axis, and four parameters of a row stacked in
tiles of 256 rows. Row number `R` of a batch entry is position `R / 32`, head `R % 32`. -/

@[expose] public section

set_option maxRecDepth 16384

noncomputable section

namespace Cert.KernelIdeal.Hand

open Idealize.ShloMosaic Idealize.ShloMosaic.TcCoe Idealize.SL.Sem
open Cert.KernelIdeal Cert.KernelIdeal.Gen

variable (m : (ℓ : Loc nD τ sig) → Buf (Elt Ideal) ℓ)

/-- The query codes. -/
abbrev aQ (c : Dev nD) : FVec Ideal S3x640x32x576 .fp8e4m3 := m ((c : Thread nD τ).loc main_arg0)
/-- The queries' scales. -/
abbrev aQs (c : Dev nD) : FVec Ideal S3x640x32 .f32 := m ((c : Thread nD τ).loc main_arg1)
/-- The keys' latent codes. -/
abbrev aC (c : Dev nD) : FVec Ideal S3x640x512 .fp8e4m3 := m ((c : Thread nD τ).loc main_arg2)
/-- The keys' scales. -/
abbrev aCs (c : Dev nD) : FVec Ideal S3x640 .f32 := m ((c : Thread nD τ).loc main_arg3)
/-- The keys' rope parts. -/
abbrev aKr (c : Dev nD) : FVec Ideal S3x640x64 .bf16 := m ((c : Thread nD τ).loc main_arg4)
/-- The forward output. -/
abbrev aO (c : Dev nD) : FVec Ideal S3x640x32x512 .bf16 := m ((c : Thread nD τ).loc main_arg5)
/-- The forward pass's logarithms of the softmax sums. -/
abbrev aLse (c : Dev nD) : FVec Ideal S3x640x32 .f32 := m ((c : Thread nD τ).loc main_arg6)
/-- The output gradient's codes. -/
abbrev aG (c : Dev nD) : FVec Ideal S3x640x32x512 .fp8e5m2 := m ((c : Thread nD τ).loc main_arg7)
/-- The output gradient's scales. -/
abbrev aGs (c : Dev nD) : FVec Ideal S3x640 .f32 := m ((c : Thread nD τ).loc main_arg8)

/-- The position of a row. -/
abbrev posOf (R : Fin 20480) : Fin 640 := ⟨R.val / 32, by omega⟩
/-- The head of a row. -/
abbrev headOf (R : Fin 20480) : Fin 32 := ⟨R.val % 32, by omega⟩

/-- The query codes, row by row. -/
theorem entry_q (c : Dev nD) (b : Fin 3) (R : Fin 20480) (k : Fin 576) :
    (V m c main_v18 : FVec Ideal S3x20480x576 .fp8e4m3) (ix3 b R k)
      = aQ m c (ix4 b (posOf R) (headOf R) k) := by
  entry_read
  pointwise

/-- The output gradient's codes, row by row. -/
theorem entry_g (c : Dev nD) (b : Fin 3) (R : Fin 20480) (k : Fin 512) :
    (V m c main_v19 : FVec Ideal S3x20480x512 .fp8e5m2) (ix3 b R k)
      = aG m c (ix4 b (posOf R) (headOf R) k) := by
  entry_read
  pointwise

/-- The forward output, row by row. -/
theorem entry_o (c : Dev nD) (b : Fin 3) (R : Fin 20480) (k : Fin 512) :
    (V m c main_v20 : FVec Ideal S3x20480x512 .bf16) (ix3 b R k)
      = aO m c (ix4 b (posOf R) (headOf R) k) := by
  entry_read
  pointwise

/-- The position of row `l` of tile `T`. -/
abbrev tpos (T : Fin 80) (l : Fin 256) : Fin 640 := ⟨T.val * 8 + l.val / 32, by omega⟩
/-- The head of row `l` of a tile. -/
abbrev thead (l : Fin 256) : Fin 32 := ⟨l.val % 32, by omega⟩

/-- The first host operations: everything up to the parts of the row parameters. -/
abbrev ops1 : List (HloOp τ sig (Elt Ideal)) := (hostOps0 (F := Ideal)).take 17
/-- The rest: stacking the parts, and the layouts of the other arrays. -/
abbrev ops2 : List (HloOp τ sig (Elt Ideal)) := (hostOps0 (F := Ideal)).drop 17

/-- The stack of row parameters, from its parts. -/
theorem v17_of (W : Valuation τ sig (Elt Ideal)) (k : Fin 8) (b : Fin 3) (T : Fin 80) (l : Fin 256) :
    (StableHlo.after ops2 W (Proc.devRef .tc main_v17) : FVec Ideal S3x80x8x256 .f32) (ix4 b T k l)
      = (![(W (Proc.devRef .tc main_v7) : FVec Ideal S1x3x640x32 .f32), W (Proc.devRef .tc main_v8), W (Proc.devRef .tc main_v9),
          W (Proc.devRef .tc main_v10), W (Proc.devRef .tc main_v11), W (Proc.devRef .tc main_v12), W (Proc.devRef .tc main_v13),
          W (Proc.devRef .tc main_v14)] k) (ix4 0 b (tpos T l) (thead l)) := by
  have e : StableHlo.after ops2 W (Proc.devRef .tc main_v17) = transpose S3x80x8x256 [1, 2, 0, 3] (shapeCast S8x3x80x256 (concatenate S8x3x640x32 0
      [⟨S1x3x640x32, (W (Proc.devRef .tc main_v7) : FVec Ideal S1x3x640x32 .f32)⟩, ⟨S1x3x640x32, (W (Proc.devRef .tc main_v8) : FVec Ideal S1x3x640x32 .f32)⟩,
       ⟨S1x3x640x32, (W (Proc.devRef .tc main_v9) : FVec Ideal S1x3x640x32 .f32)⟩, ⟨S1x3x640x32, (W (Proc.devRef .tc main_v10) : FVec Ideal S1x3x640x32 .f32)⟩,
       ⟨S1x3x640x32, (W (Proc.devRef .tc main_v11) : FVec Ideal S1x3x640x32 .f32)⟩, ⟨S1x3x640x32, (W (Proc.devRef .tc main_v12) : FVec Ideal S1x3x640x32 .f32)⟩,
       ⟨S1x3x640x32, (W (Proc.devRef .tc main_v13) : FVec Ideal S1x3x640x32 .f32)⟩, ⟨S1x3x640x32, (W (Proc.devRef .tc main_v14) : FVec Ideal S1x3x640x32 .f32)⟩]
      concatenates_S1x3x640x32_S1x3x640x32_S1x3x640x32_S1x3x640x32_S1x3x640x32_S1x3x640x32_S1x3x640x32_S1x3x640x32_S8x3x640x32_d0) shapeCasts_S8x3x640x32_S8x3x80x256)
      transposes_S8x3x80x256_S3x80x8x256_1_2_0_3 := by
    simp only [ops2, List.drop_succ_cons, List.drop_zero, StableHlo.after_cons, StableHlo.after_nil]
    rw [StableHlo.unary_result_ne _ _ _ _ _ _ (by decide), StableHlo.reshape_result_ne _ _ _ _ _ _ _ (by decide),
      StableHlo.reshape_result_ne _ _ _ _ _ _ _ (by decide), StableHlo.reshape_result_ne _ _ _ _ _ _ _ (by decide),
      StableHlo.unary_result, StableHlo.reshape_result, StableHlo.nary_result]
    rfl
  rw [e]
  pointwise
  fin_cases k <;> rfl

/-- The stack of row parameters is that of the parts the first operations leave. -/
theorem v17_eq (c : Dev nD) (k : Fin 8) (b : Fin 3) (T : Fin 80) (l : Fin 256) :
    (V m c main_v17 : FVec Ideal S3x80x8x256 .f32) (ix4 b T k l)
      = (StableHlo.after ops2 (StableHlo.after ops1 (fun b => m (c, b))) (Proc.devRef .tc main_v17) : FVec Ideal S3x80x8x256 .f32) (ix4 b T k l) := rfl

/-- The row's scale. -/
theorem entry_rp0 (c : Dev nD) (b : Fin 3) (T : Fin 80) (l : Fin 256) :
    (V m c main_v17 : FVec Ideal S3x80x8x256 .f32) (ix4 b T 0 l)
      = aQs m c (ix3 b (tpos T l) (thead l)) := by
  refine (v17_eq m c 0 b T l).trans ((v17_of _ 0 b T l).trans ?_)
  show (StableHlo.after ops1 (fun b => m (c, b)) (Proc.devRef .tc main_v7) : FVec Ideal S1x3x640x32 .f32) (ix4 0 b (tpos T l) (thead l)) = _
  simp only [ops1, List.take_succ_cons, List.take_zero]
  entry_read
  pointwise

/-- The row's `lse` less the logarithm of the gradient's scale. -/
theorem entry_rp1 (c : Dev nD) (b : Fin 3) (T : Fin 80) (l : Fin 256) :
    (V m c main_v17 : FVec Ideal S3x80x8x256 .f32) (ix4 b T 1 l)
      = aLse m c (ix3 b (tpos T l) (thead l))
        - Ideal.log (aGs m c (ix2 b (tpos T l))) := by
  refine (v17_eq m c 1 b T l).trans ((v17_of _ 1 b T l).trans ?_)
  show (StableHlo.after ops1 (fun b => m (c, b)) (Proc.devRef .tc main_v8) : FVec Ideal S1x3x640x32 .f32) (ix4 0 b (tpos T l) (thead l)) = _
  simp only [ops1, List.take_succ_cons, List.take_zero]
  entry_read
  pointwise

/-- The row's scale again. -/
theorem entry_rp2 (c : Dev nD) (b : Fin 3) (T : Fin 80) (l : Fin 256) :
    (V m c main_v17 : FVec Ideal S3x80x8x256 .f32) (ix4 b T 2 l)
      = aQs m c (ix3 b (tpos T l) (thead l)) := by
  refine (v17_eq m c 2 b T l).trans ((v17_of _ 2 b T l).trans ?_)
  show (StableHlo.after ops1 (fun b => m (c, b)) (Proc.devRef .tc main_v9) : FVec Ideal S1x3x640x32 .f32) (ix4 0 b (tpos T l) (thead l)) = _
  simp only [ops1, List.take_succ_cons, List.take_zero]
  entry_read
  pointwise

/-- The inverse of the row's scale. -/
theorem entry_rp3 (c : Dev nD) (b : Fin 3) (T : Fin 80) (l : Fin 256) :
    (V m c main_v17 : FVec Ideal S3x80x8x256 .f32) (ix4 b T 3 l)
      = Ideal.div 1 (aQs m c (ix3 b (tpos T l) (thead l))) := by
  refine (v17_eq m c 3 b T l).trans ((v17_of _ 3 b T l).trans ?_)
  show (StableHlo.after ops1 (fun b => m (c, b)) (Proc.devRef .tc main_v10) : FVec Ideal S1x3x640x32 .f32) (ix4 0 b (tpos T l) (thead l)) = _
  simp only [ops1, List.take_succ_cons, List.take_zero]
  entry_read
  pointwise

/-- The keys' scales. -/
theorem entry_cs (c : Dev nD) (b : Fin 3) (j : Fin 640) :
    (V m c main_v21 : FVec Ideal S3x640x1 .f32) (ix3 b j 0)
      = aCs m c (ix2 b j) := by
  entry_read
  pointwise

end Cert.KernelIdeal.Hand
end
-- ==== Proof.Laws.lean ====
module

public import proofs.«01_k».proof.Proof.Block
public import Idealize.ShloMosaic.Lib.IdealHost
public import Idealize.ShloMosaic.PureOps.IdealRules

/-! # Laws of the extended reals

Scaling by a positive real distributes over sums and differences, whatever the summands; the exponentials and the logarithm
at such scales. These are what moves the kernel's scale factors to where the reference applies them. -/

@[expose] public section

set_option maxRecDepth 16384

noncomputable section

namespace Cert.KernelIdeal.Hand

open Idealize.ShloMosaic Idealize.ShloMosaic.TcCoe Idealize.SL.Sem
open Cert.KernelIdeal Cert.KernelIdeal.Gen

/-- A positive real among the extended reals. -/
def Pos (x : EReal) : Prop := 0 < x ∧ x < ⊤

theorem Pos.real {x : EReal} (h : Pos x) : ∃ r : ℝ, 0 < r ∧ x = (r : EReal) := by
  induction x using EReal.rec with
  | bot => exact absurd h.1 (by simp)
  | top => exact absurd h.2 (by simp)
  | coe r => exact ⟨r, EReal.coe_pos.mp h.1, rfl⟩

theorem Pos.coe {r : ℝ} (h : 0 < r) : Pos (r : EReal) := ⟨EReal.coe_pos.mpr h, EReal.coe_lt_top r⟩

theorem Pos.ne_zero {x : EReal} (h : Pos x) : x ≠ 0 := ne_of_gt h.1

/-- A positive real times its inverse is one. -/
theorem Pos.mul_inv {x : EReal} (h : Pos x) : x * x⁻¹ = 1 := by
  obtain ⟨r, hr, rfl⟩ := h.real
  rw [← EReal.coe_inv, ← EReal.coe_mul, mul_inv_cancel₀ hr.ne', EReal.coe_one]

theorem Pos.inv {x : EReal} (h : Pos x) : Pos x⁻¹ := by
  obtain ⟨r, hr, rfl⟩ := h.real
  rw [← EReal.coe_inv]
  exact Pos.coe (inv_pos.mpr hr)

/-- Division by a positive real is multiplication by its inverse. -/
theorem Pos.div {x : EReal} (h : Pos x) (y : EReal) : Ideal.div y x = y * x⁻¹ := by
  unfold Ideal.div; rw [if_neg h.ne_zero]

theorem Pos.add_mul {a : EReal} (h : Pos a) (x y : EReal) : (x + y) * a = x * a + y * a :=
  EReal.right_distrib_of_nonneg_of_ne_top h.1.le h.2.ne x y

theorem Pos.sub_mul {a : EReal} (h : Pos a) (x y : EReal) : (x - y) * a = x * a - y * a := by
  rw [sub_eq_add_neg, sub_eq_add_neg, h.add_mul, EReal.neg_mul]

theorem Pos.sum_mul {ι : Type*} {a : EReal} (h : Pos a) (s : Finset ι) (f : ι → EReal) :
    (∑ i ∈ s, f i) * a = ∑ i ∈ s, f i * a := by
  classical
  induction s using Finset.induction_on with
  | empty => simp
  | insert i s hi ih => rw [Finset.sum_insert hi, Finset.sum_insert hi, h.add_mul, ih]

/-- The softmax scale is a positive real. -/
theorem SC_pos : Pos SC := by
  have e : SC = (((2 ^ 23 + 0x13CD3A : Nat) * (2 : ℝ) ^ ((0x7B : ℤ) - 127 - 23) : ℝ) : EReal) := by
    simp [SC, Ideal.ofBits, Ideal.ieee, -EReal.coe_mul]
  rw [e]
  exact Pos.coe (by positivity)

/-- The kernel's named constant is the inverse of the natural logarithm of 2. -/
theorem L2E_eq : L2E = (((Real.log 2)⁻¹ : ℝ) : EReal) := IdealRules.named_const.ideal_named_scalar _ _ _ _ rfl

theorem L2E_pos : Pos L2E := by
  rw [L2E_eq]; exact Pos.coe (inv_pos.mpr (Real.log_pos (by norm_num)))

/-- The exponential to base 2 at a multiple of the named constant is the natural exponential. -/
theorem exp2_L2E (x : EReal) : Ideal.exp2 (x * L2E) = Ideal.exp x := by
  rw [L2E_eq]
  have hp : (0 : ℝ) < (Real.log 2)⁻¹ := inv_pos.mpr (Real.log_pos (by norm_num))
  induction x using EReal.rec with
  | bot => rw [EReal.bot_mul_coe_of_pos hp]; rfl
  | top => rw [EReal.top_mul_coe_of_pos hp]; rfl
  | coe r =>
    rw [← EReal.coe_mul]
    show ((Real.rpow 2 (r * (Real.log 2)⁻¹) : ℝ) : EReal) = ((Real.exp r : ℝ) : EReal)
    rw [show Real.rpow 2 (r * (Real.log 2)⁻¹) = (2 : ℝ) ^ (r * (Real.log 2)⁻¹) from rfl,
      Real.rpow_def_of_pos (by norm_num), mul_comm r, ← mul_assoc, mul_inv_cancel₀ (Real.log_pos (by norm_num)).ne', one_mul]

/-- A difference with a positive real's logarithm taken out of the subtrahend, under the exponential: the real is a factor. -/
theorem exp_sub_log {d : EReal} (hd : Pos d) (x l : EReal) :
    Ideal.exp (x - (l - Ideal.log d)) = Ideal.exp (x - l) * d := by
  obtain ⟨r, hr, rfl⟩ := hd.real
  have hl : Ideal.log (r : EReal) = ((Real.log r : ℝ) : EReal) := by
    show (if r ≤ 0 then ⊥ else ((Real.log r : ℝ) : EReal)) = _
    rw [if_neg (not_le.mpr hr)]
  have e : x - (l - ((Real.log r : ℝ) : EReal)) = (x - l) + ((Real.log r : ℝ) : EReal) := by
    rw [sub_eq_add_neg x, EReal.neg_sub (Or.inr (EReal.coe_ne_bot _)) (Or.inr (EReal.coe_ne_top _)), ← add_assoc, ← sub_eq_add_neg]
  rw [hl, e]
  generalize x - l = y
  induction y using EReal.rec with
  | bot => rw [EReal.bot_add]; show (0 : EReal) = 0 * _; rw [zero_mul]
  | top => rw [EReal.top_add_coe]; exact (EReal.top_mul_coe_of_pos hr).symm
  | coe y =>
    rw [← EReal.coe_add]
    show ((Real.exp (y + Real.log r) : ℝ) : EReal) = ((Real.exp y : ℝ) : EReal) * _
    rw [Real.exp_add, Real.exp_log hr, EReal.coe_mul]

/-- The kernel's probability: its exponent is the reference's score less the row's `lse`, in base 2; the gradient's scale `d`,
carried in the exponent, comes out as a factor. `A` and `B` are the two dot products of the codes. -/
theorem prob_law {cs qs d : EReal} (hcs : Pos cs) (hqs : Pos qs) (hd : Pos d) (A B l : EReal) :
    Ideal.exp2 ((A + B * cs⁻¹) * (cs * SC) * (qs * L2E) - (l - Ideal.log d) * L2E)
      = Ideal.exp (SC * (A * qs * cs + B * qs) - l) * d := by
  rw [← mul_assoc _ qs L2E, ← L2E_pos.sub_mul, exp2_L2E, exp_sub_log hd]
  congr 3
  rw [← mul_assoc, hcs.add_mul, mul_assoc B, mul_comm cs⁻¹, hcs.mul_inv, mul_one, mul_assoc _ SC, mul_comm SC qs, ← mul_assoc,
    hqs.add_mul, mul_comm SC, mul_right_comm A]

/-- The kernel's score gradient is the reference's times the row's scale. `p` is the probability, `G` the dot product of the
key's codes with the output gradient's, `O` that of the output gradient's codes with the forward output. -/
theorem ds_law {cs d : EReal} (hd : Pos d) (p G O qs : EReal) :
    p * d * (G * (cs * SC) - SC * O) * qs = SC * (p * (G * d * cs - O * d)) * qs := by
  congr 1
  rw [mul_comm SC O, ← mul_assoc G, ← SC_pos.sub_mul, mul_right_comm G, ← hd.sub_mul]
  ac_rfl

end Cert.KernelIdeal.Hand
end
-- ==== Proof.Spec.lean ====
module

public import proofs.«01_k».proof.Proof.Laws

/-! # The gradient, plainly

What both programs compute, as sums over the arguments: the probabilities, the score gradients, and the three results. -/

@[expose] public section

set_option maxRecDepth 16384

noncomputable section

namespace Cert.KernelIdeal.Hand

open Idealize.ShloMosaic Idealize.ShloMosaic.TcCoe Idealize.SL.Sem
open Cert.KernelIdeal Cert.KernelIdeal.Gen

/-- The nine arguments: query codes and scales, the keys' latent codes, scales and rope parts, the forward output, the
logarithms of the softmax sums, the output gradient's codes and scales. -/
structure Args where
  q : FVec Ideal S3x640x32x576 .fp8e4m3
  qs : FVec Ideal S3x640x32 .f32
  c : FVec Ideal S3x640x512 .fp8e4m3
  cs : FVec Ideal S3x640 .f32
  kr : FVec Ideal S3x640x64 .bf16
  o : FVec Ideal S3x640x32x512 .bf16
  lse : FVec Ideal S3x640x32 .f32
  g : FVec Ideal S3x640x32x512 .fp8e5m2
  gs : FVec Ideal S3x640 .f32

/-- All scales are positive reals. -/
structure Args.Scaled (A : Args) : Prop where
  qs : ∀ b i h, Pos (A.qs (ix3 b i h))
  cs : ∀ b j, Pos (A.cs (ix2 b j))
  gs : ∀ b i, Pos (A.gs (ix2 b i))

variable (A : Args) (b : Fin 3) (i : Fin 640) (h : Fin 32) (j : Fin 640)

/-- The score of key `j` for position `i` of head `h`. -/
def Args.score : EReal :=
  SC * ((∑ d, A.q (ix4 b i h (lat d)) * A.c (ix3 b j d)) * A.qs (ix3 b i h) * A.cs (ix2 b j)
    + (∑ e, A.q (ix4 b i h (rope e)) * A.kr (ix3 b j e)) * A.qs (ix3 b i h))

/-- The probability of key `j` for position `i` of head `h`: zero for a later key. -/
def Args.p : EReal := if j.val ≤ i.val then Ideal.exp (A.score b i h j - A.lse (ix3 b i h)) else 0

/-- The row's `delta`. -/
def Args.delta : EReal := ∑ d, A.g (ix4 b i h d) * A.gs (ix2 b i) * A.o (ix4 b i h d)

/-- The score gradient. -/
def Args.ds : EReal :=
  SC * (A.p b i h j * ((∑ d, A.g (ix4 b i h d) * A.c (ix3 b j d)) * A.gs (ix2 b i) * A.cs (ix2 b j) - A.delta b i h))

/-- Column `k` of the dequantized key `j`: the latent columns, then the rope columns. -/
def Args.key (k : Fin 576) : EReal :=
  if hk : k.val < 512 then A.c (ix3 b j ⟨k.val, hk⟩) * A.cs (ix2 b j) else A.kr (ix3 b j ⟨k.val - 512, by omega⟩)

/-- The query gradient. -/
def Args.dq (k : Fin 576) : EReal := ∑ j, A.ds b i h j * A.key b j k

/-- The gradient of key `j`'s column `k` through the scores. -/
def Args.dk (k : Fin 576) : EReal := ∑ i, ∑ h, A.ds b i h j * (A.q (ix4 b i h k) * A.qs (ix3 b i h))

/-- The latent key gradient: through the scores and through the values. -/
def Args.dc (d : Fin 512) : EReal := A.dk b j (lat d) + ∑ i, ∑ h, A.p b i h j * (A.g (ix4 b i h d) * A.gs (ix2 b i))

/-- The rope key gradient. -/
def Args.dkr (e : Fin 64) : EReal := A.dk b j (rope e)

variable {A} in
/-- The kernel's probability of a row and key of the arguments carries the gradient's scale as a factor. -/
theorem prob_eq (hA : A.Scaled) :
    prob ⟨fun k => A.q (ix4 b i h k), fun d => A.g (ix4 b i h d), fun d => A.o (ix4 b i h d), A.qs (ix3 b i h) * L2E,
        (A.lse (ix3 b i h) - Ideal.log (A.gs (ix2 b i))) * L2E, A.qs (ix3 b i h), Ideal.div 1 (A.qs (ix3 b i h)), i.val⟩
      ⟨fun d => A.c (ix3 b j d), fun e => Ideal.div (A.kr (ix3 b j e)) (A.cs (ix2 b j)), j.val⟩ (A.cs (ix2 b j) * SC)
      = A.p b i h j * A.gs (ix2 b i) := by
  unfold prob Args.p
  dsimp only
  split
  · show Ideal.exp2 _ = _
    have e : (∑ d, Ideal.div (A.kr (ix3 b j d)) (A.cs (ix2 b j)) * A.q (ix4 b i h (rope d)))
        = (∑ e, A.q (ix4 b i h (rope e)) * A.kr (ix3 b j e)) * (A.cs (ix2 b j))⁻¹ := by
      rw [(hA.cs b j).inv.sum_mul]
      refine Finset.sum_congr rfl fun d _ => ?_
      rw [(hA.cs b j).div]
      ac_rfl
    rw [e, prob_law (hA.cs b j) (hA.qs b i h) (hA.gs b i)]
    unfold Args.score
    simp only [mul_comm (A.c _)]
  · rw [zero_mul]

variable {A} in
/-- The kernel's score gradient carries the row's scale as a factor. -/
theorem dsc_eq (hA : A.Scaled) :
    dsc ⟨fun k => A.q (ix4 b i h k), fun d => A.g (ix4 b i h d), fun d => A.o (ix4 b i h d), A.qs (ix3 b i h) * L2E,
        (A.lse (ix3 b i h) - Ideal.log (A.gs (ix2 b i))) * L2E, A.qs (ix3 b i h), Ideal.div 1 (A.qs (ix3 b i h)), i.val⟩
      ⟨fun d => A.c (ix3 b j d), fun e => Ideal.div (A.kr (ix3 b j e)) (A.cs (ix2 b j)), j.val⟩ (A.cs (ix2 b j) * SC)
      = A.ds b i h j * A.qs (ix3 b i h) := by
  unfold dsc
  rw [prob_eq b i h j hA]
  unfold dscOf Row.del Args.ds
  dsimp only
  rw [ds_law (hA.gs b i)]
  have e : A.delta b i h = (∑ d, A.g (ix4 b i h d) * A.o (ix4 b i h d)) * A.gs (ix2 b i) := by
    rw [(hA.gs b i).sum_mul]
    exact Finset.sum_congr rfl fun d _ => mul_right_comm _ _ _
  rw [e]
  simp only [mul_comm (A.c _)]

end Cert.KernelIdeal.Hand
end
-- ==== Proof.Rows.lean ====
module

public import proofs.«01_k».proof.Proof.Entry
public import proofs.«01_k».proof.Proof.Spec

/-! # A grid point's rows and keys, in the arguments

Row `r` of point `t` is a position and a head of the point's batch entry; its probabilities and score gradients are those of
the plain gradient, up to the factors the kernel carries. -/

@[expose] public section

set_option maxRecDepth 16384

noncomputable section

namespace Cert.KernelIdeal.Hand

open Idealize.ShloMosaic Idealize.ShloMosaic.TcCoe Idealize.SL.Sem
open Cert.KernelIdeal Cert.KernelIdeal.Gen

variable (m : (ℓ : Loc nD τ sig) → Buf (Elt Ideal) ℓ)

/-- The launch's arguments. -/
def argsOf (c : Dev nD) : Args := ⟨aQ m c, aQs m c, aC m c, aCs m c, aKr m c, aO m c, aLse m c, aG m c, aGs m c⟩

/-- The position of row `r` of point `t`. -/
abbrev rpos (t : Fin cfg0.N) (r : Fin 4096) : Fin 640 := posOf (arrRow t r)
/-- The head of row `r` of point `t`. -/
abbrev rhead (t : Fin cfg0.N) (r : Fin 4096) : Fin 32 := headOf (arrRow t r)

theorem tpos_row (t : Fin cfg0.N) (r : Fin 4096) : tpos (arrTile t (tileOf r)) (laneOf r) = rpos t r :=
  Fin.ext (by show (t.val % 5 * 16 + r.val / 256) * 8 + r.val % 256 / 32 = (t.val % 5 * 4096 + r.val) / 32; omega)
theorem thead_row (t : Fin cfg0.N) (r : Fin 4096) : thead (laneOf r) = rhead t r :=
  Fin.ext (by show r.val % 256 % 32 = (t.val % 5 * 4096 + r.val) % 32; omega)

/-- The queries of row `r`. -/
theorem pt_q (c : Dev nD) (t : Fin cfg0.N) (r : Fin 4096) (k : Fin 576) :
    (ptAt m c t).q (ix3 0 r k) = (argsOf m c).q (ix4 (batchOf t) (rpos t r) (rhead t r) k) :=
  (iblk0_apply m c t r k).trans (entry_q m c _ _ k)

/-- The output gradients of row `r`. -/
theorem pt_g (c : Dev nD) (t : Fin cfg0.N) (r : Fin 4096) (k : Fin 512) :
    (ptAt m c t).g (ix3 0 r k) = (argsOf m c).g (ix4 (batchOf t) (rpos t r) (rhead t r) k) :=
  (iblk1_apply m c t r k).trans (entry_g m c _ _ k)

/-- The forward outputs of row `r`. -/
theorem pt_o (c : Dev nD) (t : Fin cfg0.N) (r : Fin 4096) (k : Fin 512) :
    (ptAt m c t).o (ix3 0 r k) = (argsOf m c).o (ix4 (batchOf t) (rpos t r) (rhead t r) k) :=
  (iblk2_apply m c t r k).trans (entry_o m c _ _ k)

theorem pt_rp0 (c : Dev nD) (t : Fin cfg0.N) (r : Fin 4096) :
    (ptAt m c t).rp (ix4 0 (tileOf r) 0 (laneOf r)) = (argsOf m c).qs (ix3 (batchOf t) (rpos t r) (rhead t r)) :=
  (iblk3_apply m c t (tileOf r) 0 (laneOf r)).trans ((entry_rp0 m c _ _ _).trans (by rw [tpos_row, thead_row t]; rfl))
theorem pt_rp1 (c : Dev nD) (t : Fin cfg0.N) (r : Fin 4096) :
    (ptAt m c t).rp (ix4 0 (tileOf r) 1 (laneOf r)) = (argsOf m c).lse (ix3 (batchOf t) (rpos t r) (rhead t r))
      - Ideal.log ((argsOf m c).gs (ix2 (batchOf t) (rpos t r))) :=
  (iblk3_apply m c t (tileOf r) 1 (laneOf r)).trans ((entry_rp1 m c _ _ _).trans (by rw [tpos_row, thead_row t]; rfl))
theorem pt_rp2 (c : Dev nD) (t : Fin cfg0.N) (r : Fin 4096) :
    (ptAt m c t).rp (ix4 0 (tileOf r) 2 (laneOf r)) = (argsOf m c).qs (ix3 (batchOf t) (rpos t r) (rhead t r)) :=
  (iblk3_apply m c t (tileOf r) 2 (laneOf r)).trans ((entry_rp2 m c _ _ _).trans (by rw [tpos_row, thead_row t]; rfl))
theorem pt_rp3 (c : Dev nD) (t : Fin cfg0.N) (r : Fin 4096) :
    (ptAt m c t).rp (ix4 0 (tileOf r) 3 (laneOf r)) = Ideal.div 1 ((argsOf m c).qs (ix3 (batchOf t) (rpos t r) (rhead t r))) :=
  (iblk3_apply m c t (tileOf r) 3 (laneOf r)).trans ((entry_rp3 m c _ _ _).trans (by rw [tpos_row, thead_row t]; rfl))

/-- Row `r` of point `t`, in the arguments. -/
theorem pt_row (c : Dev nD) (t : Fin cfg0.N) (r : Fin 4096) :
    (ptAt m c t).row r = ⟨fun k => (argsOf m c).q (ix4 (batchOf t) (rpos t r) (rhead t r) k),
      fun d => (argsOf m c).g (ix4 (batchOf t) (rpos t r) (rhead t r) d),
      fun d => (argsOf m c).o (ix4 (batchOf t) (rpos t r) (rhead t r) d),
      (argsOf m c).qs (ix3 (batchOf t) (rpos t r) (rhead t r)) * L2E,
      ((argsOf m c).lse (ix3 (batchOf t) (rpos t r) (rhead t r)) - Ideal.log ((argsOf m c).gs (ix2 (batchOf t) (rpos t r)))) * L2E,
      (argsOf m c).qs (ix3 (batchOf t) (rpos t r) (rhead t r)),
      Ideal.div 1 ((argsOf m c).qs (ix3 (batchOf t) (rpos t r) (rhead t r))), (rpos t r).val⟩ := by
  unfold Pt.row
  simp only [pt_q, pt_g, pt_o, pt_rp0, pt_rp1, pt_rp2, pt_rp3]
  congr 1
  show 128 * (t.val % 5) + r.val / 32 = (t.val % 5 * 4096 + r.val) / 32
  omega

/-- The keys' scales at point `t`. -/
theorem pt_csblk (c : Dev nD) (t : Fin cfg0.N) (j : Fin 640) :
    (iblk m c 5 t : FVec Ideal S1x640x1 .f32) (ix3 0 j 0) = (argsOf m c).cs (ix2 (batchOf t) j) :=
  (iblk5_apply m c t j 0).trans (entry_cs m c _ _)
theorem pt_c (c : Dev nD) (t : Fin cfg0.N) (j : Fin 640) (d : Fin 512) :
    (iblk m c 4 t : FVec Ideal S1x640x512 .fp8e4m3) (ix3 0 j d) = (argsOf m c).c (ix3 (batchOf t) j d) :=
  (iblk4_apply m c t j d).trans (congrFun (V_main_arg2 m c) _)
theorem pt_krblk (c : Dev nD) (t : Fin cfg0.N) (j : Fin 640) (d : Fin 64) :
    (iblk m c 6 t : FVec Ideal S1x640x64 .bf16) (ix3 0 j d) = (argsOf m c).kr (ix3 (batchOf t) j d) :=
  (iblk6_apply m c t j d).trans (congrFun (V_main_arg4 m c) _)

/-- Key `j` of point `t`, in the arguments. -/
theorem pt_key (c : Dev nD) (t : Fin cfg0.N) (j : Fin 640) :
    (ptAt m c t).key j = ⟨fun d => (argsOf m c).c (ix3 (batchOf t) j d),
      fun e => Ideal.div ((argsOf m c).kr (ix3 (batchOf t) j e)) ((argsOf m c).cs (ix2 (batchOf t) j)), j.val⟩ := by
  unfold Pt.key
  congr 1
  · exact funext fun d => pt_c m c t j d
  · exact funext fun e => congrArg₂ Ideal.div (pt_krblk m c t j e) (pt_csblk m c t j)

theorem pt_cs (c : Dev nD) (t : Fin cfg0.N) (j : Fin 640) (l : Fin 128) :
    (ptAt m c t).cs (ix2 j l) = (argsOf m c).cs (ix2 (batchOf t) j) * SC :=
  congrArg (· * SC) (pt_csblk m c t j)

/-- The transposed keys at point `t`. -/
theorem pt_kt (c : Dev nD) (t : Fin cfg0.N) (k : Fin 576) (j : Fin 640) :
    (ptAt m c t).kt (ix2 k j) = (argsOf m c).key (batchOf t) j k := by
  show ktOf (iblk m c 4 t) (iblk m c 5 t) (iblk m c 6 t) (ix2 k j) = _
  unfold ktOf Args.key
  by_cases hk : k.val < 512
  · rw [dif_pos hk, dif_pos (show ((ix2 k j : S576x640.Idx) 0).val < 512 from hk)]
    exact congrArg₂ (· * ·) (pt_c m c t j ⟨k.val, hk⟩) (pt_csblk m c t j)
  · rw [dif_neg hk, dif_neg (show ¬ ((ix2 k j : S576x640.Idx) 0).val < 512 from hk)]
    exact pt_krblk m c t j ⟨k.val - 512, by omega⟩

variable {m} in
/-- The probabilities at point `t`. -/
theorem pt_p (c : Dev nD) (hA : (argsOf m c).Scaled) (t : Fin cfg0.N) (r : Fin 4096) (j : Fin 640) :
    (ptAt m c t).p r j = (argsOf m c).p (batchOf t) (rpos t r) (rhead t r) j * (argsOf m c).gs (ix2 (batchOf t) (rpos t r)) := by
  unfold Pt.p
  rw [pt_row, pt_key, pt_cs]
  exact prob_eq _ _ _ _ hA

variable {m} in
/-- The score gradients at point `t`. -/
theorem pt_ds (c : Dev nD) (hA : (argsOf m c).Scaled) (t : Fin cfg0.N) (r : Fin 4096) (j : Fin 640) :
    (ptAt m c t).ds r j
      = (argsOf m c).ds (batchOf t) (rpos t r) (rhead t r) j * (argsOf m c).qs (ix3 (batchOf t) (rpos t r) (rhead t r)) := by
  unfold Pt.ds
  rw [pt_row, pt_key, pt_cs]
  exact dsc_eq _ _ _ _ hA

variable {m} in
/-- The query gradient at point `t` is the plain one of the point's rows. -/
theorem pt_dq (c : Dev nD) (hA : (argsOf m c).Scaled) (t : Fin cfg0.N) (r : Fin 4096) (k : Fin 576) :
    (ptAt m c t).dq (ix3 0 r k) = (argsOf m c).dq (batchOf t) (rpos t r) (rhead t r) k := by
  show (∑ j, (ptAt m c t).kt (ix2 k j) * (ptAt m c t).ds r j) * (ptAt m c t).rp (ix4 0 (tileOf r) 3 (laneOf r)) = _
  have hq := hA.qs (batchOf t) (rpos t r) (rhead t r)
  rw [pt_rp3, hq.div, one_mul, hq.inv.sum_mul]
  unfold Args.dq
  refine Finset.sum_congr rfl fun j _ => ?_
  rw [pt_kt, pt_ds c hA, ← mul_assoc, mul_assoc _ _ (_⁻¹), hq.mul_inv, mul_one, mul_comm]

/-- A sum over `a * n` numbers, `n` at a time. -/
theorem sum_grid (F : ℕ → EReal) (a n : ℕ) :
    ∑ x ∈ Finset.range (a * n), F x = ∑ i ∈ Finset.range a, ∑ j ∈ Finset.range n, F (i * n + j) := by
  induction a with
  | zero => simp
  | succ a ih => rw [Nat.succ_mul, Finset.sum_range_add, ih, Finset.sum_range_succ]

/-- The query blocks of a batch entry and their rows, together, run through all positions and heads. -/
theorem sum_rows (f : Fin 640 → Fin 32 → EReal) (b : Fin 3) :
    ∑ s ∈ Finset.range 5, ∑ k ∈ Finset.range 16, ∑ r : Fin 256,
        f (rpos (pidx (b.val * 5 + s)) (rowAt k r)) (rhead (pidx (b.val * 5 + s)) (rowAt k r)) = ∑ i, ∑ h, f i h := by
  let F : ℕ → EReal := fun n => f ⟨n / 32 % 640, Nat.mod_lt _ (by decide)⟩ ⟨n % 32, Nat.mod_lt _ (by decide)⟩
  have hl : ∀ s ∈ Finset.range 5, ∀ k ∈ Finset.range 16, ∀ r : Fin 256,
      f (rpos (pidx (b.val * 5 + s)) (rowAt k r)) (rhead (pidx (b.val * 5 + s)) (rowAt k r)) = F (s * 4096 + (k * 256 + r.val)) := by
    intro s hs k hk r
    have hs := Finset.mem_range.mp hs
    have hk := Finset.mem_range.mp hk
    have e : (arrRow (pidx (b.val * 5 + s)) (rowAt k r)).val = s * 4096 + (k * 256 + r.val) := by
      show (b.val * 5 + s) % 15 % 5 * 4096 + (rowAt k r).val = _
      rw [rowAt_val hk]
      have := b.isLt
      omega
    refine congrArg₂ f (Fin.ext ?_) (Fin.ext ?_)
    · show (arrRow _ _).val / 32 = (s * 4096 + (k * 256 + r.val)) / 32 % 640
      rw [e]; omega
    · show (arrRow _ _).val % 32 = (s * 4096 + (k * 256 + r.val)) % 32
      rw [e]
  have hr : ∀ (i : Fin 640) (h : Fin 32), f i h = F (i.val * 32 + h.val) := by
    intro i h
    refine congrArg₂ f (Fin.ext ?_) (Fin.ext ?_)
    · show i.val = (i.val * 32 + h.val) / 32 % 640; omega
    · show h.val = (i.val * 32 + h.val) % 32; omega
  calc _ = ∑ s ∈ Finset.range 5, ∑ k ∈ Finset.range 16, ∑ r ∈ Finset.range 256, F (s * 4096 + (k * 256 + r)) :=
        Finset.sum_congr rfl fun s hs => Finset.sum_congr rfl fun k hk => by
          rw [Finset.sum_range]; exact Finset.sum_congr rfl fun r _ => hl s hs k hk r
    _ = ∑ s ∈ Finset.range 5, ∑ x ∈ Finset.range 4096, F (s * 4096 + x) :=
        Finset.sum_congr rfl fun s _ => (sum_grid (fun x => F (s * 4096 + x)) 16 256).symm
    _ = ∑ x ∈ Finset.range 20480, F x := (sum_grid F 5 4096).symm
    _ = ∑ i ∈ Finset.range 640, ∑ h ∈ Finset.range 32, F (i * 32 + h) := sum_grid F 640 32
    _ = _ := by
        rw [Finset.sum_range]
        refine Finset.sum_congr rfl fun i _ => ?_
        rw [Finset.sum_range]
        exact Finset.sum_congr rfl fun h _ => (hr i h).symm

variable {m} in
/-- The latent key gradient, summed over a batch entry's points, is the plain one. -/
theorem pts_dc (c : Dev nD) (hA : (argsOf m c).Scaled) (b : Fin 3) (j : Fin 640) (d : Fin 512) :
    ∑ s ∈ Finset.range 5, (ptAt m c (pidx (b.val * 5 + s))).dcAll (ix3 0 j d) = (argsOf m c).dc b j d := by
  unfold Args.dc Args.dk
  rw [← Finset.sum_add_distrib]
  simp only [← Finset.sum_add_distrib]
  rw [← sum_rows (fun i h => (argsOf m c).ds b i h j * ((argsOf m c).q (ix4 b i h (lat d)) * (argsOf m c).qs (ix3 b i h))
    + (argsOf m c).p b i h j * ((argsOf m c).g (ix4 b i h d) * (argsOf m c).gs (ix2 b i))) b]
  refine Finset.sum_congr rfl fun s hs => ?_
  have hs := Finset.mem_range.mp hs
  have hb : batchOf (pidx (b.val * 5 + s)) = b := Fin.ext (by show (b.val * 5 + s) % 15 / 5 = b.val; have := b.isLt; omega)
  refine Finset.sum_congr rfl fun k _ => ?_
  show ∑ r, _ * _ + ∑ r, _ * _ = _
  rw [← Finset.sum_add_distrib]
  refine Finset.sum_congr rfl fun r _ => ?_
  show (ptAt m c _).ds (rowAt k r) j * (ptAt m c _).q (ix3 0 (rowAt k r) (lat d))
    + (ptAt m c _).p (rowAt k r) j * (ptAt m c _).g (ix3 0 (rowAt k r) d) = _
  rw [pt_ds c hA, pt_p c hA, pt_q, pt_g, hb]
  congr 1 <;> ac_rfl

variable {m} in
/-- The rope key gradient, summed over a batch entry's points, is the plain one. -/
theorem pts_dkr (c : Dev nD) (hA : (argsOf m c).Scaled) (b : Fin 3) (j : Fin 640) (e : Fin 64) :
    ∑ s ∈ Finset.range 5, (ptAt m c (pidx (b.val * 5 + s))).dkrAll (ix3 0 j e) = (argsOf m c).dkr b j e := by
  unfold Args.dkr Args.dk
  rw [← sum_rows (fun i h => (argsOf m c).ds b i h j * ((argsOf m c).q (ix4 b i h (rope e)) * (argsOf m c).qs (ix3 b i h))) b]
  refine Finset.sum_congr rfl fun s hs => ?_
  have hs := Finset.mem_range.mp hs
  have hb : batchOf (pidx (b.val * 5 + s)) = b := Fin.ext (by show (b.val * 5 + s) % 15 / 5 = b.val; have := b.isLt; omega)
  refine Finset.sum_congr rfl fun k _ => Finset.sum_congr rfl fun r _ => ?_
  show (ptAt m c _).ds (rowAt k r) j * (ptAt m c _).q (ix3 0 (rowAt k r) (rope e)) = _
  rw [pt_ds c hA, pt_q, hb]
  ac_rfl

end Cert.KernelIdeal.Hand
end
-- ==== Proof.Final.lean ====
module

public import proofs.«01_k».proof.Proof.Dats
public import proofs.«01_k».proof.Proof.Rows

/-! # The kernel's results

What the three result arrays hold when the kernel is done: the plain gradient of the arguments. -/

@[expose] public section

set_option maxRecDepth 16384

noncomputable section

namespace Cert.KernelIdeal.Hand

open Idealize.ShloMosaic Idealize.ShloMosaic.TcCoe Idealize.SL.Sem
open Idealize.ShloMosaic.Pipeline (Dat)
open Cert.KernelIdeal Cert.KernelIdeal.Gen

variable {m : (ℓ : Loc nD τ sig) → Buf (Elt Ideal) ℓ}

/-- The query gradient's array: row by row. -/
def dqArr (A : Args) : FVec Ideal S3x20480x576 .bf16 := fun i => A.dq (i 0) (posOf (i 1)) (headOf (i 1)) (i 2)
/-- The latent key gradient's array. -/
def dcArr (A : Args) : FVec Ideal S3x640x512 .f32 := fun i => A.dc (i 0) (i 1) (i 2)
/-- The rope key gradient's array. -/
def dkrArr (A : Args) : FVec Ideal S3x640x64 .f32 := fun i => A.dkr (i 0) (i 1) (i 2)

/-- The query gradient of point `t` is the array's at the point's rows. -/
theorem dq_at (c : Dev nD) (hA : (argsOf m c).Scaled) (t : Fin cfg0.N) (r : Fin 4096) (k : Fin 576) :
    (ptAt m c t).dq (ix3 0 r k) = dqArr (argsOf m c) (ix3 (batchOf t) (arrRow t r) k) := pt_dq c hA t r k

/-- After a batch entry's last point the accumulated latent key gradient is the entry's. -/
theorem dc_at (c : Dev nD) (hA : (argsOf m c).Scaled) (t : Fin cfg0.N) (h : t.val % 5 = 4) (j : Fin 640) (d : Fin 512) :
    accC m c t (ix3 0 j d) = dcArr (argsOf m c) (ix3 (batchOf t) j d) := by
  refine Eq.trans ?_ (pts_dc c hA (batchOf t) j d)
  unfold accC
  rw [h]

/-- After a batch entry's last point the accumulated rope key gradient is the entry's. -/
theorem dkr_at (c : Dev nD) (hA : (argsOf m c).Scaled) (t : Fin cfg0.N) (h : t.val % 5 = 4) (j : Fin 640) (e : Fin 64) :
    accR m c t (ix3 0 j e) = dkrArr (argsOf m c) (ix3 (batchOf t) j e) := by
  refine Eq.trans ?_ (pts_dkr c hA (batchOf t) j e)
  unfold accR
  rw [h]

/-- The query gradient the kernel leaves. -/
theorem final_dq (c : Dev nD) (hA : (argsOf m c).Scaled) : (dats m 0 c).arrAt 7 (cfgs 0).N = dqArr (argsOf m c) := by
  generalize hG : dqArr (argsOf m c) = G
  refine (dats m 0 c).arrAt_eq_of_covers 7 _ (by decide +kernel) fun t _ y => ?_
  blk_simp
  rw [after0_7]
  idx_vars y
  rw [Subsingleton.elim y0 0]
  refine ((dq_at c hA t y1 y2).trans (congrFun hG _)).trans ?_
  blk_ext [idx t]

/-- The latent key gradient the kernel leaves. -/
theorem final_dc (c : Dev nD) (hA : (argsOf m c).Scaled) : (dats m 0 c).arrAt 8 (cfgs 0).N = dcArr (argsOf m c) := by
  generalize hG : dcArr (argsOf m c) = G
  refine (dats m 0 c).arrAt_eq_of_covers 8 _ (by decide +kernel) fun t hf y => ?_
  have h4 := (flush0_8 t).mp hf
  blk_simp
  rw [after0_8]
  idx_vars y
  rw [Subsingleton.elim y0 0]
  refine ((dc_at c hA t h4 y1 y2).trans (congrFun hG _)).trans ?_
  blk_ext [idx t]

/-- The rope key gradient the kernel leaves. -/
theorem final_dkr (c : Dev nD) (hA : (argsOf m c).Scaled) : (dats m 0 c).arrAt 9 (cfgs 0).N = dkrArr (argsOf m c) := by
  generalize hG : dkrArr (argsOf m c) = G
  refine (dats m 0 c).arrAt_eq_of_covers 9 _ (by decide +kernel) fun t hf y => ?_
  have h4 := (flush0_9 t).mp hf
  blk_simp
  rw [after0_9]
  idx_vars y
  rw [Subsingleton.elim y0 0]
  refine ((dkr_at c hA t h4 y1 y2).trans (congrFun hG _)).trans ?_
  blk_ext [idx t]

end Cert.KernelIdeal.Hand
end
-- ==== Proof.KernelRun.lean ====
module

public import proofs.«01_k».proof.Proof.Final

/-! # What the kernel computes

With positive scales the kernel ends with the plain gradient's three arrays of its arguments. -/

@[expose] public section

set_option maxRecDepth 16384

noncomputable section

namespace Cert.KernelIdeal.Hand

open Idealize.ShloMosaic Idealize.ShloMosaic.TcCoe Idealize.SL.Sem
open Cert.KernelIdeal Cert.KernelIdeal.Gen

variable (m : (ℓ : Loc nD τ sig) → Buf (Elt Ideal) ℓ)

/-- The kernel ends with the plain gradient of its arguments. -/
theorem kernel_results (hA : ∀ c, (argsOf m c).Scaled) (ρ : Dev nD → PrngReg) :
    θ_run defs (onTc (τ := τ) (main (F := Ideal))) ⟨m, fun _ => 0, ρ⟩ fun r => ∀ c : Dev nD,
      r.2.mem ((c.tc : Thread nD τ).loc main_v22_0) = dqArr (argsOf m c)
      ∧ r.2.mem ((c.tc : Thread nD τ).loc main_v22_1) = dcArr (argsOf m c)
      ∧ r.2.mem ((c.tc : Thread nD τ).loc main_v22_2) = dkrArr (argsOf m c) :=
  (θ_run defs _ _).mono (fun _ h c => ⟨((h c).1 7).trans (final_dq c (hA c)), ((h c).1 8).trans (final_dc c (hA c)),
    ((h c).1 9).trans (final_dkr c (hA c))⟩) (run_main m ρ)

/-- The kernel ends with the plain gradient of its arguments, and its arguments unchanged. -/
theorem kernel_run (hA : ∀ c, (argsOf m c).Scaled) (ρ : Dev nD → PrngReg) :
    θ_run defs (onTc (τ := τ) (main (F := Ideal))) ⟨m, fun _ => 0, ρ⟩ fun r => ∀ c : Dev nD,
      r.2.mem ((c.tc : Thread nD τ).loc main_v22_0) = dqArr (argsOf m c)
      ∧ r.2.mem ((c.tc : Thread nD τ).loc main_v22_1) = dcArr (argsOf m c)
      ∧ r.2.mem ((c.tc : Thread nD τ).loc main_v22_2) = dkrArr (argsOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h.1 c).1, (h.1 c).2.1, (h.1 c).2.2, h.2.1 c⟩)
    (θ_run_and (kernel_results m hA ρ) (frame m ρ))

end Cert.KernelIdeal.Hand
end
-- ==== Proof.RefRow.lean ====
module

public import proofs.«01_k».proof.Proof.Gen.ReferenceIdeal.Read
public import proofs.«01_k».proof.Proof.Spec
public import Idealize.ShloMosaic.Lib.IdealHost

/-! # The reference's intermediate arrays

Entry by entry, the reference's scores, probabilities and score gradients are the plain gradient's. -/

@[expose] public section

set_option maxRecDepth 16384

noncomputable section

namespace Cert.ReferenceIdeal.Hand

open Idealize.ShloMosaic Idealize.ShloMosaic.TcCoe Idealize.SL.Sem
open Cert.ReferenceIdeal Cert.ReferenceIdeal.Gen Cert.ReferenceIdeal.Read
open Cert.KernelIdeal.Hand (Args lat rope SC)

variable (x1 : FVec Ideal S3x640x32 .f32) (x3 : FVec Ideal S3x640 .f32) (x4 : FVec Ideal S3x640x64 .bf16)
  (x5 : FVec Ideal S3x640x32x512 .bf16) (x6 : FVec Ideal S3x640x32 .f32) (x8 : FVec Ideal S3x640 .f32)
  (r0 : FVec Ideal S3x640x32x576 .bf16) (r1 : FVec Ideal S3x640x512 .bf16) (r2 : FVec Ideal S3x640x32x512 .bf16)

/-- The arguments, from the reference's arrays. -/
def refArgs : Args := ⟨r0, x1, r1, x3, x4, x5, x6, r2, x8⟩

variable (b : Fin 3) (i : Fin 640) (h : Fin 32) (j : Fin 640)

/-- A position's word, read back. -/
theorem toInt_pos (i : Fin 640) : (BitVec.ofNat 32 i.val).toInt = (i.val : ℤ) := by
  rw [BitVec.toInt_eq_toNat_of_lt] <;> rw [BitVec.toNat_ofNat, Nat.mod_eq_of_lt (by omega)]
  omega

theorem r_v4 (d : Fin 512) : val_main_v4 (F := Ideal) x3 r1 (ix3 b j d) = r1 (ix3 b j d) * x3 (ix2 b j) := by
  pointwise [val_main_v4, val_main_v3, val_main_v2, val_main_v1]

theorem r_v9 (k : Fin 576) : val_main_v9 (F := Ideal) x1 r0 (ix4 b i h k) = r0 (ix4 b i h k) * x1 (ix3 b i h) := by
  pointwise [val_main_v9, val_main_v8, val_main_v7, val_main_v6]

theorem r_v13 (d : Fin 512) : val_main_v13 (F := Ideal) x8 r2 (ix4 b i h d) = r2 (ix4 b i h d) * x8 (ix2 b i) := by
  pointwise [val_main_v13, val_main_v12, val_main_v11, val_main_v10]

theorem r_v23 : val_main_v23 (F := Ideal) r0 r1 (ix4 b i h j) = ∑ d, r0 (ix4 b i h (lat d)) * r1 (ix3 b j d) := by
  pointwise [val_main_v23, val_main_v22]

theorem r_v30 : val_main_v30 (F := Ideal) x4 r0 (ix4 b i h j) = ∑ e, r0 (ix4 b i h (rope e)) * x4 (ix3 b j e) := by
  pointwise [val_main_v30, val_main_v29]

theorem r_v46 : val_main_v46 (F := Ideal) r1 r2 (ix4 b i h j) = ∑ d, r2 (ix4 b i h d) * r1 (ix3 b j d) := by
  pointwise [val_main_v46]

theorem r_v27 : val_main_v27 (F := Ideal) x3 (ix4 b i h j) = x3 (ix2 b j) := by
  pointwise [val_main_v27, val_main_v21]

theorem r_v50 : val_main_v50 (F := Ideal) x3 (ix4 b i h j) = x3 (ix2 b j) := by
  pointwise [val_main_v50, val_main_v21]

theorem r_v25 : val_main_v25 (F := Ideal) x1 (ix4 b i h j) = x1 (ix3 b i h) := by
  pointwise [val_main_v25, val_main_v24]

theorem r_v32 : val_main_v32 (F := Ideal) x1 (ix4 b i h j) = x1 (ix3 b i h) := by
  pointwise [val_main_v32, val_main_v31]

theorem r_v41 : val_main_v41 (F := Ideal) x6 (ix4 b i h j) = x6 (ix3 b i h) := by
  pointwise [val_main_v41, val_main_v40]

theorem r_v48 : val_main_v48 (F := Ideal) x8 (ix4 b i h j) = x8 (ix2 b i) := by
  pointwise [val_main_v48, val_main_v47]

theorem r_v35 : val_main_v35 (F := Ideal) (ix4 b i h j) = SC := by
  pointwise [val_main_v35, val_main_cst_0]

theorem r_v56 : val_main_v56 (F := Ideal) (ix4 b i h j) = SC := by
  pointwise [val_main_v56, val_main_cst_2]

theorem r_v44 : val_main_v44 (F := Ideal) (ix4 b i h j) = (0 : EReal) := by
  pointwise [val_main_v44, val_main_cst_1]

theorem r_v39 : val_main_v39 (F := Ideal) (ix4 b i h j) = 1#1 ↔ j.val ≤ i.val := by
  pointwise [val_main_v39, val_main_v38, val_main_v37]
  rw [IntOp.cmpi_sle, toInt_pos, toInt_pos, Int.ofNat_le]

theorem r_v53 : val_main_v53 (F := Ideal) x5 x8 r2 (ix4 b i h j) = ∑ d, r2 (ix4 b i h d) * x8 (ix2 b i) * x5 (ix4 b i h d) := by
  pointwise [val_main_v53, val_main_v52, val_main_v20, val_main_v19, val_main_v18, val_main_v17, val_main_v16, val_main_v15, val_main_v14, val_main_cst, r_v13]

/-- The reference's scores. -/
theorem r_score : val_main_v36 (F := Ideal) x1 x3 x4 r0 r1 (ix4 b i h j) = (refArgs x1 x3 x4 x5 x6 x8 r0 r1 r2).score b i h j := by
  rw [val_main_v36_apply, val_main_v34_apply, val_main_v28_apply, val_main_v26_apply, val_main_v33_apply,
    r_v35, r_v23, r_v25, r_v27, r_v30, r_v32]
  rfl

/-- The reference's probabilities. -/
theorem r_p : val_main_v45 (F := Ideal) x1 x3 x4 x6 r0 r1 (ix4 b i h j) = (refArgs x1 x3 x4 x5 x6 x8 r0 r1 r2).p b i h j := by
  rw [val_main_v45_apply, val_main_v43_apply, val_main_v42_apply, r_v41, r_v44, r_score x1 x3 x4 x5 x6 x8 r0 r1 r2]
  unfold Args.p
  show (if val_main_v39 (F := Ideal) (ix4 b i h j) = 1#1 then _ else _) = _
  by_cases hj : j.val ≤ i.val
  · rw [if_pos ((r_v39 b i h j).2 hj), if_pos hj]
    rfl
  · rw [if_neg (fun e => hj ((r_v39 b i h j).1 e)), if_neg hj]

/-- The reference's score gradients. -/
theorem r_ds : val_main_v58 (F := Ideal) x1 x3 x4 x5 x6 x8 r0 r1 r2 (ix4 b i h j) = (refArgs x1 x3 x4 x5 x6 x8 r0 r1 r2).ds b i h j := by
  rw [val_main_v58_apply, val_main_v57_apply, val_main_v55_apply, val_main_v54_apply, val_main_v51_apply, val_main_v49_apply,
    r_v56, r_p x1 x3 x4 x5 x6 x8 r0 r1 r2, r_v46, r_v48, r_v50, r_v53]
  rfl

end Cert.ReferenceIdeal.Hand
end
-- ==== Proof.RefValue.lean ====
module

public import proofs.«01_k».proof.Proof.RefRow
public import proofs.«01_k».proof.Proof.Final

/-! # The reference's results

The reference's three results are the plain gradient's arrays. -/

@[expose] public section

set_option maxRecDepth 16384

noncomputable section

namespace Cert.ReferenceIdeal.Hand

open Idealize.ShloMosaic Idealize.ShloMosaic.TcCoe Idealize.SL.Sem
open Cert.ReferenceIdeal Cert.ReferenceIdeal.Gen Cert.ReferenceIdeal.Read
open Cert.KernelIdeal.Hand (Args lat rope SC posOf headOf dqArr dcArr dkrArr)

variable (x1 : FVec Ideal S3x640x32 .f32) (x3 : FVec Ideal S3x640 .f32) (x4 : FVec Ideal S3x640x64 .bf16)
  (x5 : FVec Ideal S3x640x32x512 .bf16) (x6 : FVec Ideal S3x640x32 .f32) (x8 : FVec Ideal S3x640 .f32)
  (r0 : FVec Ideal S3x640x32x576 .bf16) (r1 : FVec Ideal S3x640x512 .bf16) (r2 : FVec Ideal S3x640x32x512 .bf16)
  (b : Fin 3)

/-- The dequantized keys. -/
theorem r_key (j : Fin 640) (k : Fin 576) :
    val_main_v5 (F := Ideal) x3 x4 r1 (ix3 b j k) = (refArgs x1 x3 x4 x5 x6 x8 r0 r1 r2).key b j k := by
  unfold val_main_v5 Args.key
  split
  · rename_i hk
    refine (concatenate_pair_apply_left (t := S3x640x576) (s₁ := S3x640x512) (s₂ := S3x640x64) 2 _ _ _ (ix3 b j k) rfl (ix3 b j ⟨k.val, hk⟩) ?_).trans
      (r_v4 x3 r1 b j ⟨k.val, hk⟩)
    intro a
    match a with
    | ⟨0, _⟩ => rfl
    | ⟨1, _⟩ => rfl
    | ⟨2, _⟩ => rfl
  · rename_i hk
    refine concatenate_pair_apply_right (t := S3x640x576) (s₁ := S3x640x512) (s₂ := S3x640x64) 2 _ _ _ (ix3 b j k) rfl rfl
      (ix3 b j (⟨k.val - 512, by omega⟩ : Fin 64)) ?_ ?_
    · intro a ha
      match a, ha with
      | ⟨0, _⟩, _ => rfl
      | ⟨1, _⟩, _ => rfl
      | ⟨2, _⟩, ha => exact absurd rfl ha
    · show k.val - 512 + 512 = k.val
      omega

/-- The sum over positions and heads the score gradients make with an array of rows. -/
theorem r_dk (j : Fin 640) (k : Fin 576) :
    val_main_v61 (F := Ideal) x1 x3 x4 x5 x6 x8 r0 r1 r2 (ix3 b j k) = (refArgs x1 x3 x4 x5 x6 x8 r0 r1 r2).dk b j k := by
  unfold Args.dk
  rw [Finset.sum_comm]
  pointwise [val_main_v61, r_ds, r_v9]
  rfl

/-- The sum over positions and heads the probabilities make with the output gradient. -/
theorem r_dv (j : Fin 640) (d : Fin 512) :
    val_main_v63 (F := Ideal) x1 x3 x4 x6 x8 r0 r1 r2 (ix3 b j d)
      = ∑ i, ∑ h, (refArgs x1 x3 x4 x5 x6 x8 r0 r1 r2).p b i h j * (r2 (ix4 b i h d) * x8 (ix2 b i)) := by
  rw [Finset.sum_comm]
  pointwise [val_main_v63, val_main_v62, r_p x1 x3 x4 x5 x6 x8 r0 r1 r2, r_v13]

/-- The reference's query gradient. -/
theorem ref_dq : val_main_v67 (F := Ideal) x1 x3 x4 x5 x6 x8 r0 r1 r2 = dqArr (refArgs x1 x3 x4 x5 x6 x8 r0 r1 r2) := by
  funext i
  idx_vars i
  pointwise [val_main_v67, val_main_v60, val_main_v59, r_ds, r_key x1 x3 x4 x5 x6 x8 r0 r1 r2]
  rfl

/-- The reference's latent key gradient. -/
theorem ref_dc : val_main_v65 (F := Ideal) x1 x3 x4 x5 x6 x8 r0 r1 r2 = dcArr (refArgs x1 x3 x4 x5 x6 x8 r0 r1 r2) := by
  funext i
  idx_vars i
  pointwise [val_main_v65, val_main_v64, r_dk, r_dv x1 x3 x4 x5 x6 x8 r0 r1 r2]
  rfl

/-- The reference's rope key gradient. -/
theorem ref_dkr : val_main_v66 (F := Ideal) x1 x3 x4 x5 x6 x8 r0 r1 r2 = dkrArr (refArgs x1 x3 x4 x5 x6 x8 r0 r1 r2) := by
  funext i
  idx_vars i
  pointwise [val_main_v66, r_dk]
  rfl

end Cert.ReferenceIdeal.Hand
end
-- ==== Proof.RefRegion.lean ====
module

public import proofs.«01_k».proof.Proof.Gen.ReferenceIdeal.Run
public import Idealize.ShloMosaic.Lib.Pipeline.ValueKit
public import Idealize.ShloMosaic.Lib.IdealHost
public import Idealize.ShloMosaic.Lib.Claim

/-! # The reference's widened codes

The reference first widens the three arrays of codes; over the exact numbers this leaves the codes themselves. -/

@[expose] public section

set_option maxRecDepth 16384

noncomputable section

namespace Cert.ReferenceIdeal.Hand

open Idealize.ShloMosaic Idealize.ShloMosaic.TcCoe Idealize.SL.Sem
open Cert.ReferenceIdeal Cert.ReferenceIdeal.Gen Cert.ReferenceIdeal.Value

variable (m : (ℓ : Loc nD τ sig) → Buf (Elt Ideal) ℓ)

/-- The widening's blocks are the whole arrays. -/
theorem blk0 (a : Fin 4) : win0_0.index t0_0 a = 0 := by revert a; decide +kernel
theorem blk1 (a : Fin 3) : win0_1.index t0_0 a = 0 := by revert a; decide +kernel
theorem blk2 (a : Fin 4) : win0_2.index t0_0 a = 0 := by revert a; decide +kernel

/-- The widened query codes. -/
theorem reg_q (c : Dev nD) : reg_main_v0_0 m c = m ((c : Thread nD τ).loc main_arg0) := by
  unfold reg_main_v0_0
  refine (dats m 0 c).arrAt_eq_of_after_last 3 t0_0 (by decide +kernel) _ fun j => ?_
  blk_simp
  rw [after0_3]
  frame_out
  blk_point [iblk, V]
  all_goals simp only [blk0, zero_mul, zero_add]

/-- The widened latent codes. -/
theorem reg_c (c : Dev nD) : reg_main_v0_1 m c = m ((c : Thread nD τ).loc main_arg2) := by
  unfold reg_main_v0_1
  refine (dats m 0 c).arrAt_eq_of_after_last 4 t0_0 (by decide +kernel) _ fun j => ?_
  blk_simp
  rw [after0_4]
  frame_out
  blk_point [iblk, V]
  all_goals simp only [blk1, zero_mul, zero_add]

/-- The widened codes of the output gradient. -/
theorem reg_g (c : Dev nD) : reg_main_v0_2 m c = m ((c : Thread nD τ).loc main_arg7) := by
  unfold reg_main_v0_2
  refine (dats m 0 c).arrAt_eq_of_after_last 5 t0_0 (by decide +kernel) _ fun j => ?_
  blk_simp
  rw [after0_5]
  frame_out
  blk_point [iblk, V]
  all_goals simp only [blk2, zero_mul, zero_add]

end Cert.ReferenceIdeal.Hand
end
-- ==== Proof.RefRun.lean ====
module

public import proofs.«01_k».proof.Proof.RefValue
public import proofs.«01_k».proof.Proof.RefRegion

/-! # What the reference computes

The reference ends with the plain gradient's three arrays of its arguments. -/

@[expose] public section

set_option maxRecDepth 16384

noncomputable section

namespace Cert.ReferenceIdeal.Hand

open Idealize.ShloMosaic Idealize.ShloMosaic.TcCoe Idealize.SL.Sem
open Cert.ReferenceIdeal Cert.ReferenceIdeal.Gen Cert.ReferenceIdeal.Read Cert.ReferenceIdeal.Value
open Cert.KernelIdeal.Hand (Args dqArr dcArr dkrArr)

variable (m : (ℓ : Loc nD τ sig) → Buf (Elt Ideal) ℓ)

/-- The reference's arguments. -/
def refOf (c : Dev nD) : Args :=
  refArgs (m ((c : Thread nD τ).loc main_arg1)) (m ((c : Thread nD τ).loc main_arg3)) (m ((c : Thread nD τ).loc main_arg4))
    (m ((c : Thread nD τ).loc main_arg5)) (m ((c : Thread nD τ).loc main_arg6)) (m ((c : Thread nD τ).loc main_arg8))
    (m ((c : Thread nD τ).loc main_arg0)) (m ((c : Thread nD τ).loc main_arg2)) (m ((c : Thread nD τ).loc main_arg7))

/-- The reference's query gradient, from its arguments. -/
theorem fin_dq (c : Dev nD) :
    val_main_v67 (F := Ideal) (exitV m c (Proc.devRef .tc main_arg1)) (exitV m c (Proc.devRef .tc main_arg3)) (exitV m c (Proc.devRef .tc main_arg4))
      (exitV m c (Proc.devRef .tc main_arg5)) (exitV m c (Proc.devRef .tc main_arg6)) (exitV m c (Proc.devRef .tc main_arg8))
      (exitV m c (Proc.devRef .tc main_v0_0)) (exitV m c (Proc.devRef .tc main_v0_1)) (exitV m c (Proc.devRef .tc main_v0_2))
      = dqArr (refOf m c) := by
  rw [exit_main_arg1, exit_main_arg3, exit_main_arg4, exit_main_arg5, exit_main_arg6, exit_main_arg8, exit_main_v0_0, exit_main_v0_1,
    exit_main_v0_2, reg_q, reg_c, reg_g]
  exact ref_dq _ _ _ _ _ _ _ _ _

/-- The reference's latent key gradient, from its arguments. -/
theorem fin_dc (c : Dev nD) :
    val_main_v65 (F := Ideal) (exitV m c (Proc.devRef .tc main_arg1)) (exitV m c (Proc.devRef .tc main_arg3)) (exitV m c (Proc.devRef .tc main_arg4))
      (exitV m c (Proc.devRef .tc main_arg5)) (exitV m c (Proc.devRef .tc main_arg6)) (exitV m c (Proc.devRef .tc main_arg8))
      (exitV m c (Proc.devRef .tc main_v0_0)) (exitV m c (Proc.devRef .tc main_v0_1)) (exitV m c (Proc.devRef .tc main_v0_2))
      = dcArr (refOf m c) := by
  rw [exit_main_arg1, exit_main_arg3, exit_main_arg4, exit_main_arg5, exit_main_arg6, exit_main_arg8, exit_main_v0_0, exit_main_v0_1,
    exit_main_v0_2, reg_q, reg_c, reg_g]
  exact ref_dc _ _ _ _ _ _ _ _ _

/-- The reference's rope key gradient, from its arguments. -/
theorem fin_dkr (c : Dev nD) :
    val_main_v66 (F := Ideal) (exitV m c (Proc.devRef .tc main_arg1)) (exitV m c (Proc.devRef .tc main_arg3)) (exitV m c (Proc.devRef .tc main_arg4))
      (exitV m c (Proc.devRef .tc main_arg5)) (exitV m c (Proc.devRef .tc main_arg6)) (exitV m c (Proc.devRef .tc main_arg8))
      (exitV m c (Proc.devRef .tc main_v0_0)) (exitV m c (Proc.devRef .tc main_v0_1)) (exitV m c (Proc.devRef .tc main_v0_2))
      = dkrArr (refOf m c) := by
  rw [exit_main_arg1, exit_main_arg3, exit_main_arg4, exit_main_arg5, exit_main_arg6, exit_main_arg8, exit_main_v0_0, exit_main_v0_1,
    exit_main_v0_2, reg_q, reg_c, reg_g]
  exact ref_dkr _ _ _ _ _ _ _ _ _

/-- The reference ends with the plain gradient of its arguments, and its arguments unchanged. -/
theorem ref_run (ρ : Dev nD → PrngReg) :
    θ_run defs (onTc (τ := τ) (main (F := Ideal))) ⟨m, fun _ => 0, ρ⟩ fun r => ∀ c : Dev nD,
      r.2.mem ((c.tc : Thread nD τ).loc main_v67) = dqArr (refOf m c)
      ∧ r.2.mem ((c.tc : Thread nD τ).loc main_v65) = dcArr (refOf m c)
      ∧ r.2.mem ((c.tc : Thread nD τ).loc main_v66) = dkrArr (refOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c).1.trans ((val_main_v67_eq (exitV m c)).trans (fin_dq m c)),
    (h c).2.1.trans ((val_main_v65_eq (exitV m c)).trans (fin_dc m c)),
    (h c).2.2.1.trans ((val_main_v66_eq (exitV m c)).trans (fin_dkr m c)), (h c).2.2.2⟩) (run m ρ)

end Cert.ReferenceIdeal.Hand
end
-- ==== Proof.Scaled.lean ====
module

public import proofs.«01_k».proof.Proof.Rows
public import proofs.«01_k».proof.Defs
public import proofs.«01_k».proof.Proof.Gen.Pre_scales_positive
public import Idealize.ShloMosaic.Lib.ReduceAll

/-! # The scales are positive

What the precondition says of the arguments. -/

@[expose] public section

set_option maxRecDepth 16384

noncomputable section

namespace Cert.KernelIdeal.Hand

open Idealize.ShloMosaic Idealize.ShloMosaic.TcCoe Idealize.SL.Sem

/-- The bits of `+inf` read as the greatest number. -/
theorem inf_eq : Ideal.ofBits .f32 0x7F800000#32 = ⊤ := by
  simp [Ideal.ofBits, Ideal.ieee]

/-- The zero bits read as zero. -/
theorem zero_eq : Ideal.ofBits .f32 0x00000000#32 = 0 := by
  simp [Ideal.ofBits, Ideal.ieee]

/-- The two comparisons the precondition makes of a scale. -/
theorem pos_of_bits (x : EReal)
    (h : IntOp.andi (Ideal.cmp .ogt x (Ideal.ofBits .f32 0x00000000#32)) (Ideal.cmp .olt x (Ideal.ofBits .f32 0x7F800000#32)) = 1#1) :
    Pos x := by
  rw [zero_eq, inf_eq] at h
  obtain ⟨h0, h1⟩ := IntOp.andi_eq_one.1 h
  exact ⟨(Ideal.cmp_ogt_eq_one _ _).1 h0, (Ideal.cmp_olt_eq_one _ _).1 h1⟩

instance : Subsingleton Cert.Pre_scales_positive.S_.Idx := ⟨fun _ _ => funext fun a => a.elim0⟩

/-- Under the precondition every scale is a positive real. -/
theorem scaled_of_pre [hP : Cert.Pre_scales_positive.Facts] (m : (ℓ : Loc Cert.KernelIdeal.nD Cert.KernelIdeal.τ Cert.KernelIdeal.sig) → Buf (Elt Ideal) ℓ)
    (h : Cert.Pre_KernelIdeal_scales_positive m) (c : Dev Cert.KernelIdeal.nD) : (argsOf m c).Scaled := by
  have h := congrFun (h c) (fun a => a.elim0)
  unfold Cert.Pre_scales_positive.fn Cert.Pre_scales_positive.fn_part1 at h
  dsimp only at h
  obtain ⟨h12, h3⟩ := IntOp.andi_eq_one.1 h
  obtain ⟨h1, h2⟩ := IntOp.andi_eq_one.1 h12
  refine ⟨fun b i h => pos_of_bits _ ?_, fun b j => pos_of_bits _ ?_, fun b i => pos_of_bits _ ?_⟩
  · exact Host.reduce_andi_all _ _ _ _ _ h1 (ix3 b i h)
  · exact Host.reduce_andi_all _ _ _ _ _ h2 (ix2 b j)
  · exact Host.reduce_andi_all _ _ _ _ _ h3 (ix2 b i)

end Cert.KernelIdeal.Hand
end
-- ==== Proof.lean ====
/- The proof of the five claims: the two programs' frames and the reference's, that naming the constant changes nothing else,
   and that over the exact numbers the kernel and the reference leave the same three arrays. -/
module

public import proofs.«01_k».proof.Defs
public import proofs.«01_k».proof.Proof.WordFrame
public import proofs.«01_k».proof.Proof.Gen.ReferenceIdeal.Frame
public import proofs.«01_k».proof.Proof.Gen.Pre_scales_positive
public import proofs.«01_k».proof.Proof.KernelRun
public import proofs.«01_k».proof.Proof.RefRun
public import proofs.«01_k».proof.Proof.Scaled
public import Idealize.ShloMosaic.PureOps.IdealRules

@[expose] public section

noncomputable section

namespace Cert.Proof

open Idealize.ShloMosaic Idealize.SL.Sem
open Cert.KernelIdeal.Hand (Args argsOf dqArr dcArr dkrArr kernel_run scaled_of_pre)
open Cert.ReferenceIdeal.Hand (refOf refArgs ref_run)

/-- Equal arrays make equal arguments. -/
theorem args_eq {A B : Args} (h0 : A.q = B.q) (h1 : A.qs = B.qs) (h2 : A.c = B.c) (h3 : A.cs = B.cs) (h4 : A.kr = B.kr) (h5 : A.o = B.o)
    (h6 : A.lse = B.lse) (h7 : A.g = B.g) (h8 : A.gs = B.gs) : A = B := by
  cases A
  cases B
  subst h0 h1 h2 h3 h4 h5 h6 h7 h8
  rfl

/-- The value claim: with positive scales the kernel's three results are the reference's. -/
theorem algebraic : @Cert.algebraic_KernelIdeal_ReferenceIdeal_pre_scales_positive Cert.KernelIdeal.Gen.facts Cert.ReferenceIdeal.Gen.facts
    Cert.Pre_scales_positive.Gen.facts := by
  intro m g m' g' hpre hargs
  have hA : ∀ c, (argsOf m c).Scaled := fun c => scaled_of_pre m hpre c
  have e : ∀ c, refOf m' c = argsOf m c := fun c =>
    have h := hargs c
    args_eq h.1 h.2.1 h.2.2.1 h.2.2.2.1 h.2.2.2.2.1 h.2.2.2.2.2.1 h.2.2.2.2.2.2.1 h.2.2.2.2.2.2.2.1 h.2.2.2.2.2.2.2.2
  refine ⟨fun c => dqArr (argsOf m c), fun c => dcArr (argsOf m c), fun c => dkrArr (argsOf m c), kernel_run m hA g, ?_⟩
  refine (θ_run _ _ _).mono (fun _ h c => ?_) (ref_run m' g')
  exact ⟨(h c).1.trans (congrArg dqArr (e c)), (h c).2.1.trans (congrArg dcArr (e c)), (h c).2.2.1.trans (congrArg dkrArr (e c)), (h c).2.2.2⟩

/-- The claims, together. -/
theorem claim : Cert.Claim :=
  ⟨Cert.Kernel.Gen.facts, Cert.KernelIdeal.Gen.facts, Cert.ReferenceIdeal.Gen.facts, Cert.Pre_scales_positive.Gen.facts,
    fun m ρ _ => Cert.Kernel.Hand.frame m ρ,
    fun m ρ _ => Cert.KernelIdeal.Hand.frame m ρ,
    fun m ρ _ => Cert.KernelIdeal.Hand.frame m ρ,
    fun m ρ _ => Cert.ReferenceIdeal.Gen.frame m ρ,
    fun m ρ _ => Cert.ReferenceIdeal.Gen.frame m ρ,
    IdealRules.named_const.statement Cert.KernelIdeal.κ "log2_e" .f32 0x3FB8AA3B#32 _ rfl,
    algebraic⟩

end Cert.Proof

end
